-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x2048 : Shape := ⟨2, ![4096, 2048]⟩
abbrev S4096x3072 : Shape := ⟨2, ![4096, 3072]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2048 .bf16) (main_arg1 : FVec F S4096x3072 .bf16) (main_arg2 : FVec F S4096x1024 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x3072 .f32 := (extf .f32 · bitsLt_bf16_f32) main_arg1
  let main_v6 : FVec F S4096x3072 .f32 := Host.absf main_v5
  let main_cst_0 : FVec F S_ .f32 := constant S_ .f32 0x7F800000#32
  let main_v7 : FVec F S4096x3072 .f32 := broadcastInDim S4096x3072 ![] bcast_S_S4096x3072 main_cst_0
  let main_v8 : IVec S4096x3072 1 := cmpf .olt main_v6 main_v7
  let main_c_1 : IVec S_ 1 := constantI S_ 1 1#1
  let main_v9 : IVec S_ 1 := (fun x v => Host.reduce IntOp.andi x v reducesTo_S4096x3072_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Kernel.lean ====
abbrev S4096x2048 : Shape := ⟨2, ![4096, 2048]⟩
abbrev S4096x3072 : Shape := ⟨2, ![4096, 3072]⟩
abbrev S4096x1024 : Shape := ⟨2, ![4096, 1024]⟩
abbrev S2x2048x16x128 : Shape := ⟨4, ![2, 2048, 16, 128]⟩
abbrev S2x2048x16x64 : Shape := ⟨4, ![2, 2048, 16, 64]⟩
abbrev S2x16x2048x2048 : Shape := ⟨4, ![2, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x1 : Shape := ⟨4, ![2, 2048, 16, 1]⟩
abbrev S2048x256 : Shape := ⟨2, ![2048, 256]⟩
abbrev S2048x128 : Shape := ⟨2, ![2048, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 47
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x1024, .bf16⟩
  | .hbm, ⟨3, _⟩ => ⟨S4096x2048, .f32⟩
  | .hbm, ⟨4, _⟩ => ⟨S2x2048x16x128, .f32⟩
  | .hbm, ⟨5, _⟩ => ⟨S4096x2048, .bf16⟩
  | .hbm, ⟨6, _⟩ => ⟨S4096x2048, .f32⟩
  | .hbm, ⟨7, _⟩ => ⟨S2x2048x16x128, .f32⟩
  | .hbm, ⟨8, _⟩ => ⟨S4096x1024, .bf16⟩
  | .hbm, ⟨9, _⟩ => ⟨S4096x1024, .f32⟩
  | .hbm, ⟨10, _⟩ => ⟨S2x2048x16x64, .f32⟩
  | .hbm, ⟨11, _⟩ => ⟨S2x16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2x16x2048x2048, .i1⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x64x2048, .f32⟩
  | .hbm, ⟨36, _⟩ => ⟨S2x2048x16x64, .f32⟩
  | .hbm, ⟨37, _⟩ => ⟨S2x16x2048x1, .f32⟩
  | .hbm, ⟨38, _⟩ => ⟨S2x16x2048x1, .f32⟩
  | .hbm, ⟨39, _⟩ => ⟨S2x2048x16x1, .f32⟩
  | .hbm, ⟨40, _⟩ => ⟨S2x2048x16x64, .f32⟩
  | .hbm, ⟨41, _⟩ => ⟨S4096x1024, .f32⟩
  | .hbm, ⟨42, _⟩ => ⟨S4096x1024, .bf16⟩
  | .hbm, ⟨43, _⟩ => ⟨S4096x1024, .f32⟩
  | .hbm, ⟨44, _⟩ => ⟨S4096x2048, .bf16⟩
  | .hbm, ⟨45, _⟩ => ⟨S4096x2048, .bf16⟩
  | .hbm, ⟨46, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x128, .bf16⟩
  | .local _ .vmem, ⟨17, _⟩ => ⟨S2048x128, .bf16⟩
  | .local _ .vmem, ⟨18, _⟩ => ⟨S2048x256, .f32⟩
  | .local _ .vmem, ⟨19, _⟩ => ⟨S2048x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v14 : BitVec 32 := Scalar.muli arg13 c512_i32
  v14
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v14 : BitVec 32 := Scalar.muli arg13 c512_i32
  let v15 : BitVec 32 := v14
  let v16 : Index := Scalar.indexCast v15
  let c0_11 : Index := 0#32
  ![v16.toNat, 0]
@[reducible] def k0_t2_loop : Scf.Loop 32 :=
  let c0_i32_3 : BitVec 32 := 0#32
  let c4_i32_4 : BitVec 32 := 4#32
  let v10 : BitVec 32 := Scalar.addi c0_i32_3 c4_i32_4
  let c1_i32_5 : BitVec 32 := 1#32
  ⟨c0_i32_3, v10, c1_i32_5⟩
def k0_mult2 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  v14
def k0_off2 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v21 : Index := Scalar.indexCast v15
  let c0_12 : Index := 0#32
  ![v21.toNat, 0]
def k0_off3 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v23 : Index := Scalar.indexCast v15
  let c128 : Index := 128#32
  ![v23.toNat, 128]
def k0_off4 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v29 : Index := Scalar.indexCast v15
  let c0_15 : Index := 0#32
  ![v29.toNat, 0]
@[reducible] def k0_t3_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let c1_i32_44 : BitVec 32 := 1#32
  ⟨v105, v110, c1_i32_44⟩
def k0_mult3 (k0_t2 : Fin k0_t2_loop.trips) (k0_t3 : Fin (k0_t3_loop k0_t2).trips) : BitVec 32 :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c1_i32_44 : BitVec 32 := 1#32
  let arg14 : BitVec 32 := Scf.iv v105 c1_i32_44 k0_t3
  let c512_i32_49 : BitVec 32 := 512#32
  let v122 : BitVec 32 := Scalar.muli arg14 c512_i32_49
  v122
def k0_off5 (k0_t2 : Fin k0_t2_loop.trips) (k0_t3 : Fin (k0_t3_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c1_i32_44 : BitVec 32 := 1#32
  let arg14 : BitVec 32 := Scf.iv v105 c1_i32_44 k0_t3
  let c512_i32_49 : BitVec 32 := 512#32
  let v122 : BitVec 32 := Scalar.muli arg14 c512_i32_49
  let v123 : BitVec 32 := v122
  let v124 : Index := Scalar.indexCast v123
  let c0_50 : Index := 0#32
  ![v124.toNat, 0]
def k0_off6 (k0_t2 : Fin k0_t2_loop.trips) (k0_t3 : Fin (k0_t3_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c1_i32_44 : BitVec 32 := 1#32
  let arg14 : BitVec 32 := Scf.iv v105 c1_i32_44 k0_t3
  let c512_i32_49 : BitVec 32 := 512#32
  let v122 : BitVec 32 := Scalar.muli arg14 c512_i32_49
  let v123 : BitVec 32 := v122
  let v126 : Index := Scalar.indexCast v123
  let c128_51 : Index := 128#32
  ![v126.toNat, 128]
def k0_off7 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v128 : Index := Scalar.indexCast v15
  let c0_52 : Index := 0#32
  ![v128.toNat, 0]
def k0_off8 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v130 : Index := Scalar.indexCast v15
  let c128_53 : Index := 128#32
  ![v130.toNat, 128]
def k0_off9 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v132 : Index := Scalar.indexCast v15
  let c0_54 : Index := 0#32
  ![v132.toNat, 0]
def k0_off10 (k0_t2 : Fin k0_t2_loop.trips) (k0_t3 : Fin (k0_t3_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c1_i32_44 : BitVec 32 := 1#32
  let arg14 : BitVec 32 := Scf.iv v105 c1_i32_44 k0_t3
  let c512_i32_49 : BitVec 32 := 512#32
  let v122 : BitVec 32 := Scalar.muli arg14 c512_i32_49
  let v123 : BitVec 32 := v122
  let v142 : Index := Scalar.indexCast v123
  let c0_57 : Index := 0#32
  ![v142.toNat, 0]
@[reducible] def k0_t4_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let v107 : BitVec 32 := Scalar.addi v105 v106
  let c1_i32_45 : BitVec 32 := 1#32
  ⟨v110, v107, c1_i32_45⟩
def k0_mult4 (k0_t2 : Fin k0_t2_loop.trips) (k0_t4 : Fin (k0_t4_loop k0_t2).trips) : BitVec 32 :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let c1_i32_45 : BitVec 32 := 1#32
  let arg14 : BitVec 32 := Scf.iv v110 c1_i32_45 k0_t4
  let c512_i32_49 : BitVec 32 := 512#32
  let v122 : BitVec 32 := Scalar.muli arg14 c512_i32_49
  v122
def k0_off11 (k0_t2 : Fin k0_t2_loop.trips) (k0_t4 : Fin (k0_t4_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let c1_i32_45 : BitVec 32 := 1#32
  let arg14 : BitVec 32 := Scf.iv v110 c1_i32_45 k0_t4
  let c512_i32_49 : BitVec 32 := 512#32
  let v122 : BitVec 32 := Scalar.muli arg14 c512_i32_49
  let v123 : BitVec 32 := v122
  let v124 : Index := Scalar.indexCast v123
  let c0_50 : Index := 0#32
  ![v124.toNat, 0]
def k0_off12 (k0_t2 : Fin k0_t2_loop.trips) (k0_t4 : Fin (k0_t4_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let c1_i32_45 : BitVec 32 := 1#32
  let arg14 : BitVec 32 := Scf.iv v110 c1_i32_45 k0_t4
  let c512_i32_49 : BitVec 32 := 512#32
  let v122 : BitVec 32 := Scalar.muli arg14 c512_i32_49
  let v123 : BitVec 32 := v122
  let v126 : Index := Scalar.indexCast v123
  let c128_51 : Index := 128#32
  ![v126.toNat, 128]
def k0_off13 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v128 : Index := Scalar.indexCast v15
  let c0_52 : Index := 0#32
  ![v128.toNat, 0]
def k0_off14 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v130 : Index := Scalar.indexCast v15
  let c128_53 : Index := 128#32
  ![v130.toNat, 128]
def k0_off15 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let c512_i32 : BitVec 32 := 512#32
  let v14 : BitVec 32 := Scalar.muli arg13 c512_i32
  let v15 : BitVec 32 := v14
  let v132 : Index := Scalar.indexCast v15
  let c0_54 : Index := 0#32
  ![v132.toNat, 0]
def k0_off16 (k0_t2 : Fin k0_t2_loop.trips) (k0_t4 : Fin (k0_t4_loop k0_t2).trips) : Fin 2 → Nat :=
  let c0_i32_3 : BitVec 32 := 0#32
  let c1_i32_5 : BitVec 32 := 1#32
  let arg13 : BitVec 32 := Scf.iv c0_i32_3 c1_i32_5 k0_t2
  let c1_i32_41 : BitVec 32 := 1#32
  let v105 : BitVec 32 := Scalar.addi arg13 c1_i32_41
  let c4_i32_42 : BitVec 32 := 4#32
  let v106 : BitVec 32 := Scalar.subi c4_i32_42 v105
  let c1_i32_43 : BitVec 32 := 1#32
  let v108 : BitVec 32 := Scalar.divsi v106 c1_i32_43
  let v109 : BitVec 32 := Scalar.muli v108 c1_i32_43
  let v110 : BitVec 32 := Scalar.addi v105 v109
  let c1_i32_45 : BitVec 32 := 1#32
  let arg14 : BitVec 32 := Scf.iv v110 c1_i32_45 k0_t4
  let c512_i32_49 : BitVec 32 := 512#32
  let v122 : BitVec 32 := Scalar.muli arg14 c512_i32_49
  let v123 : BitVec 32 := v122
  let v142 : Index := Scalar.indexCast v123
  let c0_57 : Index := 0#32
  ![v142.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x2048 : Shape := ⟨2, ![4096, 2048]⟩
abbrev S4096x3072 : Shape := ⟨2, ![4096, 3072]⟩
abbrev S4096x1024 : Shape := ⟨2, ![4096, 1024]⟩
abbrev S2x2048x16x128 : Shape := ⟨4, ![2, 2048, 16, 128]⟩
abbrev S2x2048x16x64 : Shape := ⟨4, ![2, 2048, 16, 64]⟩
abbrev S2x16x2048x2048 : Shape := ⟨4, ![2, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x128 : Shape := ⟨4, ![2, 16, 2048, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x1024, .bf16⟩
  | .hbm, ⟨3, _⟩ => ⟨S4096x2048, .f32⟩
  | .hbm, ⟨4, _⟩ => ⟨S2x2048x16x128, .f32⟩
  | .hbm, ⟨5, _⟩ => ⟨S4096x2048, .bf16⟩
  | .hbm, ⟨6, _⟩ => ⟨S4096x2048, .f32⟩
  | .hbm, ⟨7, _⟩ => ⟨S2x2048x16x128, .f32⟩
  | .hbm, ⟨8, _⟩ => ⟨S4096x1024, .bf16⟩
  | .hbm, ⟨9, _⟩ => ⟨S4096x1024, .f32⟩
  | .hbm, ⟨10, _⟩ => ⟨S2x2048x16x64, .f32⟩
  | .hbm, ⟨11, _⟩ => ⟨S4096x1024, .f32⟩
  | .hbm, ⟨12, _⟩ => ⟨S2x2048x16x64, .f32⟩
  | .hbm, ⟨13, _⟩ => ⟨S2x16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S2x16x2048x2048, .i1⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .i1⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S_, .f32⟩
  | .hbm, ⟨40, _⟩ => ⟨S2x16x2048, .f32⟩
  | .hbm, ⟨41, _⟩ => ⟨S2x16x2048, .i1⟩
  | .hbm, ⟨42, _⟩ => ⟨S_, .f32⟩
  | .hbm, ⟨43, _⟩ => ⟨S2x16x2048, .f32⟩
  | .hbm, ⟨44, _⟩ => ⟨S2x16x2048, .i1⟩
  | .hbm, ⟨45, _⟩ => ⟨S_, .f32⟩
  | .hbm, ⟨46, _⟩ => ⟨S2x16x2048, .f32⟩
  | .hbm, ⟨47, _⟩ => ⟨S_, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x1, .f32⟩
  | .hbm, ⟨63, _⟩ => ⟨S_, .f32⟩
  | .hbm, ⟨64, _⟩ => ⟨S2x16x2048x1, .f32⟩
  | .hbm, ⟨65, _⟩ => ⟨S2x16x2048x1, .f32⟩
  | .hbm, ⟨66, _⟩ => ⟨S2x16x64x2048, .f32⟩
  | .hbm, ⟨67, _⟩ => ⟨S2x2048x16x64, .f32⟩
  | .hbm, ⟨68, _⟩ => ⟨S2x16x64x2048, .f32⟩
  | .hbm, ⟨69, _⟩ => ⟨S2x16x2048x2048, .f32⟩
  | .hbm, ⟨70, _⟩ => ⟨S2x16x64x2048, .f32⟩
  | .hbm, ⟨71, _⟩ => ⟨S2x2048x16x64, .f32⟩
  | .hbm, ⟨72, _⟩ => ⟨S2x16x2048x2048, .f32⟩
  | .hbm, ⟨73, _⟩ => ⟨S2x16x2048x2048, .f32⟩
  | .hbm, ⟨74, _⟩ => ⟨S2x16x2048x2048, .f32⟩
  | .hbm, ⟨75, _⟩ => ⟨S_, .f32⟩
  | .hbm, ⟨76, _⟩ => ⟨S2x16x2048, .f32⟩
  | .hbm, ⟨77, _⟩ => ⟨S2x16x2048x1, .f32⟩
  | .hbm, ⟨78, _⟩ => ⟨S2x16x2048x1, .f32⟩
  | .hbm, ⟨79, _⟩ => ⟨S2x16x2048x2048, .f32⟩
  | .hbm, ⟨80, _⟩ => ⟨S2x16x2048x2048, .f32⟩
  | .hbm, ⟨81, _⟩ => ⟨S_, .f32⟩
  | .hbm, ⟨82, _⟩ => ⟨S2x16x2048, .f32⟩
  | .hbm, ⟨83, _⟩ => ⟨S2x16x2048x2048, .f32⟩
  | .hbm, ⟨84, _⟩ => ⟨S2x16x2048x2048, .f32⟩
  | .hbm, ⟨85, _⟩ => ⟨S2x16x2048x2048, .f32⟩
  | .hbm, ⟨86, _⟩ => ⟨S_, .f32⟩
  | .hbm, ⟨87, _⟩ => ⟨S2x16x2048x2048, .f32⟩
  | .hbm, ⟨88, _⟩ => ⟨S2x16x2048x2048, .f32⟩
  | .hbm, ⟨89, _⟩ => ⟨S2x16x2048x128, .f32⟩
  | .hbm, ⟨90, _⟩ => ⟨S2x2048x16x128, .f32⟩
  | .hbm, ⟨91, _⟩ => ⟨S2x16x2048x128, .f32⟩
  | .hbm, ⟨92, _⟩ => ⟨S2x2048x16x128, .f32⟩
  | .hbm, ⟨93, _⟩ => ⟨S4096x2048, .f32⟩
  | .hbm, ⟨94, _⟩ => ⟨S4096x2048, .bf16⟩
  | .hbm, ⟨95, _⟩ => ⟨S4096x2048, .f32⟩
  | .hbm, ⟨96, _⟩ => ⟨S4096x2048, .bf16⟩
  | .hbm, ⟨97, _⟩ => ⟨S4096x1024, .f32⟩
  | .hbm, ⟨98, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_call0_v0 : Ref sig .tc := ⟨.hbm, 22, rfl⟩
abbrev main_v18_1 : Ref sig .tc := ⟨.hbm, 23, rfl⟩
abbrev main_call0_v2 : Ref sig .tc := ⟨.hbm, 24, rfl⟩
abbrev main_v18_0 : Ref sig .tc := ⟨.hbm, 25, rfl⟩
abbrev main_call0_cst : Ref sig .tc := ⟨.hbm, 26, rfl⟩
abbrev main_v18_2 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call1_cst : Ref sig .tc := ⟨.hbm, 86, rfl⟩
abbrev main_call1_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel2.lean ====
abbrev S4096x1024 : Shape := ⟨2, ![4096, 1024]⟩
abbrev S8x512x1024 : Shape := ⟨3, ![8, 512, 1024]⟩
abbrev S4096x4096 : Shape := ⟨2, ![4096, 4096]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S8x512x1024 : Shape := ⟨3, ![8, 512, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | .hbm, ⟨2, _⟩ => ⟨S4096x4096, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S8x512x1024 : Shape := ⟨3, ![8, 512, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | .hbm, ⟨14, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x4096 : Shape := ⟨2, ![4096, 4096]⟩
abbrev S8x1024x512 : Shape := ⟨3, ![8, 1024, 512]⟩
abbrev S4096x1024 : Shape := ⟨2, ![4096, 1024]⟩
abbrev S2048x1024 : Shape := ⟨2, ![2048, 1024]⟩
abbrev S2x1024x512 : Shape := ⟨3, ![2, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S4096x4096, .f32⟩
  | .hbm, ⟨5, _⟩ => ⟨S1024x4096, .f32⟩
  | .hbm, ⟨6, _⟩ => ⟨S_, .f32⟩
  | .hbm, ⟨7, _⟩ => ⟨S4096x1024, .f32⟩
  | .hbm, ⟨8, _⟩ => ⟨S4096x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S8x1024x512 : Shape := ⟨3, ![8, 1024, 512]⟩
abbrev S4096x4096 : Shape := ⟨2, ![4096, 4096]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S8x512x1024 : Shape := ⟨3, ![8, 512, 1024]⟩
abbrev S4096x1024 : Shape := ⟨2, ![4096, 1024]⟩
abbrev S2x1x1024 : Shape := ⟨3, ![2, 1, 1024]⟩
abbrev S1024x1024 : Shape := ⟨2, ![1024, 1024]⟩
abbrev S2x512x1024 : Shape := ⟨3, ![2, 512, 1024]⟩
abbrev S1x1x1024 : Shape := ⟨3, ![1, 1, 1024]⟩
abbrev S1024x512 : Shape := ⟨2, ![1024, 512]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S8x512x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4096x4096 : Shape := ⟨2, ![4096, 4096]⟩
abbrev S8x512x1024 : Shape := ⟨3, ![8, 512, 1024]⟩
abbrev S4096x1024 : Shape := ⟨2, ![4096, 1024]⟩
abbrev S2x1x1024 : Shape := ⟨3, ![2, 1, 1024]⟩
abbrev S_ : Shape := ⟨0, ![]⟩
abbrev S2x2048x1024 : Shape := ⟨3, ![2, 2048, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x512x1024, .bf16⟩
  | .hbm, ⟨2, _⟩ => ⟨S4096x1024, .f32⟩
  | .hbm, ⟨3, _⟩ => ⟨S2x1x1024, .f32⟩
  | .hbm, ⟨4, _⟩ => ⟨S4096x1024, .bf16⟩
  | .hbm, ⟨5, _⟩ => ⟨S4096x4096, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x1024 : Shape := ⟨2, ![4096, 1024]⟩
abbrev S1024x1024 : Shape := ⟨2, ![1024, 1024]⟩
abbrev S2x1x1024 : Shape := ⟨3, ![2, 1, 1024]⟩
abbrev S2x2048x1024 : Shape := ⟨3, ![2, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x3072, .f32⟩
  | .hbm, ⟨4, _⟩ => ⟨S1024x3072, .f32⟩
  | .hbm, ⟨5, _⟩ => ⟨S_, .f32⟩
  | .hbm, ⟨6, _⟩ => ⟨S4096x1024, .f32⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x256 : Shape := ⟨2, ![4096, 256]⟩
abbrev S256x3072 : Shape := ⟨2, ![256, 3072]⟩
abbrev S4096x3072 : Shape := ⟨2, ![4096, 3072]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x3072, .bf16⟩
  | .hbm, ⟨2, _⟩ => ⟨S4096x3072, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x256 : Shape := ⟨2, ![4096, 256]⟩
abbrev S256x3072 : Shape := ⟨2, ![256, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x3072, .bf16⟩
  | .hbm, ⟨2, _⟩ => ⟨S4096x256, .f32⟩
  | .hbm, ⟨3, _⟩ => ⟨S256x3072, .f32⟩
  | .hbm, ⟨4, _⟩ => ⟨S4096x3072, .f32⟩
  | .hbm, ⟨5, _⟩ => ⟨S4096x3072, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S1024x512 : Shape := ⟨2, ![1024, 512]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x512, .f32⟩
  | .hbm, ⟨3, _⟩ => ⟨S1024x512, .f32⟩
  | .hbm, ⟨4, _⟩ => ⟨S_, .f32⟩
  | .hbm, ⟨5, _⟩ => ⟨S4096x1024, .f32⟩
  | .hbm, ⟨6, _⟩ => ⟨S4096x512, .f32⟩
  | .hbm, ⟨7, _⟩ => ⟨S4096x1024, .f32⟩
  | .hbm, ⟨8, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .f32⟩
  | .local _ .vmem, ⟨0, _⟩ => ⟨S4096x1024, .bf16⟩
  | .local _ .vmem, ⟨1, _⟩ => ⟨S4096x512, .bf16⟩
  | .local _ .vmem, ⟨2, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x256 : Shape := ⟨2, ![4096, 256]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .f32⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x256 : Shape := ⟨2, ![4096, 256]⟩
abbrev S4096x3072 : Shape := ⟨2, ![4096, 3072]⟩
abbrev S256x3072 : Shape := ⟨2, ![256, 3072]⟩
abbrev S4096x1024 : Shape := ⟨2, ![4096, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x3072, .bf16⟩
  | .hbm, ⟨2, _⟩ => ⟨S256x3072, .f32⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x3072 : Shape := ⟨2, ![4096, 3072]⟩
abbrev S_ : Shape := ⟨0, ![]⟩
abbrev S256x3072 : Shape := ⟨2, ![256, 3072]⟩
abbrev S3072x256 : Shape := ⟨2, ![3072, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x3072, .bf16⟩
  | .hbm, ⟨2, _⟩ => ⟨S4096x256, .f32⟩
  | .hbm, ⟨3, _⟩ => ⟨S4096x3072, .f32⟩
  | .hbm, ⟨4, _⟩ => ⟨S_, .f32⟩
  | .hbm, ⟨5, _⟩ => ⟨S256x3072, .f32⟩
  | .hbm, ⟨6, _⟩ => ⟨S4096x3072, .f32⟩
  | .hbm, ⟨7, _⟩ => ⟨S3072x256, .f32⟩
  | .hbm, ⟨8, _⟩ => ⟨S256x3072, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S4096x2048 : Shape := ⟨2, ![4096, 2048]⟩
abbrev S256x2048 : Shape := ⟨2, ![256, 2048]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x2048, .f32⟩
  | .hbm, ⟨3, _⟩ => ⟨S256x2048, .f32⟩
  | .hbm, ⟨4, _⟩ => ⟨S_, .f32⟩
  | .hbm, ⟨5, _⟩ => ⟨S4096x256, .f32⟩
  | .hbm, ⟨6, _⟩ => ⟨S4096x2048, .f32⟩
  | .hbm, ⟨7, _⟩ => ⟨S4096x256, .f32⟩
  | .hbm, ⟨8, _⟩ => ⟨S4096x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x3072 : Shape := ⟨2, ![4096, 3072]⟩
abbrev S256x3072 : Shape := ⟨2, ![256, 3072]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S256x3072, .bf16⟩
  | .hbm, ⟨2, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x3072 : Shape := ⟨2, ![4096, 3072]⟩
abbrev S256x3072 : Shape := ⟨2, ![256, 3072]⟩
abbrev S_ : Shape := ⟨0, ![]⟩
abbrev S4096x256 : Shape := ⟨2, ![4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S256x3072, .bf16⟩
  | .hbm, ⟨2, _⟩ => ⟨S4096x3072, .f32⟩
  | .hbm, ⟨3, _⟩ => ⟨S256x3072, .f32⟩
  | .hbm, ⟨4, _⟩ => ⟨S_, .f32⟩
  | .hbm, ⟨5, _⟩ => ⟨S4096x256, .f32⟩
  | .hbm, ⟨6, _⟩ => ⟨S4096x3072, .f32⟩
  | .hbm, ⟨7, _⟩ => ⟨S4096x256, .f32⟩
  | .hbm, ⟨8, _⟩ => ⟨S4096x256, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Loops.lean ====
/-
  The outer loop of the gradient kernel (over the key blocks of one head pair), one trip at a symbolic block number.

  A trip does the diagonal tile, then goes through the tiles below it (the inner loops, whose invariants are the generated ones),
  and stores its block of dk and dv. It adds into the accumulator of dq, which it also reads: the pieces it writes are functions
  of the accumulator's contents as the trip finds them.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One trip's resources: the operands it reads at their contents, dk, dv and the accumulator of dq at any. -/
abbrev Trip (c : Dev nD) (arg2 arg3 : Memref sig .tc .vmem S2048x256 .bf16) (arg4 arg6 : Memref sig .tc .vmem S2048x128 .bf16) (arg7 : Memref sig .tc .vmem S2048x128 .f32) (arg9 : Memref sig .tc .vmem S2048x256 .bf16) (arg10 : Memref sig .tc .vmem S2048x128 .bf16) (arg11 : Memref sig .tc .vmem S2048x256 .f32) (arg12 : Memref sig .tc .vmem S2048x128 .f32)
    (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X12 : BufTy.Contents (Elt F) arg12.view.ty)
    (f9 : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7) ∗ (arg12.view.loc (c : Thread nD τ) ↦[arg12.view.set]{fullShare} X12)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11))

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole)
  (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X12 : BufTy.Contents (Elt F) arg12.view.ty)

/-- One trip of the outer loop: the pieces it writes into dk, dv and the accumulator of dq, found by the run. -/
@[irreducible] def trip (k : Fin k0_t2_loop.trips) :
    Σ' (L9 : BufTy.Contents (Elt F) arg11.view.ty → List (View.Piece (Elt F) S2048x256 .bf16))
       (L10 : BufTy.Contents (Elt F) arg11.view.ty → List (View.Piece (Elt F) S2048x128 .bf16)),
      { L11 : BufTy.Contents (Elt F) arg11.view.ty → List (View.Piece (Elt F) S2048x256 .f32) //
        ∀ (f9 : BufTy.Contents (Elt F) arg9.view.ty) (f10 : BufTy.Contents (Elt F) arg10.view.ty) (f11 : BufTy.Contents (Elt F) arg11.view.ty),
        Trip (F := F) c arg2 arg3 arg4 arg6 arg7 arg9 arg10 arg11 arg12 X2 X3 X4 X6 X7 X12 f9 f10 f11
        ⊢ wp frame (wpE (defs₀ (F := F)) Variants.none (c : Thread nD τ) none) Set.univ
            (k0_t2_body (F := F) i arg2 harg2 arg3 harg3 arg4 harg4 arg5 harg5 arg6 harg6 arg7 harg7 arg8 harg8 arg9 harg9 arg10 harg10 arg11 harg11 arg12 harg12 k PUnit.unit)
            (fun _ => Trip (F := F) c arg2 arg3 arg4 arg6 arg7 arg9 arg10 arg11 arg12 X2 X3 X4 X6 X7 X12
              (arg9.view.writes (Elt F) f9 (L9 f11)) (arg10.view.writes (Elt F) f10 (L10 f11)) (arg11.view.writes (Elt F) f11 (L11 f11))) } := by
  refine ⟨?_, ?_, ?_, fun f9 f10 f11 => ?run⟩
  case run =>
    unfold k0_t2_body
    iintro ⟨H2, H3, H4, H6, H7, H12, H9, H10, H11⟩
    sl_exec
    sl_step
    sl_close

/-- The pieces written into dk, dv and the accumulator by the trips before the `k`-th (last first), from the accumulator's
    contents `G` at loop entry. -/
def pieces (G : BufTy.Contents (Elt F) arg11.view.ty) : ℕ → List (View.Piece (Elt F) S2048x256 .bf16) × List (View.Piece (Elt F) S2048x128 .bf16) × List (View.Piece (Elt F) S2048x256 .f32)
  | 0 => ([], [], [])
  | n + 1 =>
    if h : n < k0_t2_loop.trips then
      let k : Fin k0_t2_loop.trips := ⟨n, h⟩
      let f := arg11.view.writes (Elt F) G (pieces G n).2.2
      ((trip (F := F) c i arg2 harg2 arg3 harg3 arg4 harg4 arg5 harg5 arg6 harg6 arg7 harg7 arg8 harg8 arg9 harg9 arg10 harg10 arg11 harg11 arg12 harg12 X2 X3 X4 X6 X7 X12 k).1 f ++ (pieces G n).1, (trip (F := F) c i arg2 harg2 arg3 harg3 arg4 harg4 arg5 harg5 arg6 harg6 arg7 harg7 arg8 harg8 arg9 harg9 arg10 harg10 arg11 harg11 arg12 harg12 X2 X3 X4 X6 X7 X12 k).2.1 f ++ (pieces G n).2.1, (trip (F := F) c i arg2 harg2 arg3 harg3 arg4 harg4 arg5 harg5 arg6 harg6 arg7 harg7 arg8 harg8 arg9 harg9 arg10 harg10 arg11 harg11 arg12 harg12 X2 X3 X4 X6 X7 X12 k).2.2.1 f ++ (pieces G n).2.2)
    else pieces G n

theorem pieces_succ (G : BufTy.Contents (Elt F) arg11.view.ty) (k : Fin k0_t2_loop.trips) :
    pieces (F := F) c i arg2 harg2 arg3 harg3 arg4 harg4 arg5 harg5 arg6 harg6 arg7 harg7 arg8 harg8 arg9 harg9 arg10 harg10 arg11 harg11 arg12 harg12 X2 X3 X4 X6 X7 X12 G (k.val + 1)
      = ((trip (F := F) c i arg2 harg2 arg3 harg3 arg4 harg4 arg5 harg5 arg6 harg6 arg7 harg7 arg8 harg8 arg9 harg9 arg10 harg10 arg11 harg11 arg12 harg12 X2 X3 X4 X6 X7 X12 k).1 (arg11.view.writes (Elt F) G (pieces (F := F) c i arg2 harg2 arg3 harg3 arg4 harg4 arg5 harg5 arg6 harg6 arg7 harg7 arg8 harg8 arg9 harg9 arg10 harg10 arg11 harg11 arg12 harg12 X2 X3 X4 X6 X7 X12 G k.val).2.2) ++ (pieces (F := F) c i arg2 harg2 arg3 harg3 arg4 harg4 arg5 harg5 arg6 harg6 arg7 harg7 arg8 harg8 arg9 harg9 arg10 harg10 arg11 harg11 arg12 harg12 X2 X3 X4 X6 X7 X12 G k.val).1,
         (trip (F := F) c i arg2 harg2 arg3 harg3 arg4 harg4 arg5 harg5 arg6 harg6 arg7 harg7 arg8 harg8 arg9 harg9 arg10 harg10 arg11 harg11 arg12 harg12 X2 X3 X4 X6 X7 X12 k).2.1 (arg11.view.writes (Elt F) G (pieces (F := F) c i arg2 harg2 arg3 harg3 arg4 harg4 arg5 harg5 arg6 harg6 arg7 harg7 arg8 harg8 arg9 harg9 arg10 harg10 arg11 harg11 arg12 harg12 X2 X3 X4 X6 X7 X12 G k.val).2.2) ++ (pieces (F := F) c i arg2 harg2 arg3 harg3 arg4 harg4 arg5 harg5 arg6 harg6 arg7 harg7 arg8 harg8 arg9 harg9 arg10 harg10 arg11 harg11 arg12 harg12 X2 X3 X4 X6 X7 X12 G k.val).2.1,
         (trip (F := F) c i arg2 harg2 arg3 harg3 arg4 harg4 arg5 harg5 arg6 harg6 arg7 harg7 arg8 harg8 arg9 harg9 arg10 harg10 arg11 harg11 arg12 harg12 X2 X3 X4 X6 X7 X12 k).2.2.1 (arg11.view.writes (Elt F) G (pieces (F := F) c i arg2 harg2 arg3 harg3 arg4 harg4 arg5 harg5 arg6 harg6 arg7 harg7 arg8 harg8 arg9 harg9 arg10 harg10 arg11 harg11 arg12 harg12 X2 X3 X4 X6 X7 X12 G k.val).2.2) ++ (pieces (F := F) c i arg2 harg2 arg3 harg3 arg4 harg4 arg5 harg5 arg6 harg6 arg7 harg7 arg8 harg8 arg9 harg9 arg10 harg10 arg11 harg11 arg12 harg12 X2 X3 X4 X6 X7 X12 G k.val).2.2) := by
  rw [pieces.eq_2]; exact dif_pos k.isLt

/-- The invariant before trip `k`: the operands at their contents; dk, dv and the accumulator holding what the trips before `k`
    wrote over their contents at loop entry. -/
abbrev inv (G9 : BufTy.Contents (Elt F) arg9.view.ty) (G10 : BufTy.Contents (Elt F) arg10.view.ty) (G11 : BufTy.Contents (Elt F) arg11.view.ty) (k : ℕ) (_ : Unit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7) ∗ (arg12.view.loc (c : Thread nD τ) ↦[arg12.view.set]{fullShare} X12)
    ∗ (∃ f, (arg9.view.loc (c : Thread nD τ) ↦[arg9.view.set]{fullShare} f) ∗ ⌜f = arg9.view.writes (Elt F) G9 (pieces (F := F) c i arg2 harg2 arg3 harg3 arg4 harg4 arg5 harg5 arg6 harg6 arg7 harg7 arg8 harg8 arg9 harg9 arg10 harg10 arg11 harg11 arg12 harg12 X2 X3 X4 X6 X7 X12 G11 k).1⌝)
    ∗ (∃ f, (arg10.view.loc (c : Thread nD τ) ↦[arg10.view.set]{fullShare} f) ∗ ⌜f = arg10.view.writes (Elt F) G10 (pieces (F := F) c i arg2 harg2 arg3 harg3 arg4 harg4 arg5 harg5 arg6 harg6 arg7 harg7 arg8 harg8 arg9 harg9 arg10 harg10 arg11 harg11 arg12 harg12 X2 X3 X4 X6 X7 X12 G11 k).2.1⌝)
    ∗ (∃ f, (arg11.view.loc (c : Thread nD τ) ↦[arg11.view.set]{fullShare} f) ∗ ⌜f = arg11.view.writes (Elt F) G11 (pieces (F := F) c i arg2 harg2 arg3 harg3 arg4 harg4 arg5 harg5 arg6 harg6 arg7 harg7 arg8 harg8 arg9 harg9 arg10 harg10 arg11 harg11 arg12 harg12 X2 X3 X4 X6 X7 X12 G11 k).2.2⌝))

set_option warn.classDefReducibility false in
/-- The outer loop by its invariant. -/
@[sl_loop] def loopInv_outer (G9 : BufTy.Contents (Elt F) arg9.view.ty) (G10 : BufTy.Contents (Elt F) arg10.view.ty) (G11 : BufTy.Contents (Elt F) arg11.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv := inv (F := F) c i arg2 harg2 arg3 harg3 arg4 harg4 arg5 harg5 arg6 harg6 arg7 harg7 arg8 harg8 arg9 harg9 arg10 harg10 arg11 harg11 arg12 harg12 X2 X3 X4 X6 X7 X12 G9 G10 G11
  step k acc := by
    iintro ⟨H2, H3, H4, H6, H7, H12, ⟨%f9, H9, %h9⟩, ⟨%f10, H10, %h10⟩, ⟨%f11, H11, %h11⟩⟩
    iapply (wp_wand_r Idealize.ShloMosaic.frame (wpE (defs₀ (F := F)) Variants.none (c : Thread nD τ) none) Set.univ)
    isplitl [H2 H3 H4 H6 H7 H12 H9 H10 H11]
    · iapply ((trip (F := F) c i arg2 harg2 arg3 harg3 arg4 harg4 arg5 harg5 arg6 harg6 arg7 harg7 arg8 harg8 arg9 harg9 arg10 harg10 arg11 harg11 arg12 harg12 X2 X3 X4 X6 X7 X12 k).2.2.2 f9 f10 f11)
      isplitl [H2]; · iexact H2
      isplitl [H3]; · iexact H3
      isplitl [H4]; · iexact H4
      isplitl [H6]; · iexact H6
      isplitl [H7]; · iexact H7
      isplitl [H12]; · iexact H12
      isplitl [H9]; · iexact H9
      isplitl [H10]; · iexact H10
      iexact H11
    · iintro %_ ⟨H2, H3, H4, H6, H7, H12, H9, H10, H11⟩
      isplitl [H2]; · iexact H2
      isplitl [H3]; · iexact H3
      isplitl [H4]; · iexact H4
      isplitl [H6]; · iexact H6
      isplitl [H7]; · iexact H7
      isplitl [H12]; · iexact H12
      simp only [pieces_succ]
      isplitl [H9]
      · iexists _; isplitl [H9]; · iexact H9
        ipureintro; rw [h9, h11, ← View.writes_append]
      isplitl [H10]
      · iexists _; isplitl [H10]; · iexact H10
        ipureintro; rw [h10, h11, ← View.writes_append]
      iexists _; isplitl [H11]; · iexact H11
      ipureintro; rw [h11, ← View.writes_append]

end

end Cert.KernelIdeal.Hand

end
-- ==== Proof.Body.lean ====
/-
  The whole body of the gradient kernel at one grid point: the accumulator zeroed, the row sums prepared, the outer loop, the
  accumulator rounded into dq.
-/
module

public import proofs.«01_k».proof.Proof.Loops
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- The body's run: the pieces it writes into dq, dk and dv, as functions of what the row-sum scratch held before. -/
@[irreducible] def bodyRun :
    Σ' (L8 : BufTy.Contents (Elt F) arg12.view.ty → List (View.Piece (Elt F) S2048x256 .bf16)) (L9 : BufTy.Contents (Elt F) arg12.view.ty → List (View.Piece (Elt F) S2048x256 .bf16)),
      { L10 : BufTy.Contents (Elt F) arg12.view.ty → List (View.Piece (Elt F) S2048x128 .bf16) //
        ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
        (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
        ⊢ wp frame (wpE (defs₀ (F := F)) Variants.none (c : Thread nD τ) none) Set.univ
            (cc0_mla_attn_bwd (F := F) i arg2 harg2 arg3 harg3 arg4 harg4 arg5 harg5 arg6 harg6 arg7 harg7 arg8 harg8 arg9 harg9 arg10 harg10 arg11 harg11 arg12 harg12)
            (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) f8 (L8 f12))) ∗ (arg9.view.loc (c : Thread nD τ) ↦[arg9.view.set]{fullShare} (arg9.view.writes (Elt F) f9 (L9 f12)))
              ∗ (arg10.view.loc (c : Thread nD τ) ↦[arg10.view.set]{fullShare} (arg10.view.writes (Elt F) f10 (L10 f12))) ∗ (∃ f, (arg11.view.loc (c : Thread nD τ) ↦[arg11.view.set]{fullShare} f)) ∗ (∃ f, (arg12.view.loc (c : Thread nD τ) ↦[arg12.view.set]{fullShare} f)))) } := by
  refine ⟨?_, ?_, ?_, fun f8 f9 f10 f11 f12 => ?run⟩
  case run =>
    simp only [cc0_mla_attn_bwd_eq_skeleton]; unfold cc0_mla_attn_bwd_skel
    iintro ⟨H2, H3, H4, H5, H6, H7, H8, H9, H10, H11, H12⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12

end

end Cert.KernelIdeal.Hand

end
-- ==== Proof.Lists.lean ====
/-
  What one trip of the outer loop writes, spelled out: the diagonal tile's terms, then the inner loop's.
-/
module

public import proofs.«01_k».proof.Proof.Body

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole)
  (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X12 : BufTy.Contents (Elt F) arg12.view.ty)

/-- The diagonal tile's terms of dv and of the two heads' dk (the last two components are not used). -/
def diag (k : Fin k0_t2_loop.trips) : (FVec F S512x128 .f32 × FVec F S512x128 .f32 × FVec F S512x128 .f32 × FVec F S1x512 .f32 × FVec F S1x512 .f32) :=
  (k0_pay50 k0_pay1 k0_pay2 k0_pay39 (arg2.view.readAt (Elt F) (Rect.unit (s := S2048x256) (k0_off3 k) S512x128.size (k0_off3_inb k)).toLoadRect X2) (arg3.view.readAt (Elt F) (Rect.unit (s := S2048x256) (k0_off3 k) S512x128.size (k0_off3_inb k)).toLoadRect X3) (arg6.view.readAt (Elt F) (Rect.unit (s := S2048x128) (k0_off4 k) S512x128.size (k0_off4_inb k)).toLoadRect X6) (k0_pay41 (arg7.view.readAt (Elt F) (Rect.unit (s := S2048x128) (k0_off4 k) S512x128.size (k0_off4_inb k)).toLoadRect X7)) (k0_pay42 (arg2.view.readAt (Elt F) (Rect.unit (s := S2048x256) (k0_off2 k) S512x128.size (k0_off2_inb k)).toLoadRect X2) (arg3.view.readAt (Elt F) (Rect.unit (s := S2048x256) (k0_off2 k) S512x128.size (k0_off2_inb k)).toLoadRect X3) (arg7.view.readAt (Elt F) (Rect.unit (s := S2048x128) (k0_off4 k) S512x128.size (k0_off4_inb k)).toLoadRect X7)), k0_pay45 (arg2.view.readAt (Elt F) (Rect.unit (s := S2048x256) (k0_off2 k) S512x128.size (k0_off2_inb k)).toLoadRect X2) (k0_pay43 k0_pay1 (arg2.view.readAt (Elt F) (Rect.unit (s := S2048x256) (k0_off2 k) S512x128.size (k0_off2_inb k)).toLoadRect X2) (arg3.view.readAt (Elt F) (Rect.unit (s := S2048x256) (k0_off2 k) S512x128.size (k0_off2_inb k)).toLoadRect X3) (arg4.view.readAt (Elt F) (Rect.unit (s := S2048x128) (k0_off4 k) S512x128.size (k0_off4_inb k)).toLoadRect X4) (arg6.view.readAt (Elt F) (Rect.unit (s := S2048x128) (k0_off4 k) S512x128.size (k0_off4_inb k)).toLoadRect X6) (arg7.view.readAt (Elt F) (Rect.unit (s := S2048x128) (k0_off4 k) S512x128.size (k0_off4_inb k)).toLoadRect X7) (arg12.view.readAt (Elt F) (Rect.unit (s := S2048x128) (k0_off4 k) S512x128.size (k0_off4_inb k)).toLoadRect X12)),
    k0_pay51 k0_pay39 (arg2.view.readAt (Elt F) (Rect.unit (s := S2048x256) (k0_off3 k) S512x128.size (k0_off3_inb k)).toLoadRect X2) (arg3.view.readAt (Elt F) (Rect.unit (s := S2048x256) (k0_off3 k) S512x128.size (k0_off3_inb k)).toLoadRect X3) (k0_pay40 k0_pay2 (arg4.view.readAt (Elt F) (Rect.unit (s := S2048x128) (k0_off4 k) S512x128.size (k0_off4_inb k)).toLoadRect X4)) (arg6.view.readAt (Elt F) (Rect.unit (s := S2048x128) (k0_off4 k) S512x128.size (k0_off4_inb k)).toLoadRect X6) (k0_pay41 (arg7.view.readAt (Elt F) (Rect.unit (s := S2048x128) (k0_off4 k) S512x128.size (k0_off4_inb k)).toLoadRect X7)) (arg12.view.readAt (Elt F) (Rect.unit (s := S2048x128) (k0_off4 k) S512x128.size (k0_off4_inb k)).toLoadRect X12), k0_pay47, k0_pay6)

/-- The diagonal tile's term of head 0's dq, added to what the accumulator held. -/
def diagQ0 (k : Fin k0_t2_loop.trips) (f11 : BufTy.Contents (Elt F) arg11.view.ty) : List (View.Piece (Elt F) S2048x256 .f32) :=
  [⟨(Rect.unit (s := S2048x256) (k0_off2 k) S512x128.size (k0_off2_inb k)), k0_pay46 (arg3.view.readAt (Elt F) (Rect.unit (s := S2048x256) (k0_off2 k) S512x128.size (k0_off2_inb k)).toLoadRect X3) (k0_pay43 k0_pay1 (arg2.view.readAt (Elt F) (Rect.unit (s := S2048x256) (k0_off2 k) S512x128.size (k0_off2_inb k)).toLoadRect X2) (arg3.view.readAt (Elt F) (Rect.unit (s := S2048x256) (k0_off2 k) S512x128.size (k0_off2_inb k)).toLoadRect X3) (arg4.view.readAt (Elt F) (Rect.unit (s := S2048x128) (k0_off4 k) S512x128.size (k0_off4_inb k)).toLoadRect X4) (arg6.view.readAt (Elt F) (Rect.unit (s := S2048x128) (k0_off4 k) S512x128.size (k0_off4_inb k)).toLoadRect X6) (arg7.view.readAt (Elt F) (Rect.unit (s := S2048x128) (k0_off4 k) S512x128.size (k0_off4_inb k)).toLoadRect X7) (arg12.view.readAt (Elt F) (Rect.unit (s := S2048x128) (k0_off4 k) S512x128.size (k0_off4_inb k)).toLoadRect X12)) (arg11.view.readAt (Elt F) (Rect.unit (s := S2048x256) (k0_off2 k) S512x128.size (k0_off2_inb k)).toLoadRect f11)⟩]

/-- The diagonal tile's terms of both heads' dq, added to what the accumulator held. -/
def diagQ (k : Fin k0_t2_loop.trips) (f11 : BufTy.Contents (Elt F) arg11.view.ty) : List (View.Piece (Elt F) S2048x256 .f32) :=
  ⟨(Rect.unit (s := S2048x256) (k0_off3 k) S512x128.size (k0_off3_inb k)), k0_pay5 (k0_pay52 k0_pay39 (arg2.view.readAt (Elt F) (Rect.unit (s := S2048x256) (k0_off3 k) S512x128.size (k0_off3_inb k)).toLoadRect X2) (arg3.view.readAt (Elt F) (Rect.unit (s := S2048x256) (k0_off3 k) S512x128.size (k0_off3_inb k)).toLoadRect X3) (k0_pay40 k0_pay2 (arg4.view.readAt (Elt F) (Rect.unit (s := S2048x128) (k0_off4 k) S512x128.size (k0_off4_inb k)).toLoadRect X4)) (arg6.view.readAt (Elt F) (Rect.unit (s := S2048x128) (k0_off4 k) S512x128.size (k0_off4_inb k)).toLoadRect X6) (k0_pay41 (arg7.view.readAt (Elt F) (Rect.unit (s := S2048x128) (k0_off4 k) S512x128.size (k0_off4_inb k)).toLoadRect X7)) (arg12.view.readAt (Elt F) (Rect.unit (s := S2048x128) (k0_off4 k) S512x128.size (k0_off4_inb k)).toLoadRect X12) (arg11.view.readAt (Elt F) (Rect.unit (s := S2048x256) (k0_off3 k) S512x128.size (k0_off3_inb k)).toLoadRect f11))⟩
    :: diagQ0 (F := F) arg2 arg3 arg4 arg6 arg7 arg11 arg12 X2 X3 X4 X6 X7 X12 k f11

/-- The state of the inner loop of trip `k` after `n` of its trips, from what the diagonal tile left. -/
def inner (k : Fin k0_t2_loop.trips) (f11 : BufTy.Contents (Elt F) arg11.view.ty) (n : ℕ) : (FVec F S512x128 .f32 × FVec F S512x128 .f32 × FVec F S512x128 .f32 × FVec F S1x512 .f32 × FVec F S1x512 .f32) × List (View.Piece (Elt F) S2048x256 .f32) :=
  st_k0_t3 (F := F) Variants.none c none i arg2 harg2 arg3 harg3 arg4 harg4 arg5 harg5 arg6 harg6 arg7 harg7 arg8 harg8 arg9 harg9 arg10 harg10 arg11 harg11 arg12 harg12 k (trip.sl.v14 k) (trip.sl.v105 k) X2 X3 X4 X6 X7 X12
    (arg11.view.writes (Elt F) f11 (diagQ (F := F) arg2 arg3 arg4 arg6 arg7 arg11 arg12 X2 X3 X4 X6 X7 X12 k f11)) (diag (F := F) arg2 arg3 arg4 arg6 arg7 arg12 X2 X3 X4 X6 X7 X12 k) n

theorem t4_none (k : Fin k0_t2_loop.trips) : (k0_t4_loop k).trips = 0 := by
  have h := (k0_t4_abs k).2.1
  omega

theorem st_t4 (k : Fin k0_t2_loop.trips) (a b : BitVec 32) (G : BufTy.Contents (Elt F) arg11.view.ty) (s : (FVec F S512x128 .f32 × FVec F S512x128 .f32 × FVec F S512x128 .f32 × FVec F S1x512 .f32 × FVec F S1x512 .f32)) :
    st_k0_t4 (F := F) Variants.none c none i arg2 harg2 arg3 harg3 arg4 harg4 arg5 harg5 arg6 harg6 arg7 harg7 arg8 harg8 arg9 harg9 arg10 harg10 arg11 harg11 arg12 harg12 k a b X2 X3 X4 X6 X7 X12 G s (k0_t4_loop k).trips = (s, []) := by
  rw [t4_none]; rfl

section
attribute [local irreducible] k0_pay1 k0_pay2 k0_pay5 k0_pay6 k0_pay7 k0_pay8 k0_pay9 k0_pay39 k0_pay40 k0_pay41 k0_pay42 k0_pay43 k0_pay44 k0_pay45 k0_pay46 k0_pay47 k0_pay48 k0_pay49 k0_pay50 k0_pay51 k0_pay52 st_k0_t3

theorem trip_9 (k : Fin k0_t2_loop.trips) (f11 : BufTy.Contents (Elt F) arg11.view.ty) :
    (trip (F := F) c i arg2 harg2 arg3 harg3 arg4 harg4 arg5 harg5 arg6 harg6 arg7 harg7 arg8 harg8 arg9 harg9 arg10 harg10 arg11 harg11 arg12 harg12 X2 X3 X4 X6 X7 X12 k).1 f11 =
      [⟨(Rect.unit (s := S2048x256) (k0_off3 k) S512x128.size (k0_off3_inb k)), k0_pay9 (inner (F := F) c i arg2 harg2 arg3 harg3 arg4 harg4 arg5 harg5 arg6 harg6 arg7 harg7 arg8 harg8 arg9 harg9 arg10 harg10 arg11 harg11 arg12 harg12 X2 X3 X4 X6 X7 X12 k f11 (k0_t3_loop k).trips).1.2.2.1⟩,
       ⟨(Rect.unit (s := S2048x256) (k0_off2 k) S512x128.size (k0_off2_inb k)), k0_pay8 (inner (F := F) c i arg2 harg2 arg3 harg3 arg4 harg4 arg5 harg5 arg6 harg6 arg7 harg7 arg8 harg8 arg9 harg9 arg10 harg10 arg11 harg11 arg12 harg12 X2 X3 X4 X6 X7 X12 k f11 (k0_t3_loop k).trips).1.2.1⟩] := by
  unfold trip inner
  dsimp only
  repeat rw [st_t4]
  dsimp only
  refine congrArg₂ List.cons ?_ (congrArg₂ List.cons ?_ rfl)
  · rfl
  · rfl

theorem trip_10 (k : Fin k0_t2_loop.trips) (f11 : BufTy.Contents (Elt F) arg11.view.ty) :
    (trip (F := F) c i arg2 harg2 arg3 harg3 arg4 harg4 arg5 harg5 arg6 harg6 arg7 harg7 arg8 harg8 arg9 harg9 arg10 harg10 arg11 harg11 arg12 harg12 X2 X3 X4 X6 X7 X12 k).2.1 f11 =
      [⟨(Rect.unit (s := S2048x128) (k0_off4 k) S512x128.size (k0_off4_inb k)), k0_pay7 (inner (F := F) c i arg2 harg2 arg3 harg3 arg4 harg4 arg5 harg5 arg6 harg6 arg7 harg7 arg8 harg8 arg9 harg9 arg10 harg10 arg11 harg11 arg12 harg12 X2 X3 X4 X6 X7 X12 k f11 (k0_t3_loop k).trips).1.1⟩] := by
  unfold trip inner
  dsimp only
  repeat rw [st_t4]
  rfl

theorem trip_11 (k : Fin k0_t2_loop.trips) (f11 : BufTy.Contents (Elt F) arg11.view.ty) :
    (trip (F := F) c i arg2 harg2 arg3 harg3 arg4 harg4 arg5 harg5 arg6 harg6 arg7 harg7 arg8 harg8 arg9 harg9 arg10 harg10 arg11 harg11 arg12 harg12 X2 X3 X4 X6 X7 X12 k).2.2.1 f11 =
      (inner (F := F) c i arg2 harg2 arg3 harg3 arg4 harg4 arg5 harg5 arg6 harg6 arg7 harg7 arg8 harg8 arg9 harg9 arg10 harg10 arg11 harg11 arg12 harg12 X2 X3 X4 X6 X7 X12 k f11 (k0_t3_loop k).trips).2
        ++ diagQ (F := F) arg2 arg3 arg4 arg6 arg7 arg11 arg12 X2 X3 X4 X6 X7 X12 k f11 := by
  unfold trip inner
  dsimp only
  repeat rw [st_t4]
  rfl

end

end

end Cert.KernelIdeal.Hand

end
-- ==== Proof.Cover.lean ====
/-
  What the row-sum loop, one trip of the inner loop and the whole body write, spelled out, and that what the body writes fills its
  outputs whatever the scratch buffers held before.
-/
module

public import proofs.«01_k».proof.Proof.Lists

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem t1_trips : k0_t1_loop.trips = 4 := by decide +kernel
theorem t2_trips : k0_t2_loop.trips = 4 := by decide +kernel
theorem t3_trips : ∀ k : Fin k0_t2_loop.trips, (k0_t3_loop k).trips = 3 - k.val := by decide +kernel

/-- A load of a list of pieces at a place the newest covers. -/
theorem canon_hit {s : Shape} {e : EltTy} {off size : Fin s.rank → ℕ} (off' : Fin s.rank → ℕ) (inb : ∀ a, off a + size a ≤ s.size a)
    (w : (Rect.unit off size inb).shape.Idx → Elt F e) (L : List (View.Piece (Elt F) s e)) (y : s.Idx)
    (x : (Rect.unit off size inb).shape.Idx) (heq : off = off') (hx : ∀ a, (y a).val = off' a + (x a).val) :
    View.canon ((⟨Rect.unit off size inb, w⟩ : View.Piece (Elt F) s e) :: L) y = w x := by
  subst heq
  have hy : (Rect.unit off size inb).emb x = y := funext fun a => Fin.ext (by
    show off a + 1 * (x a).val = (y a).val
    rw [hx a, Nat.one_mul])
  rw [← hy]
  exact View.canon_cons_emb _ w L x

/-- A load of a list of pieces at a place the newest does not cover. -/
theorem canon_miss {s : Shape} {e : EltTy} {off size : Fin s.rank → ℕ} (off' : Fin s.rank → ℕ) (inb : ∀ a, off a + size a ≤ s.size a)
    (w : (Rect.unit off size inb).shape.Idx → Elt F e) (L : List (View.Piece (Elt F) s e)) (y : s.Idx)
    (heq : off = off') (a : Fin s.rank) (ha : (y a).val < off' a ∨ off' a + size a ≤ (y a).val) :
    View.canon ((⟨Rect.unit off size inb, w⟩ : View.Piece (Elt F) s e) :: L) y = View.canon L y := by
  subst heq
  refine View.canon_cons_of_not_mem _ L ?_
  rw [Rect.mem_set_unit]
  intro h
  have := h a
  omega

/-- Contents of a whole buffer are determined by what they read. -/
theorem whole_ext {sp : Space} {s : Shape} {e : EltTy} {M : Memref sig .tc sp s e} (h : M.IsWhole) (f g : BufTy.Contents (Elt F) M.view.ty)
    (hr : M.view.read (Elt F) f = M.view.read (Elt F) g) : f = g := by
  obtain ⟨b, rfl, rfl, rfl, h⟩ := h
  cases h
  exact hr

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

theorem rows_list (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 X5 X6 k
      = [⟨(Rect.unit (s := S2048x128) (k0_off1 k) S512x128.size (k0_off1_inb k)), k0_pay4 (arg6.view.readAt (Elt F) (Rect.unit (s := S2048x128) (k0_off1 k) S512x128.size (k0_off1_inb k)).toLoadRect X6) (arg5.view.readAt (Elt F) (Rect.unit (s := S2048x128) (k0_off1 k) S512x128.size (k0_off1_inb k)).toLoadRect X5)⟩] := by
  unfold tripL_k0_t1 trip_k0_t1
  rfl

theorem pb_step (k : Fin k0_t1_loop.trips) :
    pb_k0_t1 (F := F) Variants.none c none i arg2 harg2 arg3 harg3 arg4 harg4 arg5 harg5 arg6 harg6 arg7 harg7 arg8 harg8 arg9 harg9 arg10 harg10 arg11 harg11 arg12 harg12 X5 X6 (k.val + 1)
      = ⟨(Rect.unit (s := S2048x128) (k0_off1 k) S512x128.size (k0_off1_inb k)), k0_pay4 (arg6.view.readAt (Elt F) (Rect.unit (s := S2048x128) (k0_off1 k) S512x128.size (k0_off1_inb k)).toLoadRect X6) (arg5.view.readAt (Elt F) (Rect.unit (s := S2048x128) (k0_off1 k) S512x128.size (k0_off1_inb k)).toLoadRect X5)⟩
        :: pb_k0_t1 (F := F) Variants.none c none i arg2 harg2 arg3 harg3 arg4 harg4 arg5 harg5 arg6 harg6 arg7 harg7 arg8 harg8 arg9 harg9 arg10 harg10 arg11 harg11 arg12 harg12 X5 X6 k.val := by
  rw [pb_k0_t1_succ, rows_list]; rfl

theorem pb_cover : ∀ (n : ℕ) (hn : n ≤ 4) (y : S2048x128.Idx), (y 0).val < 512 * n →
    ∃ p ∈ pb_k0_t1 (F := F) Variants.none c none i arg2 harg2 arg3 harg3 arg4 harg4 arg5 harg5 arg6 harg6 arg7 harg7 arg8 harg8 arg9 harg9 arg10 harg10 arg11 harg11 arg12 harg12 X5 X6 n, y ∈ p.1.set
  | 0, _, _, h => absurd h (by omega)
  | n + 1, hn, y, h => by
    have hk : n < k0_t1_loop.trips := by rw [t1_trips]; omega
    rw [pb_step (F := F) c i arg2 harg2 arg3 harg3 arg4 harg4 arg5 harg5 arg6 harg6 arg7 harg7 arg8 harg8 arg9 harg9 arg10 harg10 arg11 harg11 arg12 harg12 X5 X6 ⟨n, hk⟩]
    by_cases hy : (y 0).val < 512 * n
    · obtain ⟨p, hp, hy⟩ := pb_cover n (by omega) y hy
      exact ⟨p, List.mem_cons_of_mem _ hp, hy⟩
    · refine ⟨_, List.mem_cons_self, ?_⟩
      rw [Rect.mem_set_unit, k0_off1_eq]
      have h1 := (y 1).isLt
      intro a
      match a with
      | 0 => exact ⟨by show 512 * n ≤ (y 0).val; omega, by show (y 0).val < 512 * n + 512; omega⟩
      | 1 => exact ⟨Nat.zero_le _, by show (y 1).val < 0 + 128; rw [Nat.zero_add]; exact h1⟩

/-- The row sums the first loop leaves in its scratch buffer. -/
def rowSums (f12 : BufTy.Contents (Elt F) arg12.view.ty) : BufTy.Contents (Elt F) arg12.view.ty :=
  arg12.view.writes (Elt F) f12 (pb_k0_t1 (F := F) Variants.none c none i arg2 harg2 arg3 harg3 arg4 harg4 arg5 harg5 arg6 harg6 arg7 harg7 arg8 harg8 arg9 harg9 arg10 harg10 arg11 harg11 arg12 harg12 X5 X6 k0_t1_loop.trips)

theorem rowSums_read (f12 : BufTy.Contents (Elt F) arg12.view.ty) : arg12.view.read (Elt F) (rowSums (F := F) c i arg2 harg2 arg3 harg3 arg4 harg4 arg5 harg5 arg6 harg6 arg7 harg7 arg8 harg8 arg9 harg9 arg10 harg10 arg11 harg11 arg12 harg12 X5 X6 f12)
    = View.canon (pb_k0_t1 (F := F) Variants.none c none i arg2 harg2 arg3 harg3 arg4 harg4 arg5 harg5 arg6 harg6 arg7 harg7 arg8 harg8 arg9 harg9 arg10 harg10 arg11 harg11 arg12 harg12 X5 X6 4) := by
  unfold rowSums
  rw [t1_trips]
  exact View.read_writes_eq_canon _ _ _ fun y => pb_cover (F := F) c i arg2 harg2 arg3 harg3 arg4 harg4 arg5 harg5 arg6 harg6 arg7 harg7 arg8 harg8 arg9 harg9 arg10 harg10 arg11 harg11 arg12 harg12 X5 X6 4 le_rfl y (y 0).isLt

theorem rowSums_indep (f12 g12 : BufTy.Contents (Elt F) arg12.view.ty) : rowSums (F := F) c i arg2 harg2 arg3 harg3 arg4 harg4 arg5 harg5 arg6 harg6 arg7 harg7 arg8 harg8 arg9 harg9 arg10 harg10 arg11 harg11 arg12 harg12 X5 X6 f12 = rowSums (F := F) c i arg2 harg2 arg3 harg3 arg4 harg4 arg5 harg5 arg6 harg6 arg7 harg7 arg8 harg8 arg9 harg9 arg10 harg10 arg11 harg11 arg12 harg12 X5 X6 g12 :=
  whole_ext harg12 _ _ (by rw [rowSums_read, rowSums_read])

/-- The accumulator of dq zeroed. -/
def acc0 : BufTy.Contents (Elt F) arg11.view.ty :=
  arg11.view.writes (Elt F) arg11.view.junk [⟨Rect.unit (s := S2048x256) ![0, 0] S2048x256.size inb_S2048x256_S2048x256_0_0, k0_pay3⟩]

section
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 pieces pb_k0_t1

theorem body_8 (f12 : BufTy.Contents (Elt F) arg12.view.ty) : (bodyRun (F := F) c i arg2 harg2 arg3 harg3 arg4 harg4 arg5 harg5 arg6 harg6 arg7 harg7 arg8 harg8 arg9 harg9 arg10 harg10 arg11 harg11 arg12 harg12 X2 X3 X4 X5 X6 X7).1 f12
    = [⟨Rect.unit (s := S2048x256) ![0, 0] S2048x256.size inb_S2048x256_S2048x256_0_0,
        k0_pay10 (arg11.view.readAt (Elt F) (Rect.unit (s := S2048x256) ![0, 0] S2048x256.size inb_S2048x256_S2048x256_0_0).toLoadRect
          (arg11.view.writes (Elt F) (acc0 arg11) (pieces (F := F) c i arg2 harg2 arg3 harg3 arg4 harg4 arg5 harg5 arg6 harg6 arg7 harg7 arg8 harg8 arg9 harg9 arg10 harg10 arg11 harg11 arg12 harg12 X2 X3 X4 X6 X7 (rowSums (F := F) c i arg2 harg2 arg3 harg3 arg4 harg4 arg5 harg5 arg6 harg6 arg7 harg7 arg8 harg8 arg9 harg9 arg10 harg10 arg11 harg11 arg12 harg12 X5 X6 f12) (acc0 arg11) k0_t2_loop.trips).2.2))⟩] := by
  have hw : ∀ L L' : List (View.Piece (Elt F) S2048x256 .f32), arg11.view.writes (Elt F) (arg11.view.writes (Elt F) arg11.view.junk L') L
      = arg11.view.writes (Elt F) arg11.view.junk (L ++ L') := fun L L' => by rw [← View.writes_append]
  unfold bodyRun acc0
  dsimp only
  rw [hw]
  rfl

theorem body_9 (f12 : BufTy.Contents (Elt F) arg12.view.ty) : (bodyRun (F := F) c i arg2 harg2 arg3 harg3 arg4 harg4 arg5 harg5 arg6 harg6 arg7 harg7 arg8 harg8 arg9 harg9 arg10 harg10 arg11 harg11 arg12 harg12 X2 X3 X4 X5 X6 X7).2.1 f12
    = (pieces (F := F) c i arg2 harg2 arg3 harg3 arg4 harg4 arg5 harg5 arg6 harg6 arg7 harg7 arg8 harg8 arg9 harg9 arg10 harg10 arg11 harg11 arg12 harg12 X2 X3 X4 X6 X7 (rowSums (F := F) c i arg2 harg2 arg3 harg3 arg4 harg4 arg5 harg5 arg6 harg6 arg7 harg7 arg8 harg8 arg9 harg9 arg10 harg10 arg11 harg11 arg12 harg12 X5 X6 f12) (acc0 arg11) k0_t2_loop.trips).1 := by
  unfold bodyRun
  rfl

theorem body_10 (f12 : BufTy.Contents (Elt F) arg12.view.ty) : (bodyRun (F := F) c i arg2 harg2 arg3 harg3 arg4 harg4 arg5 harg5 arg6 harg6 arg7 harg7 arg8 harg8 arg9 harg9 arg10 harg10 arg11 harg11 arg12 harg12 X2 X3 X4 X5 X6 X7).2.2.1 f12
    = (pieces (F := F) c i arg2 harg2 arg3 harg3 arg4 harg4 arg5 harg5 arg6 harg6 arg7 harg7 arg8 harg8 arg9 harg9 arg10 harg10 arg11 harg11 arg12 harg12 X2 X3 X4 X6 X7 (rowSums (F := F) c i arg2 harg2 arg3 harg3 arg4 harg4 arg5 harg5 arg6 harg6 arg7 harg7 arg8 harg8 arg9 harg9 arg10 harg10 arg11 harg11 arg12 harg12 X5 X6 f12) (acc0 arg11) k0_t2_loop.trips).2.1 := by
  unfold bodyRun
  rfl

end

section
variable (X12 : BufTy.Contents (Elt F) arg12.view.ty)
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24

theorem inner_val (k : Fin k0_t2_loop.trips) (a b : BitVec 32) (j : Fin (k0_t3_loop k).trips) (acc : (FVec F S512x128 .f32 × FVec F S512x128 .f32 × FVec F S512x128 .f32 × FVec F S1x512 .f32 × FVec F S1x512 .f32)) (f11 : BufTy.Contents (Elt F) arg11.view.ty) :
    tripR_k0_t3 (F := F) Variants.none c none i arg2 harg2 arg3 harg3 arg4 harg4 arg5 harg5 arg6 harg6 arg7 harg7 arg8 harg8 arg9 harg9 arg10 harg10 arg11 harg11 arg12 harg12 k a b X2 X3 X4 X6 X7 X12 j acc f11
      = (k0_pay20 k0_pay2 acc.1 (arg2.view.readAt (Elt F) (Rect.unit (s := S2048x256) (k0_off6 k j) S512x128.size (k0_off6_inb k j)).toLoadRect X2) (arg3.view.readAt (Elt F) (Rect.unit (s := S2048x256) (k0_off8 k) S512x128.size (k0_off8_inb k)).toLoadRect X3) (arg6.view.readAt (Elt F) (Rect.unit (s := S2048x128) (k0_off10 k j) S512x128.size (k0_off10_inb k j)).toLoadRect X6) (k0_pay12 (arg7.view.readAt (Elt F) (Rect.unit (s := S2048x128) (k0_off10 k j) S512x128.size (k0_off10_inb k j)).toLoadRect X7)) (k0_pay15 k0_pay1 (arg2.view.readAt (Elt F) (Rect.unit (s := S2048x256) (k0_off5 k j) S512x128.size (k0_off5_inb k j)).toLoadRect X2) (arg3.view.readAt (Elt F) (Rect.unit (s := S2048x256) (k0_off7 k) S512x128.size (k0_off7_inb k)).toLoadRect X3) (arg6.view.readAt (Elt F) (Rect.unit (s := S2048x128) (k0_off10 k j) S512x128.size (k0_off10_inb k j)).toLoadRect X6) (arg7.view.readAt (Elt F) (Rect.unit (s := S2048x128) (k0_off10 k j) S512x128.size (k0_off10_inb k j)).toLoadRect X7)),
         k0_pay21 acc.2.1 (arg2.view.readAt (Elt F) (Rect.unit (s := S2048x256) (k0_off5 k j) S512x128.size (k0_off5_inb k j)).toLoadRect X2) (k0_pay14 k0_pay1 (arg2.view.readAt (Elt F) (Rect.unit (s := S2048x256) (k0_off5 k j) S512x128.size (k0_off5_inb k j)).toLoadRect X2) (arg3.view.readAt (Elt F) (Rect.unit (s := S2048x256) (k0_off7 k) S512x128.size (k0_off7_inb k)).toLoadRect X3) (arg4.view.readAt (Elt F) (Rect.unit (s := S2048x128) (k0_off9 k) S512x128.size (k0_off9_inb k)).toLoadRect X4) (arg6.view.readAt (Elt F) (Rect.unit (s := S2048x128) (k0_off10 k j) S512x128.size (k0_off10_inb k j)).toLoadRect X6) (arg7.view.readAt (Elt F) (Rect.unit (s := S2048x128) (k0_off10 k j) S512x128.size (k0_off10_inb k j)).toLoadRect X7) (arg12.view.readAt (Elt F) (Rect.unit (s := S2048x128) (k0_off10 k j) S512x128.size (k0_off10_inb k j)).toLoadRect X12)), k0_pay22 acc.2.2.1 (arg2.view.readAt (Elt F) (Rect.unit (s := S2048x256) (k0_off6 k j) S512x128.size (k0_off6_inb k j)).toLoadRect X2) (arg3.view.readAt (Elt F) (Rect.unit (s := S2048x256) (k0_off8 k) S512x128.size (k0_off8_inb k)).toLoadRect X3) (k0_pay11 k0_pay2 (arg4.view.readAt (Elt F) (Rect.unit (s := S2048x128) (k0_off9 k) S512x128.size (k0_off9_inb k)).toLoadRect X4)) (arg6.view.readAt (Elt F) (Rect.unit (s := S2048x128) (k0_off10 k j) S512x128.size (k0_off10_inb k j)).toLoadRect X6) (k0_pay12 (arg7.view.readAt (Elt F) (Rect.unit (s := S2048x128) (k0_off10 k j) S512x128.size (k0_off10_inb k j)).toLoadRect X7)) (arg12.view.readAt (Elt F) (Rect.unit (s := S2048x128) (k0_off10 k j) S512x128.size (k0_off10_inb k j)).toLoadRect X12),
         k0_pay23 acc.2.2.2.1, k0_pay24 acc.2.2.2.2) := by
  unfold tripR_k0_t3 trip_k0_t3
  rfl

theorem inner_list (k : Fin k0_t2_loop.trips) (a b : BitVec 32) (j : Fin (k0_t3_loop k).trips) (acc : (FVec F S512x128 .f32 × FVec F S512x128 .f32 × FVec F S512x128 .f32 × FVec F S1x512 .f32 × FVec F S1x512 .f32)) (f11 : BufTy.Contents (Elt F) arg11.view.ty) :
    tripL_k0_t3 (F := F) Variants.none c none i arg2 harg2 arg3 harg3 arg4 harg4 arg5 harg5 arg6 harg6 arg7 harg7 arg8 harg8 arg9 harg9 arg10 harg10 arg11 harg11 arg12 harg12 k a b X2 X3 X4 X6 X7 X12 j acc f11
      = [⟨(Rect.unit (s := S2048x256) (k0_off6 k j) S512x128.size (k0_off6_inb k j)), k0_pay19 (arg2.view.readAt (Elt F) (Rect.unit (s := S2048x256) (k0_off6 k j) S512x128.size (k0_off6_inb k j)).toLoadRect X2) (arg3.view.readAt (Elt F) (Rect.unit (s := S2048x256) (k0_off8 k) S512x128.size (k0_off8_inb k)).toLoadRect X3) (k0_pay11 k0_pay2 (arg4.view.readAt (Elt F) (Rect.unit (s := S2048x128) (k0_off9 k) S512x128.size (k0_off9_inb k)).toLoadRect X4)) (arg6.view.readAt (Elt F) (Rect.unit (s := S2048x128) (k0_off10 k j) S512x128.size (k0_off10_inb k j)).toLoadRect X6) (k0_pay12 (arg7.view.readAt (Elt F) (Rect.unit (s := S2048x128) (k0_off10 k j) S512x128.size (k0_off10_inb k j)).toLoadRect X7)) (arg12.view.readAt (Elt F) (Rect.unit (s := S2048x128) (k0_off10 k j) S512x128.size (k0_off10_inb k j)).toLoadRect X12) (arg11.view.readAt (Elt F) (Rect.unit (s := S2048x256) (k0_off6 k j) S512x128.size (k0_off6_inb k j)).toLoadRect f11)⟩,
         ⟨(Rect.unit (s := S2048x256) (k0_off5 k j) S512x128.size (k0_off5_inb k j)), k0_pay16 (arg3.view.readAt (Elt F) (Rect.unit (s := S2048x256) (k0_off7 k) S512x128.size (k0_off7_inb k)).toLoadRect X3) (k0_pay14 k0_pay1 (arg2.view.readAt (Elt F) (Rect.unit (s := S2048x256) (k0_off5 k j) S512x128.size (k0_off5_inb k j)).toLoadRect X2) (arg3.view.readAt (Elt F) (Rect.unit (s := S2048x256) (k0_off7 k) S512x128.size (k0_off7_inb k)).toLoadRect X3) (arg4.view.readAt (Elt F) (Rect.unit (s := S2048x128) (k0_off9 k) S512x128.size (k0_off9_inb k)).toLoadRect X4) (arg6.view.readAt (Elt F) (Rect.unit (s := S2048x128) (k0_off10 k j) S512x128.size (k0_off10_inb k j)).toLoadRect X6) (arg7.view.readAt (Elt F) (Rect.unit (s := S2048x128) (k0_off10 k j) S512x128.size (k0_off10_inb k j)).toLoadRect X7) (arg12.view.readAt (Elt F) (Rect.unit (s := S2048x128) (k0_off10 k j) S512x128.size (k0_off10_inb k j)).toLoadRect X12)) (arg11.view.readAt (Elt F) (Rect.unit (s := S2048x256) (k0_off5 k j) S512x128.size (k0_off5_inb k j)).toLoadRect f11)⟩] := by
  unfold tripL_k0_t3 trip_k0_t3
  rfl

end

theorem pieces_cover (X12 : BufTy.Contents (Elt F) arg12.view.ty) (G : BufTy.Contents (Elt F) arg11.view.ty) : ∀ (n : ℕ) (hn : n ≤ 4) (y : S2048x256.Idx), (y 0).val < 512 * n →
    ∃ p ∈ (pieces (F := F) c i arg2 harg2 arg3 harg3 arg4 harg4 arg5 harg5 arg6 harg6 arg7 harg7 arg8 harg8 arg9 harg9 arg10 harg10 arg11 harg11 arg12 harg12 X2 X3 X4 X6 X7 X12 G n).1, y ∈ p.1.set
  | 0, _, _, h => absurd h (by omega)
  | n + 1, hn, y, h => by
    have hk : n < k0_t2_loop.trips := by rw [t2_trips]; omega
    rw [pieces_succ (F := F) c i arg2 harg2 arg3 harg3 arg4 harg4 arg5 harg5 arg6 harg6 arg7 harg7 arg8 harg8 arg9 harg9 arg10 harg10 arg11 harg11 arg12 harg12 X2 X3 X4 X6 X7 X12 G ⟨n, hk⟩, trip_9]
    by_cases hy : (y 0).val < 512 * n
    · obtain ⟨p, hp, hy⟩ := pieces_cover X12 G n (by omega) y hy
      exact ⟨p, List.mem_append_right _ hp, hy⟩
    · have h1 : (y 1).val < 256 := (y 1).isLt
      by_cases hc : (y 1).val < 128
      · refine ⟨_, List.mem_append_left _ (List.mem_cons_of_mem _ List.mem_cons_self), ?_⟩
        rw [Rect.mem_set_unit, k0_off2_eq]
        intro a
        match a with
        | 0 => exact ⟨by show 512 * n ≤ (y 0).val; omega, by show (y 0).val < 512 * n + 512; omega⟩
        | 1 => exact ⟨Nat.zero_le _, by show (y 1).val < 0 + 128; omega⟩
      · refine ⟨_, List.mem_append_left _ List.mem_cons_self, ?_⟩
        rw [Rect.mem_set_unit, k0_off3_eq]
        intro a
        match a with
        | 0 => exact ⟨by show 512 * n ≤ (y 0).val; omega, by show (y 0).val < 512 * n + 512; omega⟩
        | 1 => exact ⟨by show 128 ≤ (y 1).val; omega, by show (y 1).val < 128 + 128; omega⟩

theorem pieces_cover' (X12 : BufTy.Contents (Elt F) arg12.view.ty) (G : BufTy.Contents (Elt F) arg11.view.ty) : ∀ (n : ℕ) (hn : n ≤ 4) (y : S2048x128.Idx), (y 0).val < 512 * n →
    ∃ p ∈ (pieces (F := F) c i arg2 harg2 arg3 harg3 arg4 harg4 arg5 harg5 arg6 harg6 arg7 harg7 arg8 harg8 arg9 harg9 arg10 harg10 arg11 harg11 arg12 harg12 X2 X3 X4 X6 X7 X12 G n).2.1, y ∈ p.1.set
  | 0, _, _, h => absurd h (by omega)
  | n + 1, hn, y, h => by
    have hk : n < k0_t2_loop.trips := by rw [t2_trips]; omega
    rw [pieces_succ (F := F) c i arg2 harg2 arg3 harg3 arg4 harg4 arg5 harg5 arg6 harg6 arg7 harg7 arg8 harg8 arg9 harg9 arg10 harg10 arg11 harg11 arg12 harg12 X2 X3 X4 X6 X7 X12 G ⟨n, hk⟩, trip_10]
    by_cases hy : (y 0).val < 512 * n
    · obtain ⟨p, hp, hy⟩ := pieces_cover' X12 G n (by omega) y hy
      exact ⟨p, List.mem_append_right _ hp, hy⟩
    · refine ⟨_, List.mem_append_left _ List.mem_cons_self, ?_⟩
      rw [Rect.mem_set_unit, k0_off4_eq]
      have h1 : (y 1).val < 128 := (y 1).isLt
      intro a
      match a with
      | 0 => exact ⟨by show 512 * n ≤ (y 0).val; omega, by show (y 0).val < 512 * n + 512; omega⟩
      | 1 => exact ⟨Nat.zero_le _, by show (y 1).val < 0 + 128; omega⟩

/-- What the body leaves in dq, dk and dv. -/
def outQ : S2048x256.Idx → Elt F .bf16 := View.canon ((bodyRun (F := F) c i arg2 harg2 arg3 harg3 arg4 harg4 arg5 harg5 arg6 harg6 arg7 harg7 arg8 harg8 arg9 harg9 arg10 harg10 arg11 harg11 arg12 harg12 X2 X3 X4 X5 X6 X7).1 arg12.view.junk)
def outK : S2048x256.Idx → Elt F .bf16 := View.canon ((bodyRun (F := F) c i arg2 harg2 arg3 harg3 arg4 harg4 arg5 harg5 arg6 harg6 arg7 harg7 arg8 harg8 arg9 harg9 arg10 harg10 arg11 harg11 arg12 harg12 X2 X3 X4 X5 X6 X7).2.1 arg12.view.junk)
def outV : S2048x128.Idx → Elt F .bf16 := View.canon ((bodyRun (F := F) c i arg2 harg2 arg3 harg3 arg4 harg4 arg5 harg5 arg6 harg6 arg7 harg7 arg8 harg8 arg9 harg9 arg10 harg10 arg11 harg11 arg12 harg12 X2 X3 X4 X5 X6 X7).2.2.1 arg12.view.junk)

theorem read_outQ (f8 : BufTy.Contents (Elt F) arg8.view.ty) (f12 : BufTy.Contents (Elt F) arg12.view.ty) :
    arg8.view.read (Elt F) (arg8.view.writes (Elt F) f8 ((bodyRun (F := F) c i arg2 harg2 arg3 harg3 arg4 harg4 arg5 harg5 arg6 harg6 arg7 harg7 arg8 harg8 arg9 harg9 arg10 harg10 arg11 harg11 arg12 harg12 X2 X3 X4 X5 X6 X7).1 f12)) = outQ (F := F) c i arg2 harg2 arg3 harg3 arg4 harg4 arg5 harg5 arg6 harg6 arg7 harg7 arg8 harg8 arg9 harg9 arg10 harg10 arg11 harg11 arg12 harg12 X2 X3 X4 X5 X6 X7 := by
  unfold outQ
  rw [body_8, body_8, rowSums_indep (F := F) c i arg2 harg2 arg3 harg3 arg4 harg4 arg5 harg5 arg6 harg6 arg7 harg7 arg8 harg8 arg9 harg9 arg10 harg10 arg11 harg11 arg12 harg12 X5 X6 f12 arg12.view.junk]
  refine View.read_writes_eq_canon _ _ _ fun y => ⟨_, List.mem_singleton_self _, ?_⟩
  rw [Rect.mem_set_unit]
  intro a
  match a with
  | 0 => exact ⟨Nat.zero_le _, by show (y 0).val < 0 + 2048; rw [Nat.zero_add]; exact (y 0).isLt⟩
  | 1 => exact ⟨Nat.zero_le _, by show (y 1).val < 0 + 256; rw [Nat.zero_add]; exact (y 1).isLt⟩

theorem read_outK (f9 : BufTy.Contents (Elt F) arg9.view.ty) (f12 : BufTy.Contents (Elt F) arg12.view.ty) :
    arg9.view.read (Elt F) (arg9.view.writes (Elt F) f9 ((bodyRun (F := F) c i arg2 harg2 arg3 harg3 arg4 harg4 arg5 harg5 arg6 harg6 arg7 harg7 arg8 harg8 arg9 harg9 arg10 harg10 arg11 harg11 arg12 harg12 X2 X3 X4 X5 X6 X7).2.1 f12)) = outK (F := F) c i arg2 harg2 arg3 harg3 arg4 harg4 arg5 harg5 arg6 harg6 arg7 harg7 arg8 harg8 arg9 harg9 arg10 harg10 arg11 harg11 arg12 harg12 X2 X3 X4 X5 X6 X7 := by
  unfold outK
  rw [body_9, body_9, rowSums_indep (F := F) c i arg2 harg2 arg3 harg3 arg4 harg4 arg5 harg5 arg6 harg6 arg7 harg7 arg8 harg8 arg9 harg9 arg10 harg10 arg11 harg11 arg12 harg12 X5 X6 f12 arg12.view.junk, t2_trips]
  exact View.read_writes_eq_canon _ _ _ fun y => pieces_cover (F := F) c i arg2 harg2 arg3 harg3 arg4 harg4 arg5 harg5 arg6 harg6 arg7 harg7 arg8 harg8 arg9 harg9 arg10 harg10 arg11 harg11 arg12 harg12 X2 X3 X4 X6 X7 _ _ 4 le_rfl y (y 0).isLt

theorem read_outV (f10 : BufTy.Contents (Elt F) arg10.view.ty) (f12 : BufTy.Contents (Elt F) arg12.view.ty) :
    arg10.view.read (Elt F) (arg10.view.writes (Elt F) f10 ((bodyRun (F := F) c i arg2 harg2 arg3 harg3 arg4 harg4 arg5 harg5 arg6 harg6 arg7 harg7 arg8 harg8 arg9 harg9 arg10 harg10 arg11 harg11 arg12 harg12 X2 X3 X4 X5 X6 X7).2.2.1 f12)) = outV (F := F) c i arg2 harg2 arg3 harg3 arg4 harg4 arg5 harg5 arg6 harg6 arg7 harg7 arg8 harg8 arg9 harg9 arg10 harg10 arg11 harg11 arg12 harg12 X2 X3 X4 X5 X6 X7 := by
  unfold outV
  rw [body_10, body_10, rowSums_indep (F := F) c i arg2 harg2 arg3 harg3 arg4 harg4 arg5 harg5 arg6 harg6 arg7 harg7 arg8 harg8 arg9 harg9 arg10 harg10 arg11 harg11 arg12 harg12 X5 X6 f12 arg12.view.junk, t2_trips]
  exact View.read_writes_eq_canon _ _ _ fun y => pieces_cover' (F := F) c i arg2 harg2 arg3 harg3 arg4 harg4 arg5 harg5 arg6 harg6 arg7 harg7 arg8 harg8 arg9 harg9 arg10 harg10 arg11 harg11 arg12 harg12 X2 X3 X4 X6 X7 _ _ 4 le_rfl y (y 0).isLt

end

end Cert.KernelIdeal.Hand

end
-- ==== Proof.Launch.lean ====
/-
  The launch: what the pipeline hands the body at each grid point, what the body leaves, and the run of the whole program.
-/
module

public import proofs.«01_k».proof.Proof.Cover
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.TableIdle

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole)
variable (x2 : S2048x256.Idx → Elt F .bf16) (x3 : S2048x256.Idx → Elt F .bf16) (x4 : S2048x128.Idx → Elt F .bf16) (x5 : S2048x128.Idx → Elt F .bf16) (x6 : S2048x128.Idx → Elt F .bf16) (x7 : S2048x128.Idx → Elt F .f32)

/-- The body at one grid point, on buffers held at the contents `x2 … x7`: it leaves them, fills the three outputs with
    `outQ`, `outK`, `outV`, and returns the two scratch buffers at some contents. -/
theorem body_triple : (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) : sProp 𝕄)
    ⊢ wp frame (wpE (defs₀ (F := F)) Variants.none (c : Thread nD τ) none) Set.univ
        (cc0_mla_attn_bwd (F := F) i arg2 harg2 arg3 harg3 arg4 harg4 arg5 harg5 arg6 harg6 arg7 harg7 arg8 harg8 arg9 harg9 arg10 harg10 arg11 harg11 arg12 harg12)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outQ (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7)) ∗ owns (c : Thread nD τ) arg9 fullShare (outK (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7)) ∗ owns (c : Thread nD τ) arg10 fullShare (outV (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7)) ∗ (∃ d, owns (c : Thread nD τ) arg11 fullShare d) ∗ (∃ d, owns (c : Thread nD τ) arg12 fullShare d))) := by
  rw [owns_eq_rep (c : Thread nD τ) arg2 fullShare x2]
  rw [owns_eq_rep (c : Thread nD τ) arg3 fullShare x3]
  rw [owns_eq_rep (c : Thread nD τ) arg4 fullShare x4]
  rw [owns_eq_rep (c : Thread nD τ) arg5 fullShare x5]
  rw [owns_eq_rep (c : Thread nD τ) arg6 fullShare x6]
  rw [owns_eq_rep (c : Thread nD τ) arg7 fullShare x7]
  unfold owns
  iintro ⟨H2, H3, H4, H5, H6, H7, ⟨%d8, %f8, -, H8⟩, ⟨%d9, %f9, -, H9⟩, ⟨%d10, %f10, -, H10⟩, ⟨%d11, %f11, -, H11⟩, ⟨%d12, %f12, -, H12⟩⟩
  iapply (wp_wand_r _ _ _)
  isplitl [H2 H3 H4 H5 H6 H7 H8 H9 H10 H11 H12]
  · iapply ((bodyRun (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7)).2.2.2 f8 f9 f10 f11 f12)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H2, H3, H4, H5, H6, H7, H8, H9, H10, ⟨%g11, H11⟩, ⟨%g12, H12⟩⟩
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact read_outQ (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7) f8 f12
  isplitl [H9]
  · iexists _; isplitr; swap; · iexact H9
    ipureintro; exact read_outK (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7) f9 f12
  isplitl [H10]
  · iexists _; isplitr; swap; · iexact H10
    ipureintro; exact read_outV (F := F) c i arg2 harg2 arg3 harg3 arg4 harg4 arg5 harg5 arg6 harg6 arg7 harg7 arg8 harg8 arg9 harg9 arg10 harg10 arg11 harg11 arg12 harg12 (arg2.view.rep x2) (arg3.view.rep x3) (arg4.view.rep x4) (arg5.view.rep x5) (arg6.view.rep x6) (arg7.view.rep x7) f10 f12
  isplitl [H11]
  · iexists _, _; isplitr; swap; · iexact H11
    ipureintro; rfl
  iexists _, _; isplitr; swap; · iexact H12
  ipureintro; rfl

end

variable (m : (ℓ : Loc nD τ sig) → Buf (Elt F) ℓ) (ρ : Dev nD → PrngReg)

/-- What the body leaves in output 6 at point `t`. -/
def outQAt (c : Dev nD) (t : Fin cfg0.N) : S2048x256.Idx → Elt F .bf16 :=
  outQ (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((win0_0.stage (cfg0.slots t 0)).view.rep (iblk m c 0 t)) ((win0_1.stage (cfg0.slots t 1)).view.rep (iblk m c 1 t)) ((win0_2.stage (cfg0.slots t 2)).view.rep (iblk m c 2 t)) ((win0_3.stage (cfg0.slots t 3)).view.rep (iblk m c 3 t)) ((win0_4.stage (cfg0.slots t 4)).view.rep (iblk m c 4 t)) ((win0_5.stage (cfg0.slots t 5)).view.rep (iblk m c 5 t))

/-- What the body leaves in output 7 at point `t`. -/
def outKAt (c : Dev nD) (t : Fin cfg0.N) : S2048x256.Idx → Elt F .bf16 :=
  outK (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((win0_0.stage (cfg0.slots t 0)).view.rep (iblk m c 0 t)) ((win0_1.stage (cfg0.slots t 1)).view.rep (iblk m c 1 t)) ((win0_2.stage (cfg0.slots t 2)).view.rep (iblk m c 2 t)) ((win0_3.stage (cfg0.slots t 3)).view.rep (iblk m c 3 t)) ((win0_4.stage (cfg0.slots t 4)).view.rep (iblk m c 4 t)) ((win0_5.stage (cfg0.slots t 5)).view.rep (iblk m c 5 t))

/-- What the body leaves in output 8 at point `t`. -/
def outVAt (c : Dev nD) (t : Fin cfg0.N) : S2048x128.Idx → Elt F .bf16 :=
  outV (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((win0_0.stage (cfg0.slots t 0)).view.rep (iblk m c 0 t)) ((win0_1.stage (cfg0.slots t 1)).view.rep (iblk m c 1 t)) ((win0_2.stage (cfg0.slots t 2)).view.rep (iblk m c 2 t)) ((win0_3.stage (cfg0.slots t 3)).view.rep (iblk m c 3 t)) ((win0_4.stage (cfg0.slots t 4)).view.rep (iblk m c 4 t)) ((win0_5.stage (cfg0.slots t 5)).view.rep (iblk m c 5 t))

/-- The proof data on core `c`: each window's array as the region finds it; an input's block as it was, an output's block what
    the body computes from the inputs' blocks. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => outQAt m c t
    | 7 => outKAt m c t
    | 8 => outVAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t := before0_0_of m (dats m 0 c) (A_eq m c 0) (fun _ => rfl) t d
theorem before_1 (c : Dev nD) (t : Fin cfg0.N) (d) : (dats m 0 c).before 1 t d = iblk m c 1 t := before0_1_of m (dats m 0 c) (A_eq m c 1) (fun _ => rfl) t d
theorem before_2 (c : Dev nD) (t : Fin cfg0.N) (d) : (dats m 0 c).before 2 t d = iblk m c 2 t := before0_2_of m (dats m 0 c) (A_eq m c 2) (fun _ => rfl) t d
theorem before_3 (c : Dev nD) (t : Fin cfg0.N) (d) : (dats m 0 c).before 3 t d = iblk m c 3 t := before0_3_of m (dats m 0 c) (A_eq m c 3) (fun _ => rfl) t d
theorem before_4 (c : Dev nD) (t : Fin cfg0.N) (d) : (dats m 0 c).before 4 t d = iblk m c 4 t := before0_4_of m (dats m 0 c) (A_eq m c 4) (fun _ => rfl) t d
theorem before_5 (c : Dev nD) (t : Fin cfg0.N) (d) : (dats m 0 c).before 5 t d = iblk m c 5 t := before0_5_of m (dats m 0 c) (A_eq m c 5) (fun _ => rfl) t d

/-- What the body is handed at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3, before_4, before_5, ← owns_whole]
  iintro ⟨⟨⟨⟨%s0, HS0⟩, ⟨%s1, HS1⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r _ _ _)
  isplitl [HS0 HS1 H0 H1 H2 H3 H4 H5 H6 H7 H8]
  · iapply (body_triple (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexists _; iexact HS0
    iexists _; iexact HS1
  iintro %u ⟨H0, H1, H2, H3, H4, H5, H6, H7, H8, ⟨%g0, HS0⟩, ⟨%g1, HS1⟩⟩
  isplitl [HS0 HS1 Hg]
  · isplitl [HS0 HS1]
    · isplitl [HS0]; · iexists _; iexact HS0
      iexists _; iexact HS1
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends, with each window's array at what the pipeline leaves in it and every other buffer untouched
    by the call. -/
theorem run_main : θ_run defs (onTc (τ := τ) main) ⟨m, fun _ => 0, ρ⟩ (fun r => Pipeline.FramePost cfgs (dats m) 0 (V m) r ∧ r.2.sem = fun _ => 0) :=
  Pipeline.θ_run_frame_shared cfgs (dats m) (0 : Fin 1) launch₀0 (defs₀ (F := F)) Variants.none m ρ main
    (fun c => (body_obligation m c).loose) (fun c w _ => rfl) (fun c t => rfl) (V m) (hmain := Gen.hmain m Variants.none)
    (hA := A_eq m) (hΦ := fun c t => rfl) (Q' := fun r => Pipeline.FramePost cfgs (dats m) 0 (V m) r ∧ r.2.sem = fun _ => 0) (hQ' := fun r h => h)

/-- What a frame claims, from the run: the arguments are inputs of the region, which leaves them, and every semaphore ends at zero. -/
theorem frame_main : θ_run defs (onTc (τ := τ) main) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c))),
      ((h.1 c).1 4).trans (((dats m 0 c).arrAt_in 4 rfl _).trans ((A_eq m c 4).trans (V_main_arg2 m c)))⟩, h.2⟩) (run_main m ρ)

end Cert.KernelIdeal.Hand

end
-- ==== Proof.Frames.lean ====
/-
  The frame of the printed kernel. Nothing was rewritten in the idealized text, so its body table and its @main are those of the
  printed one, and the run over any float values serves both.
-/
module

public import proofs.«01_k».proof.Defs
public import proofs.«01_k».proof.Proof.Launch
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

theorem bodies_eq : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | ⟨0, _⟩, (t, s) => rfl

theorem defs_eq : @Cert.Kernel.defs Bits _ _ = @Cert.KernelIdeal.defs Bits _ _ :=
  congrArg (Pipeline.defs (@Cert.KernelIdeal.pcfgs Bits _)) bodies_eq

set_option maxRecDepth 16384 in
set_option maxHeartbeats 2000000 in
theorem main_eq : @Cert.Kernel.main Bits _ _ = @Cert.KernelIdeal.main Bits _ _ := by
  funext d
  unfold Cert.Kernel.main Cert.KernelIdeal.main Cert.Kernel.fn_where.body Cert.KernelIdeal.fn_where.body
  rfl

/-- The printed kernel runs, leaves its arguments, and ends with every semaphore at zero. -/
theorem frame_kernel : Cert.quiescent_Kernel := fun m ρ _ => by
  have key : ∀ d p, d = @Cert.KernelIdeal.defs Bits _ _ → p = @Cert.KernelIdeal.main Bits _ _ →
      θ_run d (onTc (τ := Cert.KernelIdeal.τ) p) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) := by
    rintro d p rfl rfl
    exact Cert.KernelIdeal.Hand.frame_main (F := Bits) m ρ
  exact key _ _ defs_eq main_eq

end Cert.Proof

end
-- ==== Proof.Tile.lean ====
/-
  What the gradient kernel computes on one 512 × 512 tile of scores, as real numbers: the operands of a tile are blocks of
  real arrays, and each payload of the body is the corresponding block of the probabilities, of their gradient, or of a
  product with them.
-/
module

public import proofs.«01_k».proof.Proof.Gen.KernelIdeal.Skeleton
public import Idealize.ShloMosaic.Lib.Pointwise
public import Idealize.ShloMosaic.Lib.WordCmp
public import Idealize.ShloMosaic.Lib.WritesUnit

@[expose] public section

set_option maxHeartbeats 400000

noncomputable section

namespace Cert.Attn

open Idealize.ShloMosaic

/-- A real matrix, indexed by natural numbers. -/
abbrev RF : Type := ℕ → ℕ → ℝ

/-- The extended-real matrix `x` holds the real matrix `f`. -/
def Is {n m : ℕ} (x : (⟨2, ![n, m]⟩ : Shape).Idx → EReal) (f : RF) : Prop :=
  ∀ (r : Fin n) (c : Fin m), x (ix2 r c) = ((f r.val c.val : ℝ) : EReal)

theorem Is.congr {n m : ℕ} {x : (⟨2, ![n, m]⟩ : Shape).Idx → EReal} {f g : RF} (h : Is x f)
    (hfg : ∀ r c, r < n → c < m → f r c = g r c) : Is x g := fun r c => by rw [h r c, hfg _ _ r.isLt c.isLt]

/-- The block of `f` that starts at row `a` and column `b`. -/
def sh (a b : ℕ) (f : RF) : RF := fun r c => f (a + r) (b + c)

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_exp (x : ℝ) : Ideal.exp ((x : ℝ) : EReal) = ((Real.exp x : ℝ) : EReal) := rfl

theorem coe_ite (p : Prop) [Decidable p] (x : ℝ) : (if p then ((x : ℝ) : EReal) else 0) = ((if p then x else 0 : ℝ) : EReal) := by
  split_ifs <;> rfl

theorem coe_ite2 (p : Prop) [Decidable p] (x y : ℝ) :
    (if p then ((x : ℝ) : EReal) else ((y : ℝ) : EReal)) = ((if p then x else y : ℝ) : EReal) := by
  split_ifs <;> rfl

theorem select_ofBool {α : Type} (p : Prop) [Decidable p] (a b : α) :
    Scalar.select (BitVec.ofBool (decide p)) a b = if p then a else b := by
  by_cases h : p <;> simp [h, Scalar.select]

/-- The first half of the lanes. -/
theorem select_lo {α : Type} (x : Fin 128) (a b : α) :
    Scalar.select (IntOp.cmpi .slt (BitVec.ofNat 32 x.val) 64#32) a b = if x.val < 64 then a else b := by
  rw [WordCmp.cmpi_slt_ofNat (by have := x.isLt; omega) (by omega), select_ofBool]

/-- The second half of the lanes. -/
theorem select_hi {α : Type} (x : Fin 128) (a b : α) :
    Scalar.select (IntOp.cmpi .sge (BitVec.ofNat 32 x.val) 64#32) a b = if 64 ≤ x.val then a else b := by
  rw [WordCmp.cmpi_sge_ofNat (by have := x.isLt; omega) (by omega), select_ofBool]

/-- The causal mask of a tile on the diagonal. -/
theorem select_le {α : Type} (r c : Fin 512) (a b : α) :
    Scalar.select (IntOp.cmpi .sle (BitVec.ofNat 32 c.val) (IntOp.addi (BitVec.ofNat 32 r.val) 0#32)) a b
      = if c.val ≤ r.val then a else b := by
  have h : IntOp.addi (BitVec.ofNat 32 r.val) 0#32 = BitVec.ofNat 32 r.val := by simp [IntOp.addi]
  rw [h, WordCmp.cmpi_sle_ofNat (by have := c.isLt; omega) (by have := r.isLt; omega), select_ofBool]

theorem sum_lo (f : ℕ → ℝ) : (∑ x : Fin 128, if x.val < 64 then f x.val else 0) = ∑ d : Fin 64, f d.val := by
  rw [← Finset.sum_range (fun x => if x < 64 then f x else 0), ← Finset.sum_range f,
    Finset.sum_range_add (n := 64) (m := 64) (f := fun x => if x < 64 then f x else 0)]
  rw [Finset.sum_congr rfl (g := f) (fun x hx => if_pos (Finset.mem_range.mp hx)),
    Finset.sum_eq_zero (s := Finset.range 64) (f := fun x => if 64 + x < 64 then f (64 + x) else 0)
      (fun x _ => if_neg (by omega)), add_zero]

theorem sum_hi (f : ℕ → ℝ) : (∑ x : Fin 128, if 64 ≤ x.val then f x.val else 0) = ∑ d : Fin 64, f (64 + d.val) := by
  rw [← Finset.sum_range (fun x => if 64 ≤ x then f x else 0), ← Finset.sum_range (fun x => f (64 + x)),
    Finset.sum_range_add (n := 64) (m := 64) (f := fun x => if 64 ≤ x then f x else 0)]
  rw [Finset.sum_eq_zero (s := Finset.range 64) (f := fun x => if 64 ≤ x then f x else 0)
      (fun x hx => if_neg (by have := Finset.mem_range.mp hx; omega)),
    Finset.sum_congr rfl (g := fun x => f (64 + x)) (fun x hx => if_pos (by omega)), zero_add]

/-! ## The attention of one pair of heads -/

section
variable (Q K V O G L D : RF)

/-- The scores of head `h` of the pair. -/
def S (h r c : ℕ) : ℝ := ∑ e : Fin 128, Q r (128 * h + e.val) * K c (128 * h + e.val)
/-- The probabilities, from the scores and the saved logarithm `L` of their sums. -/
def P (h r c : ℕ) : ℝ := if c ≤ r then Real.exp (S Q K h r c - L r (64 * h)) else 0
/-- The gradient of the probabilities. -/
def DP (h r c : ℕ) : ℝ := ∑ d : Fin 64, G r (64 * h + d.val) * V c (64 * h + d.val)
/-- The gradient of the scores; `D` holds the row sums. -/
def DS (h r c : ℕ) : ℝ := P Q K L h r c * (DP V G h r c - D r (64 * h))
/-- The row sums: the inner products of the output and its gradient, one for each head, over that head's lanes. -/
def rowDot : RF := fun r x => if x < 64 then ∑ d : Fin 64, G r d.val * O r d.val else ∑ d : Fin 64, G r (64 + d.val) * O r (64 + d.val)

theorem P_above (h r c : ℕ) (hrc : r < c) : P Q K L h r c = 0 := if_neg (by omega)
theorem DS_above (h r c : ℕ) (hrc : r < c) : DS Q K V G L D h r c = 0 := by
  unfold DS; rw [P_above Q K L h r c hrc, zero_mul]

end

end Cert.Attn

namespace Cert.KernelIdeal.Hand

open Cert.KernelIdeal Cert.KernelIdeal.Gen
open Idealize.ShloMosaic
open Cert.Attn

section
variable {Q K V O G L D : RF} {a b : ℕ}
  {q0 q1 k0 k1 v g o vh : Vec Ideal S512x128 .bf16} {l ds acc : Vec Ideal S512x128 .f32}

theorem pay4_is (hg : Is g (sh a 0 G)) (ho : Is o (sh a 0 O)) : Is (k0_pay4 (F := Ideal) g o) (sh a 0 (rowDot O G)) := fun r x => by
  pointwise [k0_pay4, k0_pay1, k0_pay2]
  simp only [select_lo, select_hi, hg _ _, ho _ _, sh, Nat.zero_add, ← EReal.coe_mul, coe_ite, coe_sum, coe_ite2, rowDot]
  rw [sum_lo (fun x => G (a + r.val) x * O (a + r.val) x), sum_hi (fun x => G (a + r.val) x * O (a + r.val) x)]

theorem vhi_is (hv : Is v (sh b 0 V)) : Is (k0_pay11 (F := Ideal) k0_pay2 v) (fun r x => if 64 ≤ x then V (b + r) x else 0) := fun r x => by
  pointwise [k0_pay11, k0_pay2]
  simp only [select_hi, hv _ _, sh, Nat.zero_add, coe_ite]

/-! ### A tile below the diagonal -/

theorem pay13_is (hab : b + 512 ≤ a) (hq : Is q0 (sh a 0 Q)) (hk : Is k0 (sh b 0 K)) (hl : Is l (sh a 0 L)) :
    Is (k0_pay13 (F := Ideal) q0 k0 l) (sh a b (P Q K L 0)) := fun r c => by
  pointwise [k0_pay13, k0_pay12]
  have hc := c.isLt
  simp only [hq _ _, hk _ _, hl _ _, sh, Nat.zero_add, ← EReal.coe_mul, coe_sum, ← EReal.coe_sub, coe_exp, P, S, Nat.mul_zero]
  rw [if_pos (by omega)]
  rfl

theorem pay17_is (hab : b + 512 ≤ a) (hq : Is q1 (sh a 128 Q)) (hk : Is k1 (sh b 128 K)) (hl : Is l (sh a 0 L)) :
    Is (k0_pay17 (F := Ideal) q1 k1 (k0_pay12 l)) (sh a b (P Q K L 1)) := fun r c => by
  pointwise [k0_pay17, k0_pay12]
  have hc := c.isLt
  simp only [hq _ _, hk _ _, hl _ _, sh, Nat.zero_add, ← EReal.coe_mul, coe_sum, ← EReal.coe_sub, coe_exp, P, S, Nat.mul_one]
  rw [if_pos (by omega)]
  rfl

theorem pay14_is (hab : b + 512 ≤ a) (hq : Is q0 (sh a 0 Q)) (hk : Is k0 (sh b 0 K)) (hl : Is l (sh a 0 L)) (hv : Is v (sh b 0 V))
    (hg : Is g (sh a 0 G)) (hd : Is ds (sh a 0 D)) :
    Is (k0_pay14 (F := Ideal) k0_pay1 q0 k0 v g l ds) (sh a b (DS Q K V G L D 0)) := fun r c => by
  have hp := pay13_is hab hq hk hl r c
  pointwise [k0_pay14, k0_pay1]
  simp only [hp, select_lo, hv _ _, hg _ _, hd _ _, sh, Nat.zero_add, ← EReal.coe_mul, coe_ite, coe_sum, ← EReal.coe_sub]
  rw [sum_lo (fun x => G (a + r.val) x * V (b + c.val) x)]
  simp only [DS, DP, Nat.mul_zero, Nat.zero_add]
  rfl

theorem pay18_is (hab : b + 512 ≤ a) (hq : Is q1 (sh a 128 Q)) (hk : Is k1 (sh b 128 K)) (hl : Is l (sh a 0 L)) (hv : Is v (sh b 0 V))
    (hg : Is g (sh a 0 G)) (hd : Is ds (sh a 0 D)) :
    Is (k0_pay18 (F := Ideal) q1 k1 (k0_pay11 k0_pay2 v) g (k0_pay12 l) ds) (sh a b (DS Q K V G L D 1)) := fun r c => by
  have hp := pay17_is hab hq hk hl r c
  have hvh := vhi_is hv
  pointwise [k0_pay18]
  simp only [hp, hvh _ _, hg _ _, hd _ _, sh, Nat.zero_add, ← EReal.coe_mul, mul_ite, mul_zero, coe_sum, ← EReal.coe_sub]
  rw [sum_hi (fun x => G (a + r.val) x * V (b + c.val) x)]
  simp only [DS, DP, Nat.mul_one]
  rfl

theorem pay16_is {f W : RF} {p : FVec Ideal S512x512 .bf16} (hk : Is k0 (sh b 0 K)) (hp : Is p (sh a b W)) (hf : Is acc f) :
    Is (k0_pay16 (F := Ideal) k0 p acc) (fun r e => f r e + ∑ c : Fin 512, W (a + r) (b + c.val) * K (b + c.val) e) := fun r e => by
  pointwise [k0_pay16]
  simp only [hk _ _, hp _ _, hf _ _, sh, Nat.zero_add, ← EReal.coe_mul, coe_sum, ← EReal.coe_add]

theorem pay19_is {f : RF} (hab : b + 512 ≤ a) (hq : Is q1 (sh a 128 Q)) (hk : Is k1 (sh b 128 K)) (hl : Is l (sh a 0 L))
    (hv : Is v (sh b 0 V)) (hg : Is g (sh a 0 G)) (hd : Is ds (sh a 0 D)) (hf : Is acc f) :
    Is (k0_pay19 (F := Ideal) q1 k1 (k0_pay11 k0_pay2 v) g (k0_pay12 l) ds acc)
      (fun r e => f r e + ∑ c : Fin 512, DS Q K V G L D 1 (a + r) (b + c.val) * K (b + c.val) (128 + e)) := fun r e => by
  have hp := pay18_is hab hq hk hl hv hg hd
  pointwise [k0_pay19]
  simp only [hp _ _, hk _ _, hf _ _, sh, Nat.zero_add, ← EReal.coe_mul, coe_sum, ← EReal.coe_add]

theorem pay21_is {f W : RF} {p : FVec Ideal S512x512 .bf16} {a1 : FVec Ideal S512x128 .f32} (hq : Is q0 (sh a 0 Q)) (hp : Is p (sh a b W))
    (hf : Is a1 f) :
    Is (k0_pay21 (F := Ideal) a1 q0 p) (fun c e => f c e + ∑ r : Fin 512, W (a + r.val) (b + c) * Q (a + r.val) e) := fun c e => by
  pointwise [k0_pay21]
  simp only [hq _ _, hp _ _, hf _ _, sh, Nat.zero_add, ← EReal.coe_mul, coe_sum, ← EReal.coe_add]

theorem pay22_is {f : RF} {a1 : FVec Ideal S512x128 .f32} (hab : b + 512 ≤ a) (hq : Is q1 (sh a 128 Q)) (hk : Is k1 (sh b 128 K))
    (hl : Is l (sh a 0 L)) (hv : Is v (sh b 0 V)) (hg : Is g (sh a 0 G)) (hd : Is ds (sh a 0 D)) (hf : Is a1 f) :
    Is (k0_pay22 (F := Ideal) a1 q1 k1 (k0_pay11 k0_pay2 v) g (k0_pay12 l) ds)
      (fun c e => f c e + ∑ r : Fin 512, DS Q K V G L D 1 (a + r.val) (b + c) * Q (a + r.val) (128 + e)) := fun c e => by
  have hp := pay18_is hab hq hk hl hv hg hd
  pointwise [k0_pay22]
  simp only [hq _ _, hp _ _, hf _ _, sh, Nat.zero_add, ← EReal.coe_mul, coe_sum, ← EReal.coe_add]

/-- The probabilities that go with lane `x` of the values. -/
def Pl (Q K L : RF) (x r c : ℕ) : ℝ := if x < 64 then P Q K L 0 r c else P Q K L 1 r c

theorem pay20_is {f : RF} {a1 : FVec Ideal S512x128 .f32} (hab : b + 512 ≤ a) (hq0 : Is q0 (sh a 0 Q)) (hk0 : Is k0 (sh b 0 K))
    (hq : Is q1 (sh a 128 Q)) (hk : Is k1 (sh b 128 K)) (hl : Is l (sh a 0 L)) (hg : Is g (sh a 0 G)) (hf : Is a1 f) :
    Is (k0_pay20 (F := Ideal) k0_pay2 a1 q1 k1 g (k0_pay12 l) (k0_pay15 k0_pay1 q0 k0 g l))
      (fun c x => f c x + ∑ r : Fin 512, Pl Q K L x (a + r.val) (b + c) * G (a + r.val) x) := fun c x => by
  have hp := pay17_is hab hq hk hl
  have hp0 := pay13_is hab hq0 hk0 hl
  pointwise [k0_pay20, k0_pay2, k0_pay15, k0_pay1]
  simp only [hg _ _, hp _ _, hp0 _ _, hf _ _, select_lo, select_hi, sh, Nat.zero_add, ← EReal.coe_mul, coe_sum, coe_ite, ← EReal.coe_add]
  by_cases h : x.val < 64
  · simp only [h, if_true, Pl, if_neg (show ¬ 64 ≤ x.val by omega), add_zero]
  · simp only [h, if_false, Pl, if_pos (show 64 ≤ x.val by omega), zero_add]

/-! ### A tile on the diagonal -/

theorem pay42_is (hq : Is q0 (sh a 0 Q)) (hk : Is k0 (sh a 0 K)) (hl : Is l (sh a 0 L)) :
    Is (k0_pay42 (F := Ideal) q0 k0 l) (sh a a (P Q K L 0)) := fun r c => by
  pointwise [k0_pay42, k0_pay41, k0_pay39]
  simp only [select_le, hq _ _, hk _ _, hl _ _, sh, Nat.zero_add, ← EReal.coe_mul, coe_sum, ← EReal.coe_sub, coe_exp, coe_ite, P, S,
    Nat.mul_zero, Nat.add_le_add_iff_left]
  rfl

theorem pay48_is (hq : Is q1 (sh a 128 Q)) (hk : Is k1 (sh a 128 K)) (hl : Is l (sh a 0 L)) :
    Is (k0_pay48 (F := Ideal) k0_pay39 q1 k1 (k0_pay41 l)) (sh a a (P Q K L 1)) := fun r c => by
  pointwise [k0_pay48, k0_pay41, k0_pay39]
  simp only [select_le, hq _ _, hk _ _, hl _ _, sh, Nat.zero_add, ← EReal.coe_mul, coe_sum, ← EReal.coe_sub, coe_exp, coe_ite, P, S,
    Nat.mul_one, Nat.add_le_add_iff_left]
  rfl

theorem pay43_is (hq : Is q0 (sh a 0 Q)) (hk : Is k0 (sh a 0 K)) (hl : Is l (sh a 0 L)) (hv : Is v (sh a 0 V))
    (hg : Is g (sh a 0 G)) (hd : Is ds (sh a 0 D)) :
    Is (k0_pay43 (F := Ideal) k0_pay1 q0 k0 v g l ds) (sh a a (DS Q K V G L D 0)) := fun r c => by
  have hp := pay42_is hq hk hl r c
  rw [show (k0_pay43 (F := Ideal) k0_pay1 q0 k0 v g l ds) (ix2 r c) = k0_pay42 q0 k0 l (ix2 r c)
      * ((∑ x : Fin 128, Scalar.select (IntOp.cmpi .slt (BitVec.ofNat 32 x.val) 64#32) (g (ix2 r x) * v (ix2 c x)) 0) - ds (ix2 r 0)) from by
    pointwise [k0_pay43, k0_pay1]]
  simp only [hp, select_lo, hv _ _, hg _ _, hd _ _, sh, Nat.zero_add, ← EReal.coe_mul, coe_ite, coe_sum, ← EReal.coe_sub]
  rw [sum_lo (fun x => G (a + r.val) x * V (a + c.val) x)]
  simp only [DS, DP, Nat.mul_zero, Nat.zero_add]
  rfl

theorem vhi_is' (hv : Is v (sh b 0 V)) : Is (k0_pay40 (F := Ideal) k0_pay2 v) (fun r x => if 64 ≤ x then V (b + r) x else 0) := fun r x => by
  pointwise [k0_pay40, k0_pay2]
  simp only [select_hi, hv _ _, sh, Nat.zero_add, coe_ite]

theorem pay49_is (hq : Is q1 (sh a 128 Q)) (hk : Is k1 (sh a 128 K)) (hl : Is l (sh a 0 L)) (hv : Is v (sh a 0 V))
    (hg : Is g (sh a 0 G)) (hd : Is ds (sh a 0 D)) :
    Is (k0_pay49 (F := Ideal) k0_pay39 q1 k1 (k0_pay40 k0_pay2 v) g (k0_pay41 l) ds) (sh a a (DS Q K V G L D 1)) := fun r c => by
  have hp := pay48_is hq hk hl r c
  have hvh := vhi_is' hv
  rw [show (k0_pay49 (F := Ideal) k0_pay39 q1 k1 (k0_pay40 k0_pay2 v) g (k0_pay41 l) ds) (ix2 r c) = k0_pay48 k0_pay39 q1 k1 (k0_pay41 l) (ix2 r c)
      * ((∑ x : Fin 128, g (ix2 r x) * (k0_pay40 (F := Ideal) k0_pay2 v) (ix2 c x)) - ds (ix2 r 64)) from by
    pointwise [k0_pay49]]
  simp only [hp, hvh _ _, hg _ _, hd _ _, sh, Nat.zero_add, ← EReal.coe_mul, mul_ite, mul_zero, coe_sum, ← EReal.coe_sub]
  rw [sum_hi (fun x => G (a + r.val) x * V (a + c.val) x)]
  simp only [DS, DP, Nat.mul_one]
  rfl

theorem pay46_is {f W : RF} {p : FVec Ideal S512x512 .f32} (hk : Is k0 (sh b 0 K)) (hp : Is p (sh a b W)) (hf : Is acc f) :
    Is (k0_pay46 (F := Ideal) k0 p acc) (fun r e => f r e + ∑ c : Fin 512, W (a + r) (b + c.val) * K (b + c.val) e) := fun r e => by
  pointwise [k0_pay46, k0_pay44]
  simp only [hk _ _, hp _ _, hf _ _, sh, Nat.zero_add, ← EReal.coe_mul, coe_sum, ← EReal.coe_add]

theorem pay45_is {W : RF} {p : FVec Ideal S512x512 .f32} (hq : Is q0 (sh a 0 Q)) (hp : Is p (sh a b W)) :
    Is (k0_pay45 (F := Ideal) q0 p) (fun c e => ∑ r : Fin 512, W (a + r.val) (b + c) * Q (a + r.val) e) := fun c e => by
  pointwise [k0_pay45, k0_pay44]
  simp only [hq _ _, hp _ _, sh, Nat.zero_add, ← EReal.coe_mul, coe_sum]

theorem pay52_is {f : RF} (hq : Is q1 (sh a 128 Q)) (hk : Is k1 (sh a 128 K)) (hl : Is l (sh a 0 L)) (hv : Is v (sh a 0 V))
    (hg : Is g (sh a 0 G)) (hd : Is ds (sh a 0 D)) (hf : Is acc f) :
    Is (k0_pay5 (F := Ideal) (k0_pay52 k0_pay39 q1 k1 (k0_pay40 k0_pay2 v) g (k0_pay41 l) ds acc))
      (fun r e => f r e + ∑ c : Fin 512, DS Q K V G L D 1 (a + r) (a + c.val) * K (a + c.val) (128 + e)) := fun r e => by
  have hp := pay49_is hq hk hl hv hg hd
  pointwise [k0_pay5, k0_pay52]
  simp only [hp _ _, hk _ _, hf _ _, sh, Nat.zero_add, ← EReal.coe_mul, coe_sum, ← EReal.coe_add]

theorem pay51_is (hq : Is q1 (sh a 128 Q)) (hk : Is k1 (sh a 128 K)) (hl : Is l (sh a 0 L)) (hv : Is v (sh a 0 V))
    (hg : Is g (sh a 0 G)) (hd : Is ds (sh a 0 D)) :
    Is (k0_pay51 (F := Ideal) k0_pay39 q1 k1 (k0_pay40 k0_pay2 v) g (k0_pay41 l) ds)
      (fun c e => ∑ r : Fin 512, DS Q K V G L D 1 (a + r.val) (a + c) * Q (a + r.val) (128 + e)) := fun c e => by
  have hp := pay49_is hq hk hl hv hg hd
  pointwise [k0_pay51]
  simp only [hp _ _, hq _ _, sh, Nat.zero_add, ← EReal.coe_mul, coe_sum]

theorem pay50_is (hq0 : Is q0 (sh a 0 Q)) (hk0 : Is k0 (sh a 0 K))
    (hq : Is q1 (sh a 128 Q)) (hk : Is k1 (sh a 128 K)) (hl : Is l (sh a 0 L)) (hg : Is g (sh a 0 G)) :
    Is (k0_pay50 (F := Ideal) k0_pay1 k0_pay2 k0_pay39 q1 k1 g (k0_pay41 l) (k0_pay42 q0 k0 l))
      (fun c x => ∑ r : Fin 512, Pl Q K L x (a + r.val) (a + c) * G (a + r.val) x) := fun c x => by
  have hp := pay48_is hq hk hl
  have hp0 := pay42_is hq0 hk0 hl
  rw [show (k0_pay50 (F := Ideal) k0_pay1 k0_pay2 k0_pay39 q1 k1 g (k0_pay41 l) (k0_pay42 q0 k0 l)) (ix2 c x)
      = Scalar.select (IntOp.cmpi .slt (BitVec.ofNat 32 x.val) 64#32) (∑ r : Fin 512, k0_pay42 (F := Ideal) q0 k0 l (ix2 r c) * g (ix2 r x)) 0
        + Scalar.select (IntOp.cmpi .sge (BitVec.ofNat 32 x.val) 64#32)
          (∑ r : Fin 512, k0_pay48 (F := Ideal) k0_pay39 q1 k1 (k0_pay41 l) (ix2 r c) * g (ix2 r x)) 0 from by
    pointwise [k0_pay50, k0_pay1, k0_pay2]]
  simp only [hg _ _, hp _ _, hp0 _ _, select_lo, select_hi, sh, Nat.zero_add, ← EReal.coe_mul, coe_sum, coe_ite, ← EReal.coe_add]
  by_cases h : x.val < 64
  · simp only [h, if_true, Pl, if_neg (show ¬ 64 ≤ x.val by omega), add_zero]
  · simp only [h, if_false, Pl, if_pos (show 64 ≤ x.val by omega), zero_add]

end

end Cert.KernelIdeal.Hand

end
-- ==== Proof.Block.lean ====
/-
  The gradient kernel on one block, a pair of heads of one sequence, as real numbers: if the block's operands hold real arrays,
  the three results hold the sums over all rows or columns of the products the tiles sum piece by piece.
-/
module

public import proofs.«01_k».proof.Proof.Cover
public import proofs.«01_k».proof.Proof.Tile

@[expose] public section

set_option maxRecDepth 8192
set_option maxHeartbeats 400000

noncomputable section

namespace Cert.KernelIdeal.Hand

open Cert.KernelIdeal Cert.KernelIdeal.Gen
open Idealize.ShloMosaic Idealize.ShloMosaic.TcCoe
open Cert.Attn

/-! ## Loads and stores of blocks of 512 rows and 128 columns -/

theorem ld_gen {n m : ℕ} {x : (⟨2, ![n, m]⟩ : Shape).Idx → EReal} {f : RF} (h : Is x f) {off : Fin 2 → ℕ}
    (inb : ∀ a, off a + S512x128.size a ≤ (⟨2, ![n, m]⟩ : Shape).size a) {a b : ℕ} (heq : off = ![a, b]) :
    Is (fun y : S512x128.Idx => x ((Rect.unit (s := ⟨2, ![n, m]⟩) off S512x128.size inb).toLoadRect.idx y)) (sh a b f) := fun p q => by
  subst heq
  have hp : a + p.val < n := lt_of_lt_of_le (Nat.add_lt_add_left p.isLt a) (inb 0)
  have hq : b + q.val < m := lt_of_lt_of_le (Nat.add_lt_add_left q.isLt b) (inb 1)
  refine (congrArg x (?_ : _ = ix2 ⟨a + p.val, hp⟩ ⟨b + q.val, hq⟩)).trans (h ⟨a + p.val, hp⟩ ⟨b + q.val, hq⟩)
  funext d
  match d with
  | ⟨0, _⟩ => exact Fin.ext (show a + 1 * p.val = a + p.val by rw [Nat.one_mul])
  | ⟨1, _⟩ => exact Fin.ext (show b + 1 * q.val = b + q.val by rw [Nat.one_mul])

theorem ld_wide {M : Memref sig .tc .vmem S2048x256 .bf16} {X : BufTy.Contents (Elt Ideal) M.view.ty} {f : RF}
    (h : Is (n := 2048) (m := 256) (M.view.read (Elt Ideal) X) f) {off : Fin 2 → ℕ} {inb : ∀ a, off a + S512x128.size a ≤ S2048x256.size a}
    {a b : ℕ} (heq : off = ![a, b]) :
    Is (n := 512) (m := 128) (M.view.readAt (Elt Ideal) (Rect.unit (s := S2048x256) off S512x128.size inb).toLoadRect X) (sh a b f) :=
  ld_gen h inb heq

theorem ld_narrow {M : Memref sig .tc .vmem S2048x128 .bf16} {X : BufTy.Contents (Elt Ideal) M.view.ty} {f : RF}
    (h : Is (n := 2048) (m := 128) (M.view.read (Elt Ideal) X) f) {off : Fin 2 → ℕ} {inb : ∀ a, off a + S512x128.size a ≤ S2048x128.size a}
    {a b : ℕ} (heq : off = ![a, b]) :
    Is (n := 512) (m := 128) (M.view.readAt (Elt Ideal) (Rect.unit (s := S2048x128) off S512x128.size inb).toLoadRect X) (sh a b f) :=
  ld_gen h inb heq

theorem ld_wide32 {M : Memref sig .tc .vmem S2048x256 .f32} {X : BufTy.Contents (Elt Ideal) M.view.ty} {f : RF}
    (h : Is (n := 2048) (m := 256) (M.view.read (Elt Ideal) X) f) {off : Fin 2 → ℕ} {inb : ∀ a, off a + S512x128.size a ≤ S2048x256.size a}
    {a b : ℕ} (heq : off = ![a, b]) :
    Is (n := 512) (m := 128) (M.view.readAt (Elt Ideal) (Rect.unit (s := S2048x256) off S512x128.size inb).toLoadRect X) (sh a b f) :=
  ld_gen h inb heq

theorem ld_narrow32 {M : Memref sig .tc .vmem S2048x128 .f32} {X : BufTy.Contents (Elt Ideal) M.view.ty} {f : RF}
    (h : Is (n := 2048) (m := 128) (M.view.read (Elt Ideal) X) f) {off : Fin 2 → ℕ} {inb : ∀ a, off a + S512x128.size a ≤ S2048x128.size a}
    {a b : ℕ} (heq : off = ![a, b]) :
    Is (n := 512) (m := 128) (M.view.readAt (Elt Ideal) (Rect.unit (s := S2048x128) off S512x128.size inb).toLoadRect X) (sh a b f) :=
  ld_gen h inb heq

/-- Where `p` holds, the extended-real matrix `x` holds the real matrix `f`. -/
def On {n m : ℕ} (p : ℕ → ℕ → Prop) (x : (⟨2, ![n, m]⟩ : Shape).Idx → EReal) (f : RF) : Prop :=
  ∀ (r : Fin n) (c : Fin m), p r.val c.val → x (ix2 r c) = ((f r.val c.val : ℝ) : EReal)

theorem On.is {n m : ℕ} {p : ℕ → ℕ → Prop} {x : (⟨2, ![n, m]⟩ : Shape).Idx → EReal} {f : RF} (h : On p x f)
    (hp : ∀ r c, r < n → c < m → p r c) : Is x f := fun r c => h r c (hp _ _ r.isLt c.isLt)

/-- A store of a block: what it stores there, what was held elsewhere. -/
theorem upd_wide32 {sp : Space} {M : Memref sig .tc sp S2048x256 .f32} {X : BufTy.Contents (Elt Ideal) M.view.ty} {L : List (View.Piece (Elt Ideal) S2048x256 .f32)}
    {f f' g : RF} {p p' : ℕ → ℕ → Prop} {off : Fin 2 → ℕ} {inb : ∀ a, off a + S512x128.size a ≤ S2048x256.size a} (a b : ℕ) (heq : off = ![a, b])
    {w : S512x128.Idx → EReal} (hw : Is w g) (h : On (n := 2048) (m := 256) p (M.view.read (Elt Ideal) (M.view.writes (Elt Ideal) X L)) f)
    (hin : ∀ r c, r < 512 → c < 128 → p' (a + r) (b + c) → f' (a + r) (b + c) = g r c)
    (hout : ∀ r c, r < 2048 → c < 256 → p' r c → (r < a ∨ a + 512 ≤ r ∨ c < b ∨ b + 128 ≤ c) → p r c ∧ f' r c = f r c) :
    On (n := 2048) (m := 256) p' (M.view.read (Elt Ideal) (M.view.writes (Elt Ideal) X
      ((⟨Rect.unit (s := S2048x256) off S512x128.size inb, w⟩ : View.Piece (Elt Ideal) S2048x256 .f32) :: L))) f' := fun r c hp => by
  have hr := r.isLt
  have hc := c.isLt
  by_cases h0 : r.val < a
  · exact (View.read_writes_cons_unit_of_not_mem M.view X inb w L (ix2 r c) heq 0 (.inl h0)).trans
      ((h r c (hout _ _ hr hc hp (.inl h0)).1).trans (congrArg _ (hout _ _ hr hc hp (.inl h0)).2.symm))
  by_cases h1 : a + 512 ≤ r.val
  · exact (View.read_writes_cons_unit_of_not_mem M.view X inb w L (ix2 r c) heq 0 (.inr h1)).trans
      ((h r c (hout _ _ hr hc hp (.inr (.inl h1))).1).trans (congrArg _ (hout _ _ hr hc hp (.inr (.inl h1))).2.symm))
  by_cases h2 : c.val < b
  · exact (View.read_writes_cons_unit_of_not_mem M.view X inb w L (ix2 r c) heq 1 (.inl h2)).trans
      ((h r c (hout _ _ hr hc hp (.inr (.inr (.inl h2)))).1).trans (congrArg _ (hout _ _ hr hc hp (.inr (.inr (.inl h2)))).2.symm))
  by_cases h3 : b + 128 ≤ c.val
  · exact (View.read_writes_cons_unit_of_not_mem M.view X inb w L (ix2 r c) heq 1 (.inr h3)).trans
      ((h r c (hout _ _ hr hc hp (.inr (.inr (.inr h3)))).1).trans (congrArg _ (hout _ _ hr hc hp (.inr (.inr (.inr h3)))).2.symm))
  have e0 : a + (r.val - a) = r.val := by omega
  have e1 : b + (c.val - b) = c.val := by omega
  have hg := hin (r.val - a) (c.val - b) (by omega) (by omega) (by rw [e0, e1]; exact hp)
  rw [e0, e1] at hg
  refine (View.read_writes_cons_unit_of_mem M.view X inb w L (ix2 r c)
    (ix2 (⟨r.val - a, by omega⟩ : Fin 512) (⟨c.val - b, by omega⟩ : Fin 128)) heq (fun d => ?_)).trans
    ((hw ⟨r.val - a, by omega⟩ ⟨c.val - b, by omega⟩).trans (congrArg _ hg.symm))
  match d with
  | ⟨0, _⟩ => exact e0.symm
  | ⟨1, _⟩ => exact e1.symm

/-- A store of a block: what it stores there, what was held elsewhere. -/
theorem upd_wide {sp : Space} {M : Memref sig .tc sp S2048x256 .bf16} {X : BufTy.Contents (Elt Ideal) M.view.ty} {L : List (View.Piece (Elt Ideal) S2048x256 .bf16)}
    {f f' g : RF} {p p' : ℕ → ℕ → Prop} {off : Fin 2 → ℕ} {inb : ∀ a, off a + S512x128.size a ≤ S2048x256.size a} (a b : ℕ) (heq : off = ![a, b])
    {w : S512x128.Idx → EReal} (hw : Is w g) (h : On (n := 2048) (m := 256) p (M.view.read (Elt Ideal) (M.view.writes (Elt Ideal) X L)) f)
    (hin : ∀ r c, r < 512 → c < 128 → p' (a + r) (b + c) → f' (a + r) (b + c) = g r c)
    (hout : ∀ r c, r < 2048 → c < 256 → p' r c → (r < a ∨ a + 512 ≤ r ∨ c < b ∨ b + 128 ≤ c) → p r c ∧ f' r c = f r c) :
    On (n := 2048) (m := 256) p' (M.view.read (Elt Ideal) (M.view.writes (Elt Ideal) X
      ((⟨Rect.unit (s := S2048x256) off S512x128.size inb, w⟩ : View.Piece (Elt Ideal) S2048x256 .bf16) :: L))) f' := fun r c hp => by
  have hr := r.isLt
  have hc := c.isLt
  by_cases h0 : r.val < a
  · exact (View.read_writes_cons_unit_of_not_mem M.view X inb w L (ix2 r c) heq 0 (.inl h0)).trans
      ((h r c (hout _ _ hr hc hp (.inl h0)).1).trans (congrArg _ (hout _ _ hr hc hp (.inl h0)).2.symm))
  by_cases h1 : a + 512 ≤ r.val
  · exact (View.read_writes_cons_unit_of_not_mem M.view X inb w L (ix2 r c) heq 0 (.inr h1)).trans
      ((h r c (hout _ _ hr hc hp (.inr (.inl h1))).1).trans (congrArg _ (hout _ _ hr hc hp (.inr (.inl h1))).2.symm))
  by_cases h2 : c.val < b
  · exact (View.read_writes_cons_unit_of_not_mem M.view X inb w L (ix2 r c) heq 1 (.inl h2)).trans
      ((h r c (hout _ _ hr hc hp (.inr (.inr (.inl h2)))).1).trans (congrArg _ (hout _ _ hr hc hp (.inr (.inr (.inl h2)))).2.symm))
  by_cases h3 : b + 128 ≤ c.val
  · exact (View.read_writes_cons_unit_of_not_mem M.view X inb w L (ix2 r c) heq 1 (.inr h3)).trans
      ((h r c (hout _ _ hr hc hp (.inr (.inr (.inr h3)))).1).trans (congrArg _ (hout _ _ hr hc hp (.inr (.inr (.inr h3)))).2.symm))
  have e0 : a + (r.val - a) = r.val := by omega
  have e1 : b + (c.val - b) = c.val := by omega
  have hg := hin (r.val - a) (c.val - b) (by omega) (by omega) (by rw [e0, e1]; exact hp)
  rw [e0, e1] at hg
  refine (View.read_writes_cons_unit_of_mem M.view X inb w L (ix2 r c)
    (ix2 (⟨r.val - a, by omega⟩ : Fin 512) (⟨c.val - b, by omega⟩ : Fin 128)) heq (fun d => ?_)).trans
    ((hw ⟨r.val - a, by omega⟩ ⟨c.val - b, by omega⟩).trans (congrArg _ hg.symm))
  match d with
  | ⟨0, _⟩ => exact e0.symm
  | ⟨1, _⟩ => exact e1.symm

/-- A store of a block: what it stores there, what was held elsewhere. -/
theorem upd_narrow {sp : Space} {M : Memref sig .tc sp S2048x128 .bf16} {X : BufTy.Contents (Elt Ideal) M.view.ty} {L : List (View.Piece (Elt Ideal) S2048x128 .bf16)}
    {f f' g : RF} {p p' : ℕ → ℕ → Prop} {off : Fin 2 → ℕ} {inb : ∀ a, off a + S512x128.size a ≤ S2048x128.size a} (a b : ℕ) (heq : off = ![a, b])
    {w : S512x128.Idx → EReal} (hw : Is w g) (h : On (n := 2048) (m := 128) p (M.view.read (Elt Ideal) (M.view.writes (Elt Ideal) X L)) f)
    (hin : ∀ r c, r < 512 → c < 128 → p' (a + r) (b + c) → f' (a + r) (b + c) = g r c)
    (hout : ∀ r c, r < 2048 → c < 128 → p' r c → (r < a ∨ a + 512 ≤ r ∨ c < b ∨ b + 128 ≤ c) → p r c ∧ f' r c = f r c) :
    On (n := 2048) (m := 128) p' (M.view.read (Elt Ideal) (M.view.writes (Elt Ideal) X
      ((⟨Rect.unit (s := S2048x128) off S512x128.size inb, w⟩ : View.Piece (Elt Ideal) S2048x128 .bf16) :: L))) f' := fun r c hp => by
  have hr := r.isLt
  have hc := c.isLt
  by_cases h0 : r.val < a
  · exact (View.read_writes_cons_unit_of_not_mem M.view X inb w L (ix2 r c) heq 0 (.inl h0)).trans
      ((h r c (hout _ _ hr hc hp (.inl h0)).1).trans (congrArg _ (hout _ _ hr hc hp (.inl h0)).2.symm))
  by_cases h1 : a + 512 ≤ r.val
  · exact (View.read_writes_cons_unit_of_not_mem M.view X inb w L (ix2 r c) heq 0 (.inr h1)).trans
      ((h r c (hout _ _ hr hc hp (.inr (.inl h1))).1).trans (congrArg _ (hout _ _ hr hc hp (.inr (.inl h1))).2.symm))
  by_cases h2 : c.val < b
  · exact (View.read_writes_cons_unit_of_not_mem M.view X inb w L (ix2 r c) heq 1 (.inl h2)).trans
      ((h r c (hout _ _ hr hc hp (.inr (.inr (.inl h2)))).1).trans (congrArg _ (hout _ _ hr hc hp (.inr (.inr (.inl h2)))).2.symm))
  by_cases h3 : b + 128 ≤ c.val
  · exact (View.read_writes_cons_unit_of_not_mem M.view X inb w L (ix2 r c) heq 1 (.inr h3)).trans
      ((h r c (hout _ _ hr hc hp (.inr (.inr (.inr h3)))).1).trans (congrArg _ (hout _ _ hr hc hp (.inr (.inr (.inr h3)))).2.symm))
  have e0 : a + (r.val - a) = r.val := by omega
  have e1 : b + (c.val - b) = c.val := by omega
  have hg := hin (r.val - a) (c.val - b) (by omega) (by omega) (by rw [e0, e1]; exact hp)
  rw [e0, e1] at hg
  refine (View.read_writes_cons_unit_of_mem M.view X inb w L (ix2 r c)
    (ix2 (⟨r.val - a, by omega⟩ : Fin 512) (⟨c.val - b, by omega⟩ : Fin 128)) heq (fun d => ?_)).trans
    ((hw ⟨r.val - a, by omega⟩ ⟨c.val - b, by omega⟩).trans (congrArg _ hg.symm))
  match d with
  | ⟨0, _⟩ => exact e0.symm
  | ⟨1, _⟩ => exact e1.symm

/-- A store of a block: what it stores there, what was held elsewhere. -/
theorem upd_narrow32 {sp : Space} {M : Memref sig .tc sp S2048x128 .f32} {X : BufTy.Contents (Elt Ideal) M.view.ty} {L : List (View.Piece (Elt Ideal) S2048x128 .f32)}
    {f f' g : RF} {p p' : ℕ → ℕ → Prop} {off : Fin 2 → ℕ} {inb : ∀ a, off a + S512x128.size a ≤ S2048x128.size a} (a b : ℕ) (heq : off = ![a, b])
    {w : S512x128.Idx → EReal} (hw : Is w g) (h : On (n := 2048) (m := 128) p (M.view.read (Elt Ideal) (M.view.writes (Elt Ideal) X L)) f)
    (hin : ∀ r c, r < 512 → c < 128 → p' (a + r) (b + c) → f' (a + r) (b + c) = g r c)
    (hout : ∀ r c, r < 2048 → c < 128 → p' r c → (r < a ∨ a + 512 ≤ r ∨ c < b ∨ b + 128 ≤ c) → p r c ∧ f' r c = f r c) :
    On (n := 2048) (m := 128) p' (M.view.read (Elt Ideal) (M.view.writes (Elt Ideal) X
      ((⟨Rect.unit (s := S2048x128) off S512x128.size inb, w⟩ : View.Piece (Elt Ideal) S2048x128 .f32) :: L))) f' := fun r c hp => by
  have hr := r.isLt
  have hc := c.isLt
  by_cases h0 : r.val < a
  · exact (View.read_writes_cons_unit_of_not_mem M.view X inb w L (ix2 r c) heq 0 (.inl h0)).trans
      ((h r c (hout _ _ hr hc hp (.inl h0)).1).trans (congrArg _ (hout _ _ hr hc hp (.inl h0)).2.symm))
  by_cases h1 : a + 512 ≤ r.val
  · exact (View.read_writes_cons_unit_of_not_mem M.view X inb w L (ix2 r c) heq 0 (.inr h1)).trans
      ((h r c (hout _ _ hr hc hp (.inr (.inl h1))).1).trans (congrArg _ (hout _ _ hr hc hp (.inr (.inl h1))).2.symm))
  by_cases h2 : c.val < b
  · exact (View.read_writes_cons_unit_of_not_mem M.view X inb w L (ix2 r c) heq 1 (.inl h2)).trans
      ((h r c (hout _ _ hr hc hp (.inr (.inr (.inl h2)))).1).trans (congrArg _ (hout _ _ hr hc hp (.inr (.inr (.inl h2)))).2.symm))
  by_cases h3 : b + 128 ≤ c.val
  · exact (View.read_writes_cons_unit_of_not_mem M.view X inb w L (ix2 r c) heq 1 (.inr h3)).trans
      ((h r c (hout _ _ hr hc hp (.inr (.inr (.inr h3)))).1).trans (congrArg _ (hout _ _ hr hc hp (.inr (.inr (.inr h3)))).2.symm))
  have e0 : a + (r.val - a) = r.val := by omega
  have e1 : b + (c.val - b) = c.val := by omega
  have hg := hin (r.val - a) (c.val - b) (by omega) (by omega) (by rw [e0, e1]; exact hp)
  rw [e0, e1] at hg
  refine (View.read_writes_cons_unit_of_mem M.view X inb w L (ix2 r c)
    (ix2 (⟨r.val - a, by omega⟩ : Fin 512) (⟨c.val - b, by omega⟩ : Fin 128)) heq (fun d => ?_)).trans
    ((hw ⟨r.val - a, by omega⟩ ⟨c.val - b, by omega⟩).trans (congrArg _ hg.symm))
  match d with
  | ⟨0, _⟩ => exact e0.symm
  | ⟨1, _⟩ => exact e1.symm

/-! ## Sums over blocks of 512 -/

theorem sum_block (F : ℕ → ℝ) (k : ℕ) : ∑ r ∈ Finset.range (k + 512), F r = (∑ r ∈ Finset.range k, F r) + ∑ r : Fin 512, F (k + r.val) := by
  rw [Finset.sum_range_add, Finset.sum_range (n := 512)]

theorem sum_block_of_zero (F : ℕ → ℝ) (k : ℕ) (h : ∀ r, r < k → F r = 0) :
    ∑ r ∈ Finset.range (k + 512), F r = ∑ r : Fin 512, F (k + r.val) := by
  rw [sum_block, Finset.sum_eq_zero (fun r hr => h r (Finset.mem_range.mp hr)), zero_add]

theorem sum_block_vanish (F : ℕ → ℝ) (k : ℕ) (h : ∀ r, k ≤ r → F r = 0) : ∑ r ∈ Finset.range (k + 512), F r = ∑ r ∈ Finset.range k, F r := by
  rw [sum_block, Finset.sum_eq_zero (s := Finset.univ) (fun r _ => h _ (Nat.le_add_right _ _)), add_zero]

section
variable (Q K V G L D : RF)
/-- The gradient of the scores that goes with column `e` of the queries and keys. -/
def DSe (e r c : ℕ) : ℝ := if e < 128 then DS Q K V G L D 0 r c else DS Q K V G L D 1 r c
theorem DSe_above (e r c : ℕ) (h : r < c) : DSe Q K V G L D e r c = 0 := by
  unfold DSe; split <;> exact DS_above _ _ _ _ _ _ _ _ _ h
theorem Pl_above (x r c : ℕ) (h : r < c) : Pl Q K L x r c = 0 := by
  unfold Pl; split <;> exact P_above _ _ _ _ _ _ h
/-- The sums over the first `n` columns that make up the gradient of the queries. -/
def qSum (n : ℕ) : RF := fun r e => ∑ c ∈ Finset.range n, DSe Q K V G L D e r c * K c e
/-- The sums over the first `n` rows that make up the gradient of the keys. -/
def kSum (n : ℕ) : RF := fun c e => ∑ r ∈ Finset.range n, DSe Q K V G L D e r c * Q r e
/-- The sums over the first `n` rows that make up the gradient of the values. -/
def vSum (n : ℕ) : RF := fun c x => ∑ r ∈ Finset.range n, Pl Q K L x r c * G r x
end

section
variable {c : Dev nD} {i : grid0.Coords} {arg2 : Memref sig .tc .vmem S2048x256 .bf16} {harg2 : arg2.IsWhole} {arg3 : Memref sig .tc .vmem S2048x256 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S2048x128 .bf16} {harg6 : arg6.IsWhole} {arg7 : Memref sig .tc .vmem S2048x128 .f32} {harg7 : arg7.IsWhole} {arg8 : Memref sig .tc .vmem S2048x256 .bf16} {harg8 : arg8.IsWhole} {arg9 : Memref sig .tc .vmem S2048x256 .bf16} {harg9 : arg9.IsWhole} {arg10 : Memref sig .tc .vmem S2048x128 .bf16} {harg10 : arg10.IsWhole} {arg11 : Memref sig .tc .vmem S2048x256 .f32} {harg11 : arg11.IsWhole} {arg12 : Memref sig .tc .vmem S2048x128 .f32} {harg12 : arg12.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X12 : BufTy.Contents (Elt Ideal) arg12.view.ty} {Q K V O G L D : RF}

/-! ## The row sums -/

theorem rowSums_is (hO : Is (n := 2048) (m := 128) (arg5.view.read (Elt Ideal) X5) O) (hG : Is (n := 2048) (m := 128) (arg6.view.read (Elt Ideal) X6) G)
    (f12 : BufTy.Contents (Elt Ideal) arg12.view.ty) :
    Is (n := 2048) (m := 128) (arg12.view.read (Elt Ideal) (rowSums (F := Ideal) c i arg2 harg2 arg3 harg3 arg4 harg4 arg5 harg5 arg6 harg6 arg7 harg7 arg8 harg8 arg9 harg9 arg10 harg10 arg11 harg11 arg12 harg12 X5 X6 f12)) (rowDot O G) := by
  have main : ∀ n, n ≤ 4 → On (n := 2048) (m := 128) (fun r _ => r < 512 * n) (arg12.view.read (Elt Ideal) (arg12.view.writes (Elt Ideal) f12
      (pb_k0_t1 (F := Ideal) Variants.none c none i arg2 harg2 arg3 harg3 arg4 harg4 arg5 harg5 arg6 harg6 arg7 harg7 arg8 harg8 arg9 harg9 arg10 harg10 arg11 harg11 arg12 harg12 X5 X6 n))) (rowDot O G) := by
    intro n
    induction n with
    | zero => exact fun _ r c h => absurd h (by omega)
    | succ n ih =>
      intro hn
      have hk : n < k0_t1_loop.trips := by rw [t1_trips]; omega
      rw [pb_step (F := Ideal) c i arg2 harg2 arg3 harg3 arg4 harg4 arg5 harg5 arg6 harg6 arg7 harg7 arg8 harg8 arg9 harg9 arg10 harg10 arg11 harg11 arg12 harg12 X5 X6 ⟨n, hk⟩]
      exact upd_narrow32 (512 * n) 0 (k0_off1_eq ⟨n, hk⟩)
        (pay4_is (ld_narrow hG (k0_off1_eq ⟨n, hk⟩)) (ld_narrow hO (k0_off1_eq ⟨n, hk⟩))) (ih (by omega))
        (fun r c _ _ _ => by simp only [sh]) (fun r c hr hc hp ho => ⟨by omega, rfl⟩)
  unfold rowSums
  rw [t1_trips]
  exact (main 4 le_rfl).is fun r c hr hc => by omega

end

section
variable (Q K V G L D : RF)

theorem qSum_lo (n r e : ℕ) (he : e < 128) : qSum Q K V G L D (n + 512) r e = qSum Q K V G L D n r e + ∑ c : Fin 512, DS Q K V G L D 0 r (n + c.val) * K (n + c.val) e := by
  unfold qSum; rw [sum_block]; simp only [DSe, if_pos he]

theorem qSum_hi (n r e : ℕ) : qSum Q K V G L D (n + 512) r (128 + e) = qSum Q K V G L D n r (128 + e) + ∑ c : Fin 512, DS Q K V G L D 1 r (n + c.val) * K (n + c.val) (128 + e) := by
  unfold qSum; rw [sum_block]; simp only [DSe, if_neg (show ¬ 128 + e < 128 by omega)]

theorem qSum_below (n r e : ℕ) (h : r < n) : qSum Q K V G L D (n + 512) r e = qSum Q K V G L D n r e :=
  sum_block_vanish _ _ fun c hc => by rw [DSe_above _ _ _ _ _ _ _ _ _ (by omega), zero_mul]

theorem kSum_lo (n c e : ℕ) (he : e < 128) : kSum Q K V G L D (n + 512) c e = kSum Q K V G L D n c e + ∑ r : Fin 512, DS Q K V G L D 0 (n + r.val) c * Q (n + r.val) e := by
  unfold kSum; rw [sum_block]; simp only [DSe, if_pos he]

theorem kSum_hi (n c e : ℕ) : kSum Q K V G L D (n + 512) c (128 + e) = kSum Q K V G L D n c (128 + e) + ∑ r : Fin 512, DS Q K V G L D 1 (n + r.val) c * Q (n + r.val) (128 + e) := by
  unfold kSum; rw [sum_block]; simp only [DSe, if_neg (show ¬ 128 + e < 128 by omega)]

theorem kSum_zero (n c e : ℕ) (h : n ≤ c) : kSum Q K V G L D n c e = 0 :=
  Finset.sum_eq_zero fun r hr => by rw [DSe_above _ _ _ _ _ _ _ _ _ (lt_of_lt_of_le (Finset.mem_range.mp hr) h), zero_mul]

theorem vSum_block (n c x : ℕ) : vSum Q K G L (n + 512) c x = vSum Q K G L n c x + ∑ r : Fin 512, Pl Q K L x (n + r.val) c * G (n + r.val) x := by
  unfold vSum; rw [sum_block]

theorem vSum_zero (n c x : ℕ) (h : n ≤ c) : vSum Q K G L n c x = 0 :=
  Finset.sum_eq_zero fun r hr => by rw [Pl_above _ _ _ _ _ _ (lt_of_lt_of_le (Finset.mem_range.mp hr) h), zero_mul]

/-- The gradient of the queries while column block `k` is added: rows before `m` have that block's terms, the others not yet. -/
def qPart (k m : ℕ) : RF := fun r e => if r < m then qSum Q K V G L D (512 * k + 512) r e else qSum Q K V G L D (512 * k) r e

/-- The three sums carried down a column block `k`, after the rows before `m`. -/
def Carry (k m : ℕ) (acc : FVec Ideal S512x128 .f32 × FVec Ideal S512x128 .f32 × FVec Ideal S512x128 .f32 × FVec Ideal S1x512 .f32 × FVec Ideal S1x512 .f32) : Prop :=
  Is acc.1 (fun c x => vSum Q K G L m (512 * k + c) x) ∧ Is acc.2.1 (fun c e => kSum Q K V G L D m (512 * k + c) e)
    ∧ Is acc.2.2.1 (fun c e => kSum Q K V G L D m (512 * k + c) (128 + e))

end

section
variable {c : Dev nD} {i : grid0.Coords} {arg2 : Memref sig .tc .vmem S2048x256 .bf16} {harg2 : arg2.IsWhole} {arg3 : Memref sig .tc .vmem S2048x256 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S2048x128 .bf16} {harg6 : arg6.IsWhole} {arg7 : Memref sig .tc .vmem S2048x128 .f32} {harg7 : arg7.IsWhole} {arg8 : Memref sig .tc .vmem S2048x256 .bf16} {harg8 : arg8.IsWhole} {arg9 : Memref sig .tc .vmem S2048x256 .bf16} {harg9 : arg9.IsWhole} {arg10 : Memref sig .tc .vmem S2048x128 .bf16} {harg10 : arg10.IsWhole} {arg11 : Memref sig .tc .vmem S2048x256 .f32} {harg11 : arg11.IsWhole} {arg12 : Memref sig .tc .vmem S2048x128 .f32} {harg12 : arg12.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X12 : BufTy.Contents (Elt Ideal) arg12.view.ty} {Q K V O G L D : RF}

/-! ## One column block -/

theorem diag_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hG : Is (n := 2048) (m := 128) (arg6.view.read (Elt Ideal) X6) G) (hL : Is (n := 2048) (m := 128) (arg7.view.read (Elt Ideal) X7) L) (hD : Is (n := 2048) (m := 128) (arg12.view.read (Elt Ideal) X12) D) (k : Fin k0_t2_loop.trips) :
    Carry Q K V G L D k.val (512 * k.val + 512) (diag (F := Ideal) arg2 arg3 arg4 arg6 arg7 arg12 X2 X3 X4 X6 X7 X12 k) := by
  have o2 := k0_off2_eq k
  have o3 := k0_off3_eq k
  have o4 := k0_off4_eq k
  have q0 := ld_wide hQ (inb := k0_off2_inb k) o2
  have k0 := ld_wide hK (inb := k0_off2_inb k) o2
  have q1 := ld_wide hQ (inb := k0_off3_inb k) o3
  have k1 := ld_wide hK (inb := k0_off3_inb k) o3
  have v := ld_narrow hV (inb := k0_off4_inb k) o4
  have g := ld_narrow hG (inb := k0_off4_inb k) o4
  have l := ld_narrow32 hL (inb := k0_off4_inb k) o4
  have d := ld_narrow32 hD (inb := k0_off4_inb k) o4
  refine ⟨(pay50_is q0 k0 q1 k1 l g).congr fun r c _ _ => ?_, (pay45_is q0 (pay43_is q0 k0 l v g d)).congr fun r c _ hc => ?_,
    (pay51_is q1 k1 l v g d).congr fun r c _ _ => ?_⟩
  · show _ = vSum Q K G L (512 * k.val + 512) (512 * k.val + r) c
    rw [vSum_block, vSum_zero Q K G L _ _ _ (Nat.le_add_right _ _), zero_add]
  · show _ = kSum Q K V G L D (512 * k.val + 512) (512 * k.val + r) c
    rw [kSum_lo _ _ _ _ _ _ _ _ _ hc, kSum_zero _ _ _ _ _ _ _ _ _ (Nat.le_add_right _ _), zero_add]
  · show _ = kSum Q K V G L D (512 * k.val + 512) (512 * k.val + r) (128 + c)
    rw [kSum_hi, kSum_zero _ _ _ _ _ _ _ _ _ (Nat.le_add_right _ _), zero_add]

theorem diagQ_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hG : Is (n := 2048) (m := 128) (arg6.view.read (Elt Ideal) X6) G) (hL : Is (n := 2048) (m := 128) (arg7.view.read (Elt Ideal) X7) L) (hD : Is (n := 2048) (m := 128) (arg12.view.read (Elt Ideal) X12) D) (k : Fin k0_t2_loop.trips) {f11 : BufTy.Contents (Elt Ideal) arg11.view.ty}
    (hf : Is (n := 2048) (m := 256) (arg11.view.read (Elt Ideal) f11) (qSum Q K V G L D (512 * k.val))) :
    Is (n := 2048) (m := 256) (arg11.view.read (Elt Ideal) (arg11.view.writes (Elt Ideal) f11 (diagQ (F := Ideal) arg2 arg3 arg4 arg6 arg7 arg11 arg12 X2 X3 X4 X6 X7 X12 k f11))) (qPart Q K V G L D k.val (512 * k.val + 512)) := by
  have o2 := k0_off2_eq k
  have o3 := k0_off3_eq k
  have o4 := k0_off4_eq k
  have q0 := ld_wide hQ (inb := k0_off2_inb k) o2
  have k0 := ld_wide hK (inb := k0_off2_inb k) o2
  have q1 := ld_wide hQ (inb := k0_off3_inb k) o3
  have k1 := ld_wide hK (inb := k0_off3_inb k) o3
  have v := ld_narrow hV (inb := k0_off4_inb k) o4
  have g := ld_narrow hG (inb := k0_off4_inb k) o4
  have l := ld_narrow32 hL (inb := k0_off4_inb k) o4
  have d := ld_narrow32 hD (inb := k0_off4_inb k) o4
  have f0 := ld_wide32 hf (inb := k0_off2_inb k) o2
  have f1 := ld_wide32 hf (inb := k0_off3_inb k) o3
  have h0 : On (n := 2048) (m := 256) (fun _ _ => True) (arg11.view.read (Elt Ideal) (arg11.view.writes (Elt Ideal) f11 [])) (qSum Q K V G L D (512 * k.val)) :=
    fun r c _ => hf r c
  have h1 := upd_wide32 (p' := fun _ _ => True) (inb := k0_off2_inb k) (f' := fun r e => if 512 * k.val ≤ r ∧ r < 512 * k.val + 512 ∧ e < 128 then qSum Q K V G L D (512 * k.val + 512) r e else qSum Q K V G L D (512 * k.val) r e)
    (512 * k.val) 0 o2 (pay46_is k0 (pay43_is q0 k0 l v g d) f0) h0
    (fun r c hr hc _ => by
      rw [if_pos ⟨by omega, by omega, by omega⟩, Nat.zero_add]
      simp only [sh, Nat.zero_add]
      exact qSum_lo _ _ _ _ _ _ _ _ _ hc)
    (fun r c hr hc _ ho => ⟨trivial, if_neg (by omega)⟩)
  have h2 := upd_wide32 (p' := fun _ _ => True) (inb := k0_off3_inb k) (f' := qPart Q K V G L D k.val (512 * k.val + 512))
    (512 * k.val) 128 o3 (pay52_is q1 k1 l v g d f1) h1
    (fun r c hr hc _ => by
      unfold qPart
      rw [if_pos (by omega)]
      simp only [sh]
      exact qSum_hi _ _ _ _ _ _ _ _ _)
    (fun r c hr hc _ ho => ⟨trivial, by
      unfold qPart
      by_cases h : r < 512 * k.val
      · rw [if_pos (by omega), if_neg (by omega)]
        exact qSum_below _ _ _ _ _ _ _ _ _ h
      · by_cases h' : r < 512 * k.val + 512
        · rw [if_pos h', if_pos ⟨by omega, by omega, by omega⟩]
        · rw [if_neg h', if_neg (by omega)]⟩)
  exact h2.is fun _ _ _ _ => trivial

theorem inner_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hG : Is (n := 2048) (m := 128) (arg6.view.read (Elt Ideal) X6) G) (hL : Is (n := 2048) (m := 128) (arg7.view.read (Elt Ideal) X7) L) (hD : Is (n := 2048) (m := 128) (arg12.view.read (Elt Ideal) X12) D) (k : Fin k0_t2_loop.trips) {f11 : BufTy.Contents (Elt Ideal) arg11.view.ty}
    (hf : Is (n := 2048) (m := 256) (arg11.view.read (Elt Ideal) f11) (qSum Q K V G L D (512 * k.val))) : ∀ n, n ≤ 3 - k.val →
    Carry Q K V G L D k.val (512 * k.val + 512 * n + 512) (inner (F := Ideal) c i arg2 harg2 arg3 harg3 arg4 harg4 arg5 harg5 arg6 harg6 arg7 harg7 arg8 harg8 arg9 harg9 arg10 harg10 arg11 harg11 arg12 harg12 X2 X3 X4 X6 X7 X12 k f11 n).1
    ∧ Is (n := 2048) (m := 256) (arg11.view.read (Elt Ideal) (arg11.view.writes (Elt Ideal) (arg11.view.writes (Elt Ideal) f11 (diagQ (F := Ideal) arg2 arg3 arg4 arg6 arg7 arg11 arg12 X2 X3 X4 X6 X7 X12 k f11)) (inner (F := Ideal) c i arg2 harg2 arg3 harg3 arg4 harg4 arg5 harg5 arg6 harg6 arg7 harg7 arg8 harg8 arg9 harg9 arg10 harg10 arg11 harg11 arg12 harg12 X2 X3 X4 X6 X7 X12 k f11 n).2))
        (qPart Q K V G L D k.val (512 * k.val + 512 * n + 512)) := by
  intro n
  induction n with
  | zero =>
    intro _
    exact ⟨diag_is hQ hK hV hG hL hD k, diagQ_is hQ hK hV hG hL hD k hf⟩
  | succ n ih =>
    intro hn
    obtain ⟨⟨iv, ik0, ik1⟩, iq⟩ := ih (by omega)
    have hj : n < (k0_t3_loop k).trips := by rw [t3_trips]; omega
    have o5 := k0_off5_eq k ⟨n, hj⟩
    have o6 := k0_off6_eq k ⟨n, hj⟩
    have o7 := k0_off7_eq k
    have o8 := k0_off8_eq k
    have o9 := k0_off9_eq k
    have o10 := k0_off10_eq k ⟨n, hj⟩
    have q0 := ld_wide hQ (inb := k0_off5_inb k ⟨n, hj⟩) o5
    have q1 := ld_wide hQ (inb := k0_off6_inb k ⟨n, hj⟩) o6
    have k0 := ld_wide hK (inb := k0_off7_inb k) o7
    have k1 := ld_wide hK (inb := k0_off8_inb k) o8
    have v := ld_narrow hV (inb := k0_off9_inb k) o9
    have g := ld_narrow hG (inb := k0_off10_inb k ⟨n, hj⟩) o10
    have l := ld_narrow32 hL (inb := k0_off10_inb k ⟨n, hj⟩) o10
    have d := ld_narrow32 hD (inb := k0_off10_inb k ⟨n, hj⟩) o10
    have f0 := ld_wide32 iq (inb := k0_off5_inb k ⟨n, hj⟩) o5
    have f1 := ld_wide32 iq (inb := k0_off6_inb k ⟨n, hj⟩) o6
    have hab : 512 * k.val + 512 ≤ 512 * k.val + 512 * n + 512 := by omega
    have e : 512 * k.val + 512 * (n + 1) + 512 = 512 * k.val + 512 * n + 512 + 512 := by omega
    have ds := pay14_is hab q0 k0 l v g d
    have s := st_k0_t3_succ (F := Ideal) Variants.none c none i arg2 harg2 arg3 harg3 arg4 harg4 arg5 harg5 arg6 harg6 arg7 harg7 arg8 harg8 arg9 harg9 arg10 harg10 arg11 harg11 arg12 harg12 k (trip.sl.v14 k) (trip.sl.v105 k) X2 X3 X4 X6 X7 X12
      (arg11.view.writes (Elt Ideal) f11 (diagQ (F := Ideal) arg2 arg3 arg4 arg6 arg7 arg11 arg12 X2 X3 X4 X6 X7 X12 k f11)) (diag (F := Ideal) arg2 arg3 arg4 arg6 arg7 arg12 X2 X3 X4 X6 X7 X12 k) ⟨n, hj⟩
    rw [inner_val, inner_list] at s
    have s' : inner (F := Ideal) c i arg2 harg2 arg3 harg3 arg4 harg4 arg5 harg5 arg6 harg6 arg7 harg7 arg8 harg8 arg9 harg9 arg10 harg10 arg11 harg11 arg12 harg12 X2 X3 X4 X6 X7 X12 k f11 (n + 1) = _ := s
    rw [s', e]
    refine ⟨⟨(pay20_is hab q0 k0 q1 k1 l g iv).congr fun r c _ _ => ?_, (pay21_is q0 ds ik0).congr fun r c _ hc => ?_,
      (pay22_is hab q1 k1 l v g d ik1).congr fun r c _ _ => ?_⟩, ?_⟩
    · exact (vSum_block _ _ _ _ _ _ _).symm
    · exact (kSum_lo _ _ _ _ _ _ _ _ _ hc).symm
    · exact (kSum_hi _ _ _ _ _ _ _ _ _).symm
    have h0 : On (n := 2048) (m := 256) (fun _ _ => True) _ _ := fun r c _ => iq r c
    have h1 := upd_wide32 (p' := fun _ _ => True) (inb := k0_off5_inb k ⟨n, hj⟩)
      (f' := fun r e => if 512 * k.val + 512 * n + 512 ≤ r ∧ r < 512 * k.val + 512 * n + 512 + 512 ∧ e < 128 then qSum Q K V G L D (512 * k.val + 512) r e
        else qPart Q K V G L D k.val (512 * k.val + 512 * n + 512) r e)
      (512 * k.val + 512 * n + 512) 0 o5 (pay16_is k0 ds f0) h0
      (fun r c hr hc _ => by
        rw [if_pos ⟨by omega, by omega, by omega⟩, Nat.zero_add]
        simp only [sh, Nat.zero_add, qPart]
        rw [if_neg (by omega)]
        exact qSum_lo _ _ _ _ _ _ _ _ _ hc)
      (fun r c hr hc _ ho => ⟨trivial, if_neg (by omega)⟩)
    have h2 := upd_wide32 (p' := fun _ _ => True) (inb := k0_off6_inb k ⟨n, hj⟩) (f' := qPart Q K V G L D k.val (512 * k.val + 512 * n + 512 + 512))
      (512 * k.val + 512 * n + 512) 128 o6 (pay19_is hab q1 k1 l v g d f1) h1
      (fun r c hr hc _ => by
        simp only [sh, qPart]
        rw [if_pos (by omega), if_neg (by omega)]
        exact qSum_hi _ _ _ _ _ _ _ _ _)
      (fun r c hr hc _ ho => ⟨trivial, by
        unfold qPart
        by_cases h : 512 * k.val + 512 * n + 512 ≤ r ∧ r < 512 * k.val + 512 * n + 512 + 512 ∧ c < 128
        · rw [if_pos h, if_pos (by omega)]
        · rw [if_neg h]
          by_cases h' : r < 512 * k.val + 512 * n + 512
          · rw [if_pos h', if_pos (by omega)]
          · rw [if_neg h', if_neg (by omega)]⟩)
    exact h2.is fun _ _ _ _ => trivial

end

section
variable {c : Dev nD} {i : grid0.Coords} {arg2 : Memref sig .tc .vmem S2048x256 .bf16} {harg2 : arg2.IsWhole} {arg3 : Memref sig .tc .vmem S2048x256 .bf16} {harg3 : arg3.IsWhole} {arg4 : Memref sig .tc .vmem S2048x128 .bf16} {harg4 : arg4.IsWhole} {arg5 : Memref sig .tc .vmem S2048x128 .bf16} {harg5 : arg5.IsWhole} {arg6 : Memref sig .tc .vmem S2048x128 .bf16} {harg6 : arg6.IsWhole} {arg7 : Memref sig .tc .vmem S2048x128 .f32} {harg7 : arg7.IsWhole} {arg8 : Memref sig .tc .vmem S2048x256 .bf16} {harg8 : arg8.IsWhole} {arg9 : Memref sig .tc .vmem S2048x256 .bf16} {harg9 : arg9.IsWhole} {arg10 : Memref sig .tc .vmem S2048x128 .bf16} {harg10 : arg10.IsWhole} {arg11 : Memref sig .tc .vmem S2048x256 .f32} {harg11 : arg11.IsWhole} {arg12 : Memref sig .tc .vmem S2048x128 .f32} {harg12 : arg12.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X12 : BufTy.Contents (Elt Ideal) arg12.view.ty} {Q K V O G L D : RF}

/-! ## The whole block -/

theorem pay7_is {x : FVec Ideal S512x128 .f32} {f : RF} (h : Is x f) : Is (k0_pay7 (F := Ideal) x) f := fun r c => by
  pointwise [k0_pay7]; exact h r c
theorem pay8_is {x : FVec Ideal S512x128 .f32} {f : RF} (h : Is x f) : Is (k0_pay8 (F := Ideal) x) f := fun r c => by
  pointwise [k0_pay8]; exact h r c
theorem pay9_is {x : FVec Ideal S512x128 .f32} {f : RF} (h : Is x f) : Is (k0_pay9 (F := Ideal) x) f := fun r c => by
  pointwise [k0_pay9]; exact h r c
theorem pay10_is {x : FVec Ideal S2048x256 .f32} {f : RF} (h : Is (n := 2048) (m := 256) x f) : Is (n := 2048) (m := 256) (k0_pay10 (F := Ideal) x) f := fun r c => by
  pointwise [k0_pay10]; exact h r c

theorem acc0_is : Is (n := 2048) (m := 256) (arg11.view.read (Elt Ideal) (acc0 (F := Ideal) arg11)) (qSum Q K V G L D (512 * 0)) := fun r e => by
  unfold acc0
  refine (View.read_writes_cons_unit_of_mem arg11.view _ _ _ [] (ix2 r e) (ix2 r e) rfl (fun d => ?_)).trans ?_
  · match d with
    | ⟨0, _⟩ => exact (Nat.zero_add _).symm
    | ⟨1, _⟩ => exact (Nat.zero_add _).symm
  · have h : qSum Q K V G L D (512 * 0) r.val e.val = 0 := rfl
    rw [h]
    pointwise [k0_pay3]
    rfl

attribute [local irreducible] kSum vSum qSum inner diag diagQ pieces k0_pay7 k0_pay8 k0_pay9

theorem outer_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hG : Is (n := 2048) (m := 128) (arg6.view.read (Elt Ideal) X6) G) (hL : Is (n := 2048) (m := 128) (arg7.view.read (Elt Ideal) X7) L) (hD : Is (n := 2048) (m := 128) (arg12.view.read (Elt Ideal) X12) D) : ∀ n, n ≤ 4 →
    Is (n := 2048) (m := 256) (arg11.view.read (Elt Ideal) (arg11.view.writes (Elt Ideal) (acc0 arg11) (pieces (F := Ideal) c i arg2 harg2 arg3 harg3 arg4 harg4 arg5 harg5 arg6 harg6 arg7 harg7 arg8 harg8 arg9 harg9 arg10 harg10 arg11 harg11 arg12 harg12 X2 X3 X4 X6 X7 X12 (acc0 arg11) n).2.2)) (qSum Q K V G L D (512 * n))
    ∧ On (n := 2048) (m := 256) (fun r _ => r < 512 * n) (arg9.view.read (Elt Ideal) (arg9.view.writes (Elt Ideal) arg9.view.junk (pieces (F := Ideal) c i arg2 harg2 arg3 harg3 arg4 harg4 arg5 harg5 arg6 harg6 arg7 harg7 arg8 harg8 arg9 harg9 arg10 harg10 arg11 harg11 arg12 harg12 X2 X3 X4 X6 X7 X12 (acc0 arg11) n).1)) (kSum Q K V G L D 2048)
    ∧ On (n := 2048) (m := 128) (fun r _ => r < 512 * n) (arg10.view.read (Elt Ideal) (arg10.view.writes (Elt Ideal) arg10.view.junk (pieces (F := Ideal) c i arg2 harg2 arg3 harg3 arg4 harg4 arg5 harg5 arg6 harg6 arg7 harg7 arg8 harg8 arg9 harg9 arg10 harg10 arg11 harg11 arg12 harg12 X2 X3 X4 X6 X7 X12 (acc0 arg11) n).2.1)) (vSum Q K G L 2048) := by
  intro n
  induction n with
  | zero => exact fun _ => ⟨by with_unfolding_all exact acc0_is, fun r c h => absurd h (by omega), fun r c h => absurd h (by omega)⟩
  | succ n ih =>
    intro hn
    obtain ⟨iq, ik, iv⟩ := ih (by omega)
    have hk : n < k0_t2_loop.trips := by rw [t2_trips]; omega
    have s := pieces_succ (F := Ideal) c i arg2 harg2 arg3 harg3 arg4 harg4 arg5 harg5 arg6 harg6 arg7 harg7 arg8 harg8 arg9 harg9 arg10 harg10 arg11 harg11 arg12 harg12 X2 X3 X4 X6 X7 X12 (acc0 arg11) ⟨n, hk⟩
    rw [trip_9, trip_10, trip_11] at s
    have s' : pieces (F := Ideal) c i arg2 harg2 arg3 harg3 arg4 harg4 arg5 harg5 arg6 harg6 arg7 harg7 arg8 harg8 arg9 harg9 arg10 harg10 arg11 harg11 arg12 harg12 X2 X3 X4 X6 X7 X12 (acc0 arg11) (n + 1) = _ := s
    have ht : (k0_t3_loop ⟨n, hk⟩).trips = 3 - n := t3_trips ⟨n, hk⟩
    obtain ⟨⟨cv, ck0, ck1⟩, cq⟩ := inner_is hQ hK hV hG hL hD ⟨n, hk⟩ iq (3 - n) (le_refl _)
    rw [← ht] at cv ck0 ck1 cq
    have e2 : 512 * (⟨n, hk⟩ : Fin k0_t2_loop.trips).val + 512 * (k0_t3_loop ⟨n, hk⟩).trips + 512 = 2048 := by
      rw [ht]; show 512 * n + 512 * (3 - n) + 512 = 2048; omega
    rw [e2] at cv ck0 ck1 cq
    have en : 512 * (n + 1) = 512 * n + 512 := by omega
    rw [s', en]
    refine ⟨?_, ?_, ?_⟩
    · rw [View.writes_append, View.writes_append]
      exact cq.congr fun r c hr hc => if_pos hr
    · have h1 := upd_wide (p' := fun r e => r < 512 * n ∨ (r < 512 * n + 512 ∧ e < 128)) (f' := kSum Q K V G L D 2048) (inb := k0_off2_inb ⟨n, hk⟩)
        (512 * n) 0 (k0_off2_eq ⟨n, hk⟩) (pay8_is ck0) ik (fun r c hr hc _ => by rw [Nat.zero_add]) (fun r c hr hc hp ho => ⟨by omega, rfl⟩)
      have h2 := upd_wide (p' := fun r e => r < 512 * n + 512) (f' := kSum Q K V G L D 2048) (inb := k0_off3_inb ⟨n, hk⟩)
        (512 * n) 128 (k0_off3_eq ⟨n, hk⟩) (pay9_is ck1) h1 (fun r c hr hc _ => rfl) (fun r c hr hc hp ho => ⟨by omega, rfl⟩)
      exact h2
    · have h1 := upd_narrow (p' := fun r e => r < 512 * n + 512) (f' := vSum Q K G L 2048) (inb := k0_off4_inb ⟨n, hk⟩)
        (512 * n) 0 (k0_off4_eq ⟨n, hk⟩) (pay7_is cv) iv (fun r c hr hc _ => by rw [Nat.zero_add]) (fun r c hr hc hp ho => ⟨by omega, rfl⟩)
      exact h1

theorem outK_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hO : Is (n := 2048) (m := 128) (arg5.view.read (Elt Ideal) X5) O) (hG : Is (n := 2048) (m := 128) (arg6.view.read (Elt Ideal) X6) G) (hL : Is (n := 2048) (m := 128) (arg7.view.read (Elt Ideal) X7) L) :
    Is (n := 2048) (m := 256) (outK (F := Ideal) c i arg2 harg2 arg3 harg3 arg4 harg4 arg5 harg5 arg6 harg6 arg7 harg7 arg8 harg8 arg9 harg9 arg10 harg10 arg11 harg11 arg12 harg12 X2 X3 X4 X5 X6 X7) (kSum Q K V G L (rowDot O G) 2048) := by
  rw [← read_outK (F := Ideal) c i arg2 harg2 arg3 harg3 arg4 harg4 arg5 harg5 arg6 harg6 arg7 harg7 arg8 harg8 arg9 harg9 arg10 harg10 arg11 harg11 arg12 harg12 X2 X3 X4 X5 X6 X7 arg9.view.junk arg12.view.junk, body_9, t2_trips]
  exact (outer_is hQ hK hV hG hL (rowSums_is hO hG arg12.view.junk) 4 (le_refl _)).2.1.is fun r c hr hc => by omega

theorem outV_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hO : Is (n := 2048) (m := 128) (arg5.view.read (Elt Ideal) X5) O) (hG : Is (n := 2048) (m := 128) (arg6.view.read (Elt Ideal) X6) G) (hL : Is (n := 2048) (m := 128) (arg7.view.read (Elt Ideal) X7) L) :
    Is (n := 2048) (m := 128) (outV (F := Ideal) c i arg2 harg2 arg3 harg3 arg4 harg4 arg5 harg5 arg6 harg6 arg7 harg7 arg8 harg8 arg9 harg9 arg10 harg10 arg11 harg11 arg12 harg12 X2 X3 X4 X5 X6 X7) (vSum Q K G L 2048) := by
  rw [← read_outV (F := Ideal) c i arg2 harg2 arg3 harg3 arg4 harg4 arg5 harg5 arg6 harg6 arg7 harg7 arg8 harg8 arg9 harg9 arg10 harg10 arg11 harg11 arg12 harg12 X2 X3 X4 X5 X6 X7 arg10.view.junk arg12.view.junk, body_10, t2_trips]
  exact (outer_is hQ hK hV hG hL (rowSums_is hO hG arg12.view.junk) 4 (le_refl _)).2.2.is fun r c hr hc => by omega

theorem outQ_is (hQ : Is (n := 2048) (m := 256) (arg2.view.read (Elt Ideal) X2) Q) (hK : Is (n := 2048) (m := 256) (arg3.view.read (Elt Ideal) X3) K) (hV : Is (n := 2048) (m := 128) (arg4.view.read (Elt Ideal) X4) V)
    (hO : Is (n := 2048) (m := 128) (arg5.view.read (Elt Ideal) X5) O) (hG : Is (n := 2048) (m := 128) (arg6.view.read (Elt Ideal) X6) G) (hL : Is (n := 2048) (m := 128) (arg7.view.read (Elt Ideal) X7) L) :
    Is (n := 2048) (m := 256) (outQ (F := Ideal) c i arg2 harg2 arg3 harg3 arg4 harg4 arg5 harg5 arg6 harg6 arg7 harg7 arg8 harg8 arg9 harg9 arg10 harg10 arg11 harg11 arg12 harg12 X2 X3 X4 X5 X6 X7) (qSum Q K V G L (rowDot O G) 2048) := fun r e => by
  have h := (outer_is (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) hQ hK hV hG hL (rowSums_is (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) hO hG arg12.view.junk) 4 (le_refl _)).1
  unfold outQ
  rw [body_8, t2_trips]
  refine (canon_hit (F := Ideal) (s := S2048x256) (e := .bf16) ![0, 0] _ _ [] (ix2 r e) (ix2 r e) rfl (fun d => ?_)).trans ?_
  · match d with
    | ⟨0, _⟩ => exact (Nat.zero_add _).symm
    | ⟨1, _⟩ => exact (Nat.zero_add _).symm
  · refine pay10_is (f := qSum Q K V G L (rowDot O G) 2048) (fun r e => ?_) r e
    refine Eq.trans ?_ (h r e)
    refine congrArg (arg11.view.read (Elt Ideal) _) (?_ : (Rect.unit (s := S2048x256) ![0, 0] S2048x256.size inb_S2048x256_S2048x256_0_0).toLoadRect.idx (ix2 r e) = ix2 r e)
    funext d
    match d with
    | ⟨0, _⟩ => exact Fin.ext (show 0 + 1 * r.val = r.val by omega)
    | ⟨1, _⟩ => exact Fin.ext (show 0 + 1 * e.val = e.val by omega)

end

end Cert.KernelIdeal.Hand

end
-- ==== Proof.Softmax.lean ====
/-
  The mathematics of causal softmax attention and of its gradient, on real arrays: one row of the softmax, taken after any
  shift of the row, and the equation between the gradient written with the saved logarithm of the row sums and the gradient
  written with the probabilities.
-/
module

public import proofs.«01_k».proof.Proof.Block

@[expose] public section

set_option maxHeartbeats 400000

noncomputable section

namespace Cert.Attn

open Idealize.ShloMosaic
open Cert.KernelIdeal.Hand

/-! ## One row -/

section
variable (s : ℕ → ℝ) (M : ℝ) (r : ℕ)

/-- The masked scores of row `r`: a score after the diagonal is −∞. -/
def lg (c : ℕ) : EReal := if c ≤ r then ((s c : ℝ) : EReal) else ⊥
/-- The weights of row `r` after the shift by `M`. -/
def wt (c : ℕ) : ℝ := if c ≤ r then Real.exp (s c - M) else 0
/-- The sum of the weights. -/
def tot : ℝ := ∑ c : Fin 2048, wt s M r c.val
/-- The probabilities. -/
def soft (c : ℕ) : ℝ := wt s 0 r c / tot s 0 r

theorem wt_nonneg (c : ℕ) : 0 ≤ wt s M r c := by
  unfold wt; split
  · exact (Real.exp_pos _).le
  · exact le_refl _

theorem wt_shift (c : ℕ) : wt s M r c = Real.exp (-M) * wt s 0 r c := by
  unfold wt; split
  · rw [← Real.exp_add]; congr 1; ring
  · rw [mul_zero]

theorem tot_shift : tot s M r = Real.exp (-M) * tot s 0 r := by
  unfold tot
  rw [Finset.mul_sum]
  exact Finset.sum_congr rfl fun c _ => wt_shift s M r c.val

theorem tot_pos (hr : r < 2048) : 0 < tot s M r := by
  refine Finset.sum_pos' (fun c _ => wt_nonneg s M r c.val) ⟨⟨r, hr⟩, Finset.mem_univ _, ?_⟩
  rw [wt, if_pos (le_refl r)]
  exact Real.exp_pos _

/-- The largest masked score of a row is a real number: the diagonal is one. -/
theorem fold_real (hr : r < 2048) : ∃ M : ℝ, Finset.fold max ⊥ (fun c : Fin 2048 => lg s r c.val) Finset.univ = ((M : ℝ) : EReal) := by
  have h1 : Finset.fold max ⊥ (fun c : Fin 2048 => lg s r c.val) Finset.univ < ⊤ := by
    rw [Finset.fold_max_lt]
    refine ⟨bot_lt_top, fun c _ => ?_⟩
    unfold lg; split
    · exact EReal.coe_lt_top _
    · exact bot_lt_top
  have h2 : ⊥ < Finset.fold max ⊥ (fun c : Fin 2048 => lg s r c.val) Finset.univ := by
    rw [Finset.lt_fold_max]
    refine Or.inr ⟨⟨r, hr⟩, Finset.mem_univ _, ?_⟩
    show ⊥ < lg s r r
    rw [lg, if_pos (le_refl r)]
    exact EReal.bot_lt_coe _
  exact ⟨_, (EReal.coe_toReal h1.ne h2.ne').symm⟩

theorem exp_lg (c : ℕ) : Ideal.exp (lg s r c - ((M : ℝ) : EReal)) = ((wt s M r c : ℝ) : EReal) := by
  unfold lg wt; split
  · rw [← EReal.coe_sub, coe_exp]
  · rw [EReal.bot_sub]; rfl

theorem sum_exp_lg : ∑ c : Fin 2048, Ideal.exp (lg s r c.val - ((M : ℝ) : EReal)) = ((tot s M r : ℝ) : EReal) := by
  simp only [exp_lg]
  exact coe_sum _ _

theorem div_wt (hr : r < 2048) (c : ℕ) : Ideal.div ((wt s M r c : ℝ) : EReal) ((tot s M r : ℝ) : EReal) = ((soft s r c : ℝ) : EReal) := by
  have h : ((tot s M r : ℝ) : EReal) ≠ 0 := by exact_mod_cast (tot_pos s M r hr).ne'
  rw [Ideal.div, if_neg h, ← EReal.coe_inv, ← EReal.coe_mul]
  congr 1
  rw [soft, wt_shift, tot_shift]
  have := (tot_pos s 0 r hr).ne'
  have := (Real.exp_pos (-M)).ne'
  field_simp

theorem lse_eq (hr : r < 2048) : ((M : ℝ) : EReal) + Ideal.log ((tot s M r : ℝ) : EReal) = ((Real.log (tot s 0 r) : ℝ) : EReal) := by
  have h := tot_pos s M r hr
  have e : Ideal.log ((tot s M r : ℝ) : EReal) = ((Real.log (tot s M r) : ℝ) : EReal) := by
    exact (show Ideal.log ((tot s M r : ℝ) : EReal) = _ from rfl).trans (by simp [h, h.ne', not_lt.mpr h.le, not_le.mpr h])
  rw [e, ← EReal.coe_add]
  congr 1
  rw [tot_shift, Real.log_mul (Real.exp_pos _).ne' (tot_pos s 0 r hr).ne', Real.log_exp]
  ring

/-- The probabilities, from the logarithm of the row sum. -/
theorem soft_of_log (hr : r < 2048) (c : ℕ) : (if c ≤ r then Real.exp (s c - Real.log (tot s 0 r)) else 0) = soft s r c := by
  have h := tot_pos s 0 r hr
  unfold soft wt; split
  · rw [Real.exp_sub, Real.exp_log h, sub_zero]
  · rw [zero_div]

theorem soft_above (c : ℕ) (h : r < c) : soft s r c = 0 := by
  unfold soft wt; rw [if_neg (by omega), zero_div]

/-- The gradient of a quotient by the row sum, brought to the form with the probabilities. -/
theorem grad_eq (hr : r < 2048) (dp : ℕ → ℝ) (c : ℕ) :
    (dp c / tot s M r + -(∑ x : Fin 2048, dp x.val * (1 / (tot s M r * tot s M r)) * wt s M r x.val)) * wt s M r c
      = soft s r c * (dp c - ∑ x : Fin 2048, soft s r x.val * dp x.val) := by
  have h := (tot_pos s 0 r hr).ne'
  have hM := (Real.exp_pos (-M)).ne'
  have e : ∀ x, soft s r x = wt s M r x / tot s M r := fun x => by
    rw [soft, wt_shift s M, tot_shift s M]; field_simp
  have hM' := (tot_pos s M r hr).ne'
  have e2 : ∑ x : Fin 2048, dp x.val * (1 / (tot s M r * tot s M r)) * wt s M r x.val
      = (∑ x : Fin 2048, soft s r x.val * dp x.val) / tot s M r := by
    rw [Finset.sum_div]
    refine Finset.sum_congr rfl fun x _ => ?_
    rw [e]; field_simp
  rw [e2, e c]
  field_simp
  ring

end

/-! ## The arrays: two sequences of 2048 rows, sixteen heads -/

section
variable (q kv g : RF)

/-- The scores of sequence `b` and head `h`. -/
def sc (b h r c : ℕ) : ℝ := ∑ e : Fin 128, q (b * 2048 + r) (h * 128 + e.val) * kv (b * 2048 + c) (h * 128 + e.val)
/-- The probabilities. -/
def pr (b h r c : ℕ) : ℝ := soft (sc q kv b h r) r c
/-- The gradient of the probabilities. -/
def dpr (b h r c : ℕ) : ℝ := ∑ d : Fin 64, g (b * 2048 + r) (h * 64 + d.val) * kv (b * 2048 + c) (2048 + (h * 64 + d.val))
/-- The gradient of the scores. -/
def dsc (b h r c : ℕ) : ℝ := pr q kv b h r c * (dpr kv g b h r c - ∑ x : Fin 2048, pr q kv b h r x.val * dpr kv g b h r x.val)
/-- The gradient of the queries. -/
def dQ : RF := fun i j => ∑ c : Fin 2048, dsc q kv g (i / 2048) (j / 128) (i % 2048) c.val * kv (i / 2048 * 2048 + c.val) (j / 128 * 128 + j % 128)
/-- The gradient of the keys. -/
def dK : RF := fun i j => ∑ r : Fin 2048, dsc q kv g (i / 2048) (j / 128) r.val (i % 2048) * q (i / 2048 * 2048 + r.val) (j / 128 * 128 + j % 128)
/-- The gradient of the values. -/
def dV : RF := fun i j => ∑ r : Fin 2048, pr q kv (i / 2048) (j / 64) r.val (i % 2048) * g (i / 2048 * 2048 + r.val) (j / 64 * 64 + j % 64)
/-- The output of the forward attention. -/
def oA : RF := fun i j => ∑ c : Fin 2048, kv (i / 2048 * 2048 + c.val) (2048 + (j / 64 * 64 + j % 64)) * pr q kv (i / 2048) (j / 64) (i % 2048) c.val
/-- The logarithms of the row sums, on every lane of a head. -/
def lA : RF := fun i j => Real.log (tot (sc q kv (i / 2048) (j / 64) (i % 2048)) 0 (i % 2048))

variable (b p : ℕ)

theorem S_eq (h r c : ℕ) : S (sh (2048 * b) (256 * p) q) (sh (2048 * b) (256 * p) kv) h r c = sc q kv b (2 * p + h) r c := by
  unfold S sc sh
  refine Finset.sum_congr rfl fun e _ => ?_
  rw [show 2048 * b + r = b * 2048 + r by omega, show 2048 * b + c = b * 2048 + c by omega,
    show 256 * p + (128 * h + e.val) = (2 * p + h) * 128 + e.val by omega]

theorem L_eq (h r : ℕ) (hr : r < 2048) :
    sh (2048 * b) (128 * p) (lA q kv) r (64 * h) = Real.log (tot (sc q kv b (2 * p + h) r) 0 r) := by
  unfold sh lA
  rw [show (2048 * b + r) / 2048 = b by omega, show (2048 * b + r) % 2048 = r by omega, show (128 * p + 64 * h) / 64 = 2 * p + h by omega]

theorem P_eq (h r c : ℕ) (hr : r < 2048) :
    P (sh (2048 * b) (256 * p) q) (sh (2048 * b) (256 * p) kv) (sh (2048 * b) (128 * p) (lA q kv)) h r c = pr q kv b (2 * p + h) r c := by
  unfold P pr
  rw [← soft_of_log _ r hr, S_eq, L_eq q kv b p h r hr]

theorem DP_eq (h r c : ℕ) :
    DP (sh (2048 * b) (2048 + 128 * p) kv) (sh (2048 * b) (128 * p) g) h r c = dpr kv g b (2 * p + h) r c := by
  unfold DP dpr sh
  refine Finset.sum_congr rfl fun e _ => ?_
  rw [show 2048 * b + r = b * 2048 + r by omega, show 2048 * b + c = b * 2048 + c by omega,
    show 128 * p + (64 * h + e.val) = (2 * p + h) * 64 + e.val by omega,
    show 2048 + 128 * p + (64 * h + e.val) = 2048 + ((2 * p + h) * 64 + e.val) by omega]

theorem rowDot_eq (h r : ℕ) (hh : h < 2) (hr : r < 2048) :
    rowDot (sh (2048 * b) (128 * p) (oA q kv)) (sh (2048 * b) (128 * p) g) r (64 * h)
      = ∑ x : Fin 2048, pr q kv b (2 * p + h) r x.val * dpr kv g b (2 * p + h) r x.val := by
  have e1 : rowDot (sh (2048 * b) (128 * p) (oA q kv)) (sh (2048 * b) (128 * p) g) r (64 * h)
      = ∑ d : Fin 64, g (2048 * b + r) (128 * p + (64 * h + d.val)) * oA q kv (2048 * b + r) (128 * p + (64 * h + d.val)) := by
    unfold rowDot sh
    obtain rfl | rfl : h = 0 ∨ h = 1 := by omega
    · simp
    · simp
  rw [e1]
  have e2 : ∀ d : Fin 64, g (2048 * b + r) (128 * p + (64 * h + d.val)) * oA q kv (2048 * b + r) (128 * p + (64 * h + d.val))
      = ∑ x : Fin 2048, pr q kv b (2 * p + h) r x.val * (g (b * 2048 + r) ((2 * p + h) * 64 + d.val) * kv (b * 2048 + x.val) (2048 + ((2 * p + h) * 64 + d.val))) := fun d => by
    have hd := d.isLt
    unfold oA
    rw [show (2048 * b + r) / 2048 = b by omega, show (2048 * b + r) % 2048 = r by omega,
      show (128 * p + (64 * h + d.val)) / 64 = 2 * p + h by omega, show (128 * p + (64 * h + d.val)) % 64 = d.val by omega,
      show 2048 * b + r = b * 2048 + r by omega, show 128 * p + (64 * h + d.val) = (2 * p + h) * 64 + d.val by omega, Finset.mul_sum]
    exact Finset.sum_congr rfl fun x _ => by ring
  rw [Finset.sum_congr rfl fun d _ => e2 d, Finset.sum_comm]
  refine Finset.sum_congr rfl fun x _ => ?_
  rw [dpr, Finset.mul_sum]

theorem DS_eq (h r c : ℕ) (hh : h < 2) (hr : r < 2048) :
    DS (sh (2048 * b) (256 * p) q) (sh (2048 * b) (256 * p) kv) (sh (2048 * b) (2048 + 128 * p) kv) (sh (2048 * b) (128 * p) g)
      (sh (2048 * b) (128 * p) (lA q kv)) (rowDot (sh (2048 * b) (128 * p) (oA q kv)) (sh (2048 * b) (128 * p) g)) h r c
      = dsc q kv g b (2 * p + h) r c := by
  unfold DS dsc
  rw [P_eq q kv b p h r c hr, DP_eq, rowDot_eq q kv g b p h r hh hr]

theorem DSe_eq (e r c : ℕ) (he : e < 256) (hr : r < 2048) :
    DSe (sh (2048 * b) (256 * p) q) (sh (2048 * b) (256 * p) kv) (sh (2048 * b) (2048 + 128 * p) kv) (sh (2048 * b) (128 * p) g)
      (sh (2048 * b) (128 * p) (lA q kv)) (rowDot (sh (2048 * b) (128 * p) (oA q kv)) (sh (2048 * b) (128 * p) g)) e r c
      = dsc q kv g b ((256 * p + e) / 128) r c := by
  unfold DSe
  split
  · rw [DS_eq q kv g b p 0 r c (by omega) hr, show (256 * p + e) / 128 = 2 * p + 0 by omega]
  · rw [DS_eq q kv g b p 1 r c (by omega) hr, show (256 * p + e) / 128 = 2 * p + 1 by omega]

theorem Pl_eq (x r c : ℕ) (hx : x < 128) (hr : r < 2048) :
    Pl (sh (2048 * b) (256 * p) q) (sh (2048 * b) (256 * p) kv) (sh (2048 * b) (128 * p) (lA q kv)) x r c
      = pr q kv b ((128 * p + x) / 64) r c := by
  unfold Pl
  split
  · rw [P_eq q kv b p 0 r c hr, show (128 * p + x) / 64 = 2 * p + 0 by omega]
  · rw [P_eq q kv b p 1 r c hr, show (128 * p + x) / 64 = 2 * p + 1 by omega]

/-- A block of the gradient of the queries. -/
theorem qSum_eq (r e : ℕ) (hr : r < 2048) (he : e < 256) :
    qSum (sh (2048 * b) (256 * p) q) (sh (2048 * b) (256 * p) kv) (sh (2048 * b) (2048 + 128 * p) kv) (sh (2048 * b) (128 * p) g)
      (sh (2048 * b) (128 * p) (lA q kv)) (rowDot (sh (2048 * b) (128 * p) (oA q kv)) (sh (2048 * b) (128 * p) g)) 2048 r e
      = sh (2048 * b) (256 * p) (dQ q kv g) r e := by
  unfold qSum
  rw [Finset.sum_range]
  show _ = dQ q kv g (2048 * b + r) (256 * p + e)
  unfold dQ
  rw [show (2048 * b + r) / 2048 = b by omega, show (2048 * b + r) % 2048 = r by omega]
  refine Finset.sum_congr rfl fun c _ => ?_
  rw [DSe_eq q kv g b p e r c.val he hr]
  unfold sh
  rw [show 2048 * b + c.val = b * 2048 + c.val by omega, show (256 * p + e) / 128 * 128 + (256 * p + e) % 128 = 256 * p + e by omega]

/-- A block of the gradient of the keys. -/
theorem kSum_eq (c e : ℕ) (hc : c < 2048) (he : e < 256) :
    kSum (sh (2048 * b) (256 * p) q) (sh (2048 * b) (256 * p) kv) (sh (2048 * b) (2048 + 128 * p) kv) (sh (2048 * b) (128 * p) g)
      (sh (2048 * b) (128 * p) (lA q kv)) (rowDot (sh (2048 * b) (128 * p) (oA q kv)) (sh (2048 * b) (128 * p) g)) 2048 c e
      = sh (2048 * b) (256 * p) (dK q kv g) c e := by
  unfold kSum
  rw [Finset.sum_range]
  show _ = dK q kv g (2048 * b + c) (256 * p + e)
  unfold dK
  rw [show (2048 * b + c) / 2048 = b by omega, show (2048 * b + c) % 2048 = c by omega]
  refine Finset.sum_congr rfl fun r _ => ?_
  rw [DSe_eq q kv g b p e r.val c he r.isLt]
  unfold sh
  rw [show 2048 * b + r.val = b * 2048 + r.val by omega, show (256 * p + e) / 128 * 128 + (256 * p + e) % 128 = 256 * p + e by omega]

/-- A block of the gradient of the values. -/
theorem vSum_eq (c x : ℕ) (hc : c < 2048) (hx : x < 128) :
    vSum (sh (2048 * b) (256 * p) q) (sh (2048 * b) (256 * p) kv) (sh (2048 * b) (128 * p) g) (sh (2048 * b) (128 * p) (lA q kv)) 2048 c x
      = sh (2048 * b) (128 * p) (dV q kv g) c x := by
  unfold vSum
  rw [Finset.sum_range]
  show _ = dV q kv g (2048 * b + c) (128 * p + x)
  unfold dV
  rw [show (2048 * b + c) / 2048 = b by omega, show (2048 * b + c) % 2048 = c by omega]
  refine Finset.sum_congr rfl fun r _ => ?_
  rw [Pl_eq q kv b p x r.val c hx r.isLt]
  unfold sh
  rw [show 2048 * b + r.val = b * 2048 + r.val by omega, show (128 * p + x) / 64 * 64 + (128 * p + x) % 64 = 128 * p + x by omega]

end

end Cert.Attn

end
-- ==== Proof.Host.lean ====
/-
  The host lines before the gradient kernel, on arrays of real numbers: the saved output of the forward attention and the
  saved logarithms of its row sums.
-/
module

public import proofs.«01_k».proof.Proof.Softmax
public import proofs.«01_k».proof.Proof.Gen.KernelIdeal.Frame
public import Idealize.ShloMosaic.Lib.StableHlo.ReadAt

@[expose] public section

set_option maxHeartbeats 1000000

noncomputable section

namespace Cert.Attn

open Idealize.ShloMosaic

theorem ofBits_bot : Ideal.ofBits .f32 4286578688#32 = (⊥ : EReal) := by simp [Ideal.ofBits, Ideal.ieee]

/-- A masked score as the two programs spell it. -/
theorem select_lg (s : ℕ → ℝ) (r c : ℕ) (hr : r < 2048) (hc : c < 2048) (x y : EReal) (hx : x = ((s c : ℝ) : EReal)) (hy : y = ⊥) :
    Scalar.select (IntOp.cmpi .sle (BitVec.ofNat 32 c) (BitVec.ofNat 32 r)) x y = lg s r c := by
  rw [WordCmp.cmpi_sle_ofNat (by omega) (by omega), select_ofBool, hx, hy, lg]

/-- The scores, from the arrays. -/
theorem score_is (X0 : (⟨2, ![4096, 2048]⟩ : Shape).Idx → EReal) (X1 : (⟨2, ![4096, 3072]⟩ : Shape).Idx → EReal) {q kv : RF} (h0 : Is X0 q) (h1 : Is X1 kv)
    (i j : ℕ) (hi : i < 4096) (hj : j < 1024) (x : Fin 2048) :
    (∑ e : Fin 128, X0 (ix2 ⟨i / 2048 * 2048 + i % 2048, by omega⟩ ⟨j / 64 * 128 + e.val, by omega⟩)
        * X1 (ix2 ⟨i / 2048 * 2048 + x.val, by omega⟩ ⟨j / 64 * 128 + e.val, by omega⟩))
      = ((sc q kv (i / 2048) (j / 64) (i % 2048) x.val : ℝ) : EReal) := by
  refine (Finset.sum_congr rfl fun e _ => ?_).trans (coe_sum _ _)
  rw [h0, h1, ← EReal.coe_mul]

end Cert.Attn

namespace Cert.KernelIdeal.Hand
open Cert.KernelIdeal Cert.KernelIdeal.Gen
open Idealize.ShloMosaic Idealize.ShloMosaic.TcCoe Idealize.SL.Sem
open Cert.Attn

/-! ## The reshapes and transposes back, at an index -/

theorem back_apply (y : FVec Ideal S2x2048x16x64 .f32) (i : Fin 4096) (j : Fin 1024) :
    shapeCast S4096x1024 y shapeCasts_S2x2048x16x64_S4096x1024 (ix2 i j)
      = y (ix4 ⟨i.val / 2048, by have := i.isLt; omega⟩ ⟨i.val % 2048, by omega⟩ ⟨j.val / 64, by have := j.isLt; omega⟩ ⟨j.val % 64, by omega⟩) := by
  pointwise

theorem lanes_apply (y : FVec Ideal S2x16x2048x1 .f32) (b : Fin 2) (r : Fin 2048) (h : Fin 16) (x : Fin 64) :
    broadcastInDim S2x2048x16x64 ![0, 1, 2, 3] bcast_S2x2048x16x1_S2x2048x16x64_0_1_2_3
      (transpose S2x2048x16x1 [0, 2, 1, 3] y transposes_S2x16x2048x1_S2x2048x16x1_0_2_1_3) (ix4 b r h x) = y (ix4 b h r 0) := by
  pointwise

theorem rows_apply (y : FVec Ideal S2x16x64x2048 .f32) (b : Fin 2) (r : Fin 2048) (h : Fin 16) (x : Fin 64) :
    transpose S2x2048x16x64 [0, 3, 1, 2] y transposes_S2x16x64x2048_S2x2048x16x64_0_3_1_2 (ix4 b r h x) = y (ix4 b h x r) := by
  pointwise

theorem add_log_apply (x y : FVec Ideal S2x16x2048x1 .f32) (i : S2x16x2048x1.Idx) : addf x (Host.log y) i = x i + Ideal.log (y i) := rfl

theorem trunc_back_apply (y : FVec Ideal S2x2048x16x64 .f32) (i : S4096x1024.Idx) :
    truncf (F := Ideal) .bf16 (shapeCast S4096x1024 y shapeCasts_S2x2048x16x64_S4096x1024) bitsLt_bf16_f32 i
      = shapeCast S4096x1024 y shapeCasts_S2x2048x16x64_S4096x1024 i := rfl

/-! ## The lines, one function each -/

section
variable (x0 : FVec Ideal S4096x2048 .bf16) (x1 : FVec Ideal S4096x3072 .bf16)

/-- The masked scores. -/
def hS : FVec Ideal S2x16x2048x2048 .f32 :=
  select (broadcastInDim S2x16x2048x2048 ![2, 3] bcast_S2048x2048_S2x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.dotGeneral dot_S2x2048x16x128_S2x2048x16x128_S2x16x2048x2048_3_3_1_1_02_02 none
      (shapeCast S2x2048x16x128 (extf (F := Ideal) .f32 x0 bitsLt_bf16_f32) shapeCasts_S4096x2048_S2x2048x16x128)
      (shapeCast S2x2048x16x128 (extf (F := Ideal) .f32 (extractStridedSlice S4096x2048 ![0, 0] x1 slices_S4096x3072_S4096x2048_0_0) bitsLt_bf16_f32)
        shapeCasts_S4096x2048_S2x2048x16x128))
    (broadcastInDim S2x16x2048x2048 ![] bcast_S_S2x16x2048x2048 (id (constant (F := Ideal) S_ .f32 0xFF800000#32)))
/-- The largest of each row. -/
def hM : FVec Ideal S2x16x2048x1 .f32 :=
  broadcastInDim S2x16x2048x1 ![0, 1, 2] bcast_S2x16x2048_S2x16x2048x1_0_1_2
    (Host.reduce FloatOps.maximumf (hS x0 x1) (constant (F := Ideal) S_ .f32 0xFF800000#32) reducesTo_S2x16x2048x2048_S2x16x2048_d3 h_S_)
/-- The weights. -/
def hE : FVec Ideal S2x16x2048x2048 .f32 :=
  Host.exp (subf (hS x0 x1)
    (broadcastInDim S2x16x2048x2048 ![0, 1, 2, 3] bcast_S2x16x2048x1_S2x16x2048x2048_0_1_2_3 (hM x0 x1)))
/-- The row sums. -/
def hL : FVec Ideal S2x16x2048x1 .f32 :=
  broadcastInDim S2x16x2048x1 ![0, 1, 2] bcast_S2x16x2048_S2x16x2048x1_0_1_2
    (Host.reduceAdd (hE x0 x1) (constant (F := Ideal) S_ .f32 0x00000000#32) reducesTo_S2x16x2048x2048_S2x16x2048_d3 h_S_)
/-- The output, head by head. -/
def hO4 : FVec Ideal S2x16x64x2048 .f32 :=
    Host.dotGeneral dot_S2x2048x16x64_S2x16x2048x2048_S2x16x64x2048_1_3_3_2_02_01 none
      (shapeCast S2x2048x16x64 (extf (F := Ideal) .f32 (extractStridedSlice S4096x1024 ![0, 2048] x1 slices_S4096x3072_S4096x1024_0_2048) bitsLt_bf16_f32)
        shapeCasts_S4096x1024_S2x2048x16x64)
      (Host.divf (hE x0 x1) (broadcastInDim S2x16x2048x2048 ![0, 1, 2, 3] bcast_S2x16x2048x1_S2x16x2048x2048_0_1_2_3 (hL x0 x1)))
/-- The output. -/
def hO : FVec Ideal S4096x1024 .bf16 :=
  truncf (F := Ideal) .bf16 (shapeCast S4096x1024 (transpose S2x2048x16x64 [0, 3, 1, 2] (hO4 x0 x1)
    transposes_S2x16x64x2048_S2x2048x16x64_0_3_1_2) shapeCasts_S2x2048x16x64_S4096x1024) bitsLt_bf16_f32
/-- The logarithms. -/
def hLse : FVec Ideal S4096x1024 .f32 :=
  shapeCast S4096x1024 (broadcastInDim S2x2048x16x64 ![0, 1, 2, 3] bcast_S2x2048x16x1_S2x2048x16x64_0_1_2_3
    (transpose S2x2048x16x1 [0, 2, 1, 3] (addf (hM x0 x1) (Host.log (hL x0 x1)))
      transposes_S2x16x2048x1_S2x2048x16x1_0_2_1_3)) shapeCasts_S2x2048x16x64_S4096x1024

variable {x0 x1} {q kv : RF} (hq : Is (n := 4096) (m := 2048) x0 q) (hkv : Is (n := 4096) (m := 3072) x1 kv)
include hq hkv

theorem hS_is (b : Fin 2) (h : Fin 16) (r k : Fin 2048) : hS x0 x1 (ix4 b h r k) = lg (sc q kv b.val h.val r.val) r.val k.val := by
  pointwise [hS]
  refine select_lg _ _ _ r.isLt k.isLt _ _ ?_ ofBits_bot
  refine (Finset.sum_congr rfl fun e _ => ?_).trans (coe_sum _ _)
  rw [hq, hkv, ← EReal.coe_mul]

theorem hM_is (b : Fin 2) (h : Fin 16) (r : Fin 2048) (u : Fin 1) :
    hM x0 x1 (ix4 b h r u) = Finset.fold max ⊥ (fun k : Fin 2048 => lg (sc q kv b.val h.val r.val) r.val k.val) Finset.univ := by
  pointwise [hM]
  rw [ofBits_bot]
  simp only [hS_is hq hkv]

theorem rows (b : Fin 2) (h : Fin 16) (r : Fin 2048) : ∃ M : ℝ, (∀ u : Fin 1, hM x0 x1 (ix4 b h r u) = ((M : ℝ) : EReal))
    ∧ (∀ k : Fin 2048, hE x0 x1 (ix4 b h r k) = ((wt (sc q kv b.val h.val r.val) M r.val k.val : ℝ) : EReal))
    ∧ ∀ u : Fin 1, hL x0 x1 (ix4 b h r u) = ((tot (sc q kv b.val h.val r.val) M r.val : ℝ) : EReal) := by
  obtain ⟨M, hM'⟩ := fold_real (sc q kv b.val h.val r.val) r.val r.isLt
  have h1 : ∀ u : Fin 1, hM x0 x1 (ix4 b h r u) = ((M : ℝ) : EReal) := fun u => (hM_is hq hkv b h r u).trans hM'
  have h2 : ∀ k : Fin 2048, hE x0 x1 (ix4 b h r k) = ((wt (sc q kv b.val h.val r.val) M r.val k.val : ℝ) : EReal) := fun k => by
    pointwise [hE]
    rw [hS_is hq hkv, h1, exp_lg]
  refine ⟨M, h1, h2, fun u => ?_⟩
  pointwise [hL]
  simp only [h2]
  exact coe_sum _ _

theorem hLse_is : Is (n := 4096) (m := 1024) (hLse x0 x1) (lA q kv) := by
  intro i j
  have hi := i.isLt
  have hj := j.isLt
  obtain ⟨M, h1, h2, h3⟩ := rows hq hkv ⟨i.val / 2048, by omega⟩ ⟨j.val / 64, by omega⟩ ⟨i.val % 2048, by omega⟩
  unfold hLse
  rw [back_apply, lanes_apply, add_log_apply, h1, h3]
  exact lse_eq _ _ _ (by omega)

theorem hO_is : Is (n := 4096) (m := 1024) (hO x0 x1) (oA q kv) := by
  intro i j
  have hi := i.isLt
  have hj := j.isLt
  obtain ⟨M, h1, h2, h3⟩ := rows hq hkv ⟨i.val / 2048, by omega⟩ ⟨j.val / 64, by omega⟩ ⟨i.val % 2048, by omega⟩
  unfold hO
  rw [trunc_back_apply, back_apply, rows_apply]
  pointwise [hO4]
  refine (Finset.sum_congr rfl fun x _ => ?_).trans (coe_sum _ _)
  rw [h2, h3, div_wt _ _ _ (by omega), hkv, ← EReal.coe_mul]
  rw [show 2048 + (j.val / 64 * 64 + j.val % 64) = 2048 + j.val by omega]
  rfl

end

variable (m : (ℓ : Loc nD τ sig) → Buf (Elt Ideal) ℓ) (c : Dev nD)

theorem V_v33 : V m c main_v33 = hO (m (c, Proc.tc.devRef main_arg0)) (m (c, Proc.tc.devRef main_arg1)) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  unfold hO hO4 hL hE hM hS
  rfl

theorem V_v34 : V m c main_v34 = hLse (m (c, Proc.tc.devRef main_arg0)) (m (c, Proc.tc.devRef main_arg1)) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  unfold hLse hL hE hM hS
  rfl

end Cert.KernelIdeal.Hand
end
-- ==== Proof.Array.lean ====
/-
  From blocks to arrays: the blocks the grid points read are blocks of the real arrays, and the three result arrays hold the
  gradients.
-/
module

public import proofs.«01_k».proof.Proof.Launch
public import proofs.«01_k».proof.Proof.Host
public import Idealize.ShloMosaic.Lib.Pipeline.ValueKit

@[expose] public section

set_option maxHeartbeats 400000

noncomputable section

namespace Cert.KernelIdeal.Hand
open Cert.KernelIdeal Cert.KernelIdeal.Gen
open Idealize.ShloMosaic Idealize.ShloMosaic.TcCoe Idealize.SL.Sem
open Cert.Attn

/-- The array of extended reals that holds a real matrix. -/
def arr {n m : ℕ} (f : RF) : (⟨2, ![n, m]⟩ : Shape).Idx → EReal := fun i => ((f (i 0).val (i 1).val : ℝ) : EReal)

theorem Is.eq_arr {n m : ℕ} {x : (⟨2, ![n, m]⟩ : Shape).Idx → EReal} {f : RF} (h : Is x f) : x = arr f := by
  funext i
  have e : i = ix2 (i 0) (i 1) := by
    funext a
    match a with
    | ⟨0, _⟩ => rfl
    | ⟨1, _⟩ => rfl
  rw [e]
  exact h _ _

theorem coe_at (f : RF) {a b a' b' : ℕ} (ha : a = a') (hb : b = b') : ((f a b : ℝ) : EReal) = ((f a' b' : ℝ) : EReal) := by rw [ha, hb]

/-- The sequence and the pair of heads of a grid point. -/
def seqOf (t : Fin cfg0.N) : ℕ := (grid0.coords t 0).val
def pairOf (t : Fin cfg0.N) : ℕ := (grid0.coords t 1).val

theorem index_0 : ∀ t : Fin cfg0.N, win0_0.index t = ![(grid0.coords t 0).val, (grid0.coords t 1).val] := (by decide +kernel : ∀ t : Fin grid0.N, _)
theorem index_1 : ∀ t : Fin cfg0.N, win0_1.index t = ![(grid0.coords t 0).val, (grid0.coords t 1).val] := (by decide +kernel : ∀ t : Fin grid0.N, _)
theorem index_2 : ∀ t : Fin cfg0.N, win0_2.index t = ![(grid0.coords t 0).val, 16 + (grid0.coords t 1).val] := (by decide +kernel : ∀ t : Fin grid0.N, _)
theorem index_3 : ∀ t : Fin cfg0.N, win0_3.index t = ![(grid0.coords t 0).val, (grid0.coords t 1).val] := (by decide +kernel : ∀ t : Fin grid0.N, _)
theorem index_4 : ∀ t : Fin cfg0.N, win0_4.index t = ![(grid0.coords t 0).val, (grid0.coords t 1).val] := (by decide +kernel : ∀ t : Fin grid0.N, _)
theorem index_5 : ∀ t : Fin cfg0.N, win0_5.index t = ![(grid0.coords t 0).val, (grid0.coords t 1).val] := (by decide +kernel : ∀ t : Fin grid0.N, _)
theorem index_6 : ∀ t : Fin cfg0.N, win0_6.index t = ![(grid0.coords t 0).val, (grid0.coords t 1).val] := (by decide +kernel : ∀ t : Fin grid0.N, _)
theorem index_7 : ∀ t : Fin cfg0.N, win0_7.index t = ![(grid0.coords t 0).val, (grid0.coords t 1).val] := (by decide +kernel : ∀ t : Fin grid0.N, _)
theorem index_8 : ∀ t : Fin cfg0.N, win0_8.index t = ![(grid0.coords t 0).val, (grid0.coords t 1).val] := (by decide +kernel : ∀ t : Fin grid0.N, _)

variable (m : (ℓ : Loc nD τ sig) → Buf (Elt Ideal) ℓ) (c : Dev nD) {q kv g : RF}

theorem blk_0 (t : Fin cfg0.N) {f : RF} (h : Is (n := 4096) (m := 2048) (V m c main_arg0) f) :
    Is (n := 2048) (m := 256) (iblk m c 0 t) (sh (2048 * seqOf t) (256 * pairOf t) f) := fun r e => by
  unfold iblk
  refine (?_ : _ = (V m c main_arg0 : S4096x2048.Idx → EReal) ((win0_0.blk t).view.emb (ix2 r e))).trans ?_
  · rfl
  rw [Is.eq_arr h]
  unfold arr sh seqOf pairOf
  blk_simp [index_0]
  exact coe_at f (by omega) (by omega)

theorem blk_1 (t : Fin cfg0.N) {f : RF} (h : Is (n := 4096) (m := 3072) (V m c main_arg1) f) :
    Is (n := 2048) (m := 256) (iblk m c 1 t) (sh (2048 * seqOf t) (256 * pairOf t) f) := fun r e => by
  unfold iblk
  refine (?_ : _ = (V m c main_arg1 : S4096x3072.Idx → EReal) ((win0_1.blk t).view.emb (ix2 r e))).trans ?_
  · rfl
  rw [Is.eq_arr h]
  unfold arr sh seqOf pairOf
  blk_simp [index_1]
  exact coe_at f (by omega) (by omega)

theorem blk_2 (t : Fin cfg0.N) {f : RF} (h : Is (n := 4096) (m := 3072) (V m c main_arg1) f) :
    Is (n := 2048) (m := 128) (iblk m c 2 t) (sh (2048 * seqOf t) (2048 + 128 * pairOf t) f) := fun r e => by
  unfold iblk
  refine (?_ : _ = (V m c main_arg1 : S4096x3072.Idx → EReal) ((win0_2.blk t).view.emb (ix2 r e))).trans ?_
  · rfl
  rw [Is.eq_arr h]
  unfold arr sh seqOf pairOf
  blk_simp [index_2]
  exact coe_at f (by omega) (by omega)

theorem blk_3 (t : Fin cfg0.N) {f : RF} (h : Is (n := 4096) (m := 1024) (V m c main_v33) f) :
    Is (n := 2048) (m := 128) (iblk m c 3 t) (sh (2048 * seqOf t) (128 * pairOf t) f) := fun r e => by
  unfold iblk
  refine (?_ : _ = (V m c main_v33 : S4096x1024.Idx → EReal) ((win0_3.blk t).view.emb (ix2 r e))).trans ?_
  · rfl
  rw [Is.eq_arr h]
  unfold arr sh seqOf pairOf
  blk_simp [index_3]
  exact coe_at f (by omega) (by omega)

theorem blk_4 (t : Fin cfg0.N) {f : RF} (h : Is (n := 4096) (m := 1024) (V m c main_arg2) f) :
    Is (n := 2048) (m := 128) (iblk m c 4 t) (sh (2048 * seqOf t) (128 * pairOf t) f) := fun r e => by
  unfold iblk
  refine (?_ : _ = (V m c main_arg2 : S4096x1024.Idx → EReal) ((win0_4.blk t).view.emb (ix2 r e))).trans ?_
  · rfl
  rw [Is.eq_arr h]
  unfold arr sh seqOf pairOf
  blk_simp [index_4]
  exact coe_at f (by omega) (by omega)

theorem read_5 (t : Fin cfg0.N) (A : S4096x1024.Idx → EReal) (r : Fin 2048) (e : Fin 128) :
    (win0_5.blk t).view.read (Elt Ideal) A (ix2 r e) = A ((win0_5.blk t).view.emb (ix2 r e)) := rfl

theorem blk_5 (t : Fin cfg0.N) {f : RF} (h : Is (n := 4096) (m := 1024) (V m c main_v34) f) :
    Is (n := 2048) (m := 128) (iblk m c 5 t) (sh (2048 * seqOf t) (128 * pairOf t) f) := fun r e => by
  unfold iblk
  refine (read_5 t (V m c main_v34) r e).trans ?_
  rw [Is.eq_arr h]
  unfold arr sh seqOf pairOf
  blk_simp [index_5]
  exact coe_at f (by omega) (by omega)

theorem outQAt_is (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) (t : Fin cfg0.N) :
    Is (n := 2048) (m := 256) (outQAt m c t) (sh (2048 * seqOf t) (256 * pairOf t) (dQ q kv g)) := by
  unfold outQAt
  exact (outQ_is (by rw [View.read_rep]; exact blk_0 m c t hq) (by rw [View.read_rep]; exact blk_1 m c t hkv) (by rw [View.read_rep]; exact blk_2 m c t hkv) (by rw [View.read_rep]; exact blk_3 m c t hO) (by rw [View.read_rep]; exact blk_4 m c t hg) (by rw [View.read_rep]; exact blk_5 m c t hL)).congr fun r e hr he => qSum_eq q kv g _ _ r e hr he

theorem final_Q (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) :
    (dats m 0 c).arrAt 6 cfg0.N = (arr (dQ q kv g) : S4096x2048.Idx → EReal) := by
  refine (dats m 0 c).arrAt_eq_of_covers 6 (arr (dQ q kv g) : S4096x2048.Idx → EReal) (by decide +kernel) fun t hf y => ?_
  have h := Is.eq_arr (outQAt_is m c hq hkv hg hO hL t)
  show outQAt m c t y = _
  rw [h]
  unfold arr sh seqOf pairOf
  blk_simp [index_6]
  exact coe_at _ (by omega) (by omega)

theorem outKAt_is (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) (t : Fin cfg0.N) :
    Is (n := 2048) (m := 256) (outKAt m c t) (sh (2048 * seqOf t) (256 * pairOf t) (dK q kv g)) := by
  unfold outKAt
  exact (outK_is (by rw [View.read_rep]; exact blk_0 m c t hq) (by rw [View.read_rep]; exact blk_1 m c t hkv) (by rw [View.read_rep]; exact blk_2 m c t hkv) (by rw [View.read_rep]; exact blk_3 m c t hO) (by rw [View.read_rep]; exact blk_4 m c t hg) (by rw [View.read_rep]; exact blk_5 m c t hL)).congr fun r e hr he => kSum_eq q kv g _ _ r e hr he

theorem final_K (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) :
    (dats m 0 c).arrAt 7 cfg0.N = (arr (dK q kv g) : S4096x2048.Idx → EReal) := by
  refine (dats m 0 c).arrAt_eq_of_covers 7 (arr (dK q kv g) : S4096x2048.Idx → EReal) (by decide +kernel) fun t hf y => ?_
  have h := Is.eq_arr (outKAt_is m c hq hkv hg hO hL t)
  show outKAt m c t y = _
  rw [h]
  unfold arr sh seqOf pairOf
  blk_simp [index_7]
  exact coe_at _ (by omega) (by omega)

theorem outVAt_is (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) (t : Fin cfg0.N) :
    Is (n := 2048) (m := 128) (outVAt m c t) (sh (2048 * seqOf t) (128 * pairOf t) (dV q kv g)) := by
  unfold outVAt
  exact (outV_is (by rw [View.read_rep]; exact blk_0 m c t hq) (by rw [View.read_rep]; exact blk_1 m c t hkv) (by rw [View.read_rep]; exact blk_2 m c t hkv) (by rw [View.read_rep]; exact blk_3 m c t hO) (by rw [View.read_rep]; exact blk_4 m c t hg) (by rw [View.read_rep]; exact blk_5 m c t hL)).congr fun r e hr he => vSum_eq q kv g _ _ r e hr he

theorem final_V (hq : Is (n := 4096) (m := 2048) (V m c main_arg0) q) (hkv : Is (n := 4096) (m := 3072) (V m c main_arg1) kv)
    (hg : Is (n := 4096) (m := 1024) (V m c main_arg2) g) (hO : Is (n := 4096) (m := 1024) (V m c main_v33) (oA q kv))
    (hL : Is (n := 4096) (m := 1024) (V m c main_v34) (lA q kv)) :
    (dats m 0 c).arrAt 8 cfg0.N = (arr (dV q kv g) : S4096x1024.Idx → EReal) := by
  refine (dats m 0 c).arrAt_eq_of_covers 8 (arr (dV q kv g) : S4096x1024.Idx → EReal) (by decide +kernel) fun t hf y => ?_
  have h := Is.eq_arr (outVAt_is m c hq hkv hg hO hL t)
  show outVAt m c t y = _
  rw [h]
  unfold arr sh seqOf pairOf
  blk_simp [index_8]
  exact coe_at _ (by omega) (by omega)

end Cert.KernelIdeal.Hand
end
-- ==== Proof.Ref.lean ====
/-
  The reference on arrays of real numbers: its lines, one by one, hold the probabilities, their gradients and the three
  results.
-/
module

public import proofs.«01_k».proof.Proof.Host
public import proofs.«01_k».proof.Proof.Gen.ReferenceIdeal.Read

@[expose] public section

set_option maxHeartbeats 400000

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.Attn

theorem max_apply (x y : FVec Ideal S2x16x2048 .f32) (i : S2x16x2048.Idx) : maximumf x y i = max (x i) (y i) := rfl

theorem back2_apply (y : FVec Ideal S2x2048x16x128 .f32) (i : Fin 4096) (j : Fin 2048) :
    shapeCast S4096x2048 y shapeCasts_S2x2048x16x128_S4096x2048 (ix2 i j)
      = y (ix4 ⟨i.val / 2048, by have := i.isLt; omega⟩ ⟨i.val % 2048, by omega⟩ ⟨j.val / 128, by have := j.isLt; omega⟩ ⟨j.val % 128, by omega⟩) := by
  pointwise

theorem back_apply (y : FVec Ideal S2x2048x16x64 .f32) (i : Fin 4096) (j : Fin 1024) :
    shapeCast S4096x1024 y shapeCasts_S2x2048x16x64_S4096x1024 (ix2 i j)
      = y (ix4 ⟨i.val / 2048, by have := i.isLt; omega⟩ ⟨i.val % 2048, by omega⟩ ⟨j.val / 64, by have := j.isLt; omega⟩ ⟨j.val % 64, by omega⟩) := by
  pointwise

variable {x0 : FVec Ideal S4096x2048 .bf16} {x1 : FVec Ideal S4096x3072 .bf16} {x2 : FVec Ideal S4096x1024 .bf16} {q kv g : RF}
  (hq : Is (n := 4096) (m := 2048) x0 q) (hkv : Is (n := 4096) (m := 3072) x1 kv) (hg : Is (n := 4096) (m := 1024) x2 g)

section
include hq hkv

theorem s_is (b : Fin 2) (h : Fin 16) (r k : Fin 2048) :
    val_main_v18_0 (F := Ideal) x0 x1 (ix4 b h r k) = lg (sc q kv b.val h.val r.val) r.val k.val := by
  pointwise [val_main_v18_0, val_main_v18_1, val_main_v17, val_main_v16, val_main_v15, val_main_v14, val_main_v13, val_main_v12, val_main_v11, val_main_v10, val_main_v4, val_main_v3, val_main_v2, val_main_v1, val_main_v0, val_main_call0_v2, val_main_call0_v0, val_main_cst]
  refine select_lg _ _ _ r.isLt k.isLt _ _ ?_ ofBits_bot
  refine (Finset.sum_congr rfl fun e _ => ?_).trans (coe_sum _ _)
  rw [hq, hkv, ← EReal.coe_mul]

theorem fold_is (b : Fin 2) (h : Fin 16) (r : Fin 2048) :
    val_main_v19 (F := Ideal) x0 x1 (ix3 b h r) = Finset.fold max ⊥ (fun k : Fin 2048 => lg (sc q kv b.val h.val r.val) r.val k.val) Finset.univ := by
  pointwise [val_main_v19, val_main_cst_0]
  rw [ofBits_bot]
  simp only [s_is hq hkv]

omit hq hkv in
theorem bot_is (i : S2x16x2048.Idx) : val_main_v25 (F := Ideal) i = (⊥ : EReal) := by
  rw [val_main_v25_apply]
  exact ofBits_bot

theorem max_is (b : Fin 2) (h : Fin 16) (r : Fin 2048) :
    val_main_v26 (F := Ideal) x0 x1 (ix3 b h r) = Finset.fold max ⊥ (fun k : Fin 2048 => lg (sc q kv b.val h.val r.val) r.val k.val) Finset.univ := by
  unfold val_main_v26
  rw [max_apply, fold_is hq hkv, bot_is]
  exact max_eq_right bot_le

theorem rows (b : Fin 2) (h : Fin 16) (r : Fin 2048) : ∃ M : ℝ,
    (∀ k : Fin 2048, val_main_v39 (F := Ideal) x0 x1 (ix4 b h r k) = ((wt (sc q kv b.val h.val r.val) M r.val k.val : ℝ) : EReal))
    ∧ val_main_v40 (F := Ideal) x0 x1 (ix3 b h r) = ((tot (sc q kv b.val h.val r.val) M r.val : ℝ) : EReal) := by
  obtain ⟨M, hM'⟩ := fold_real (sc q kv b.val h.val r.val) r.val r.isLt
  have h1 : val_main_v26 (F := Ideal) x0 x1 (ix3 b h r) = ((M : ℝ) : EReal) := (max_is hq hkv b h r).trans hM'
  have h2 : ∀ k : Fin 2048, val_main_v39 (F := Ideal) x0 x1 (ix4 b h r k) = ((wt (sc q kv b.val h.val r.val) M r.val k.val : ℝ) : EReal) := fun k => by
    pointwise [val_main_v39, val_main_v38, val_main_v37, val_main_v36]
    rw [s_is hq hkv, h1, exp_lg]
  refine ⟨M, h2, ?_⟩
  pointwise [val_main_v40, val_main_cst_8]
  simp only [h2]
  exact coe_sum _ _

theorem p_is (b : Fin 2) (h : Fin 16) (r k : Fin 2048) :
    val_main_v43 (F := Ideal) x0 x1 (ix4 b h r k) = ((pr q kv b.val h.val r.val k.val : ℝ) : EReal) := by
  obtain ⟨M, h2, h3⟩ := rows hq hkv b h r
  pointwise [val_main_v43, val_main_v42, val_main_v41]
  rw [h2, h3]
  exact div_wt _ _ _ r.isLt _

end

section
include hkv hg

theorem dp_is (b : Fin 2) (h : Fin 16) (r k : Fin 2048) :
    val_main_v50 (F := Ideal) x1 x2 (ix4 b h r k) = ((dpr kv g b.val h.val r.val k.val : ℝ) : EReal) := by
  pointwise [val_main_v50, val_main_v49, val_main_v9, val_main_v8, val_main_v7, val_main_v6, val_main_v5]
  refine (Finset.sum_congr rfl fun e _ => ?_).trans (coe_sum _ _)
  rw [hg, hkv, ← EReal.coe_mul]

end

section
include hq hkv hg

theorem ds_is (b : Fin 2) (h : Fin 16) (r k : Fin 2048) :
    val_main_v65 (F := Ideal) x0 x1 x2 (ix4 b h r k) = ((dsc q kv g b.val h.val r.val k.val : ℝ) : EReal) := by
  obtain ⟨M, h2, h3⟩ := rows hq hkv b h r
  have ht := tot_pos (sc q kv b.val h.val r.val) M r.val r.isLt
  have hl : ∀ x : ℝ, Ideal.div ((x : ℝ) : EReal) ((tot (sc q kv b.val h.val r.val) M r.val : ℝ) : EReal) = ((x / tot (sc q kv b.val h.val r.val) M r.val : ℝ) : EReal) := fun x => by
    rw [Ideal.div, if_neg (by exact_mod_cast ht.ne'), ← EReal.coe_inv, ← EReal.coe_mul]; rfl
  have hll : Ideal.div (1 : EReal) ((tot (sc q kv b.val h.val r.val) M r.val * tot (sc q kv b.val h.val r.val) M r.val : ℝ) : EReal)
      = ((1 / (tot (sc q kv b.val h.val r.val) M r.val * tot (sc q kv b.val h.val r.val) M r.val) : ℝ) : EReal) := by
    rw [Ideal.div, if_neg (by exact_mod_cast (mul_pos ht ht).ne'), ← EReal.coe_inv, one_mul, one_div]
  have h46 : ∀ u : Fin 1, val_main_v46 (F := Ideal) x0 x1 (ix4 b h r u)
      = ((1 / (tot (sc q kv b.val h.val r.val) M r.val * tot (sc q kv b.val h.val r.val) M r.val) : ℝ) : EReal) := fun u => by
    pointwise [val_main_v46, val_main_v45, val_main_v44, val_main_v41, val_main_cst_9]
    rw [h3, ← EReal.coe_mul]
    exact hll
  have h56 : val_main_v56 (F := Ideal) x0 x1 x2 (ix3 b h r)
      = ((∑ x : Fin 2048, dpr kv g b.val h.val r.val x.val * (1 / (tot (sc q kv b.val h.val r.val) M r.val * tot (sc q kv b.val h.val r.val) M r.val)) * wt (sc q kv b.val h.val r.val) M r.val x.val : ℝ) : EReal) := by
    pointwise [val_main_v56, val_main_v55, val_main_v54, val_main_v53, val_main_cst_10]
    refine (Finset.sum_congr rfl fun e _ => ?_).trans (coe_sum _ _)
    rw [dp_is hkv hg, h46, h2, ← EReal.coe_mul, ← EReal.coe_mul]
  have h64 : val_main_v64 (F := Ideal) x0 x1 x2 (ix4 b h r k) = ((dsc q kv g b.val h.val r.val k.val : ℝ) : EReal) := by
    pointwise [val_main_v64, val_main_v63, val_main_v62, val_main_v61, val_main_v60, val_main_v59, val_main_v58, val_main_v57, val_main_v42, val_main_v41, val_main_cst_11]
    simp only [h56, dp_is hkv hg, h3, h2, hl, Finset.univ_unique, Finset.sum_singleton, ← EReal.coe_neg, ← EReal.coe_add, ← EReal.coe_mul]
    exact congrArg _ (grad_eq _ M _ r.isLt _ _)
  pointwise [val_main_v65, val_main_v18_1, val_main_v17, val_main_v16, val_main_v15, val_main_v14, val_main_v13, val_main_v12, val_main_v11, val_main_call1_v0, val_main_call1_cst]
  rw [h64, WordCmp.cmpi_sle_ofNat (by have := k.isLt; omega) (by have := r.isLt; omega), select_ofBool]
  split
  · rfl
  · rename_i hn
    rw [dsc, pr, soft_above _ _ _ (by omega), zero_mul]
    rfl

theorem dq_is : Is (n := 4096) (m := 2048) (val_main_v71 (F := Ideal) x0 x1 x2) (dQ q kv g) := by
  intro i j
  have hi := i.isLt
  have hj := j.isLt
  refine (show val_main_v71 (F := Ideal) x0 x1 x2 (ix2 i j) = val_main_v70 (F := Ideal) x0 x1 x2 (ix2 i j) from rfl).trans ?_
  unfold val_main_v70
  rw [back2_apply]
  pointwise [val_main_v69, val_main_v68, val_main_v4, val_main_v3, val_main_v2]
  refine (Finset.sum_congr rfl fun e _ => ?_).trans (coe_sum _ _)
  rw [ds_is hq hkv hg, hkv, ← EReal.coe_mul]
  rw [show j.val / 128 * 128 + j.val % 128 = j.val by omega]

theorem dk_is : Is (n := 4096) (m := 2048) (val_main_v73 (F := Ideal) x0 x1 x2) (dK q kv g) := by
  intro i j
  have hi := i.isLt
  have hj := j.isLt
  refine (show val_main_v73 (F := Ideal) x0 x1 x2 (ix2 i j) = val_main_v72 (F := Ideal) x0 x1 x2 (ix2 i j) from rfl).trans ?_
  unfold val_main_v72
  rw [back2_apply]
  pointwise [val_main_v67, val_main_v66, val_main_v1, val_main_v0]
  refine (Finset.sum_congr rfl fun e _ => ?_).trans (coe_sum _ _)
  rw [ds_is hq hkv hg, hq, ← EReal.coe_mul]
  rw [show j.val / 128 * 128 + j.val % 128 = j.val by omega]

theorem dv_is : Is (n := 4096) (m := 1024) (val_main_v75 (F := Ideal) x0 x1 x2) (dV q kv g) := by
  intro i j
  have hi := i.isLt
  have hj := j.isLt
  refine (show val_main_v75 (F := Ideal) x0 x1 x2 (ix2 i j) = val_main_v74 (F := Ideal) x0 x1 x2 (ix2 i j) from rfl).trans ?_
  unfold val_main_v74
  rw [back_apply]
  pointwise [val_main_v52, val_main_v51, val_main_v49, val_main_v9, val_main_v8]
  refine (Finset.sum_congr rfl fun e _ => ?_).trans (coe_sum _ _)
  rw [p_is hq hkv, hg, ← EReal.coe_mul, mul_comm]
  rw [show j.val / 64 * 64 + j.val % 64 = j.val by omega]

end

end Cert.ReferenceIdeal.Hand
end
-- ==== Proof.Finite.lean ====
/-
  The precondition says that the arguments are arrays of real numbers.
-/
module

public import proofs.«01_k».proof.Defs
public import proofs.«01_k».proof.Proof.Host
public import Idealize.ShloMosaic.Lib.ReduceAll

@[expose] public section

set_option maxHeartbeats 400000

noncomputable section

namespace Cert.Pre_finite
open Idealize.ShloMosaic Cert.Attn
open Facts

variable [Facts]

/-- A number whose size is below infinity is real. -/
theorem real_of_bit (x : EReal) (h : FloatOps.cmpf (F := Ideal) (φ := .f32) .olt (FloatOps.absf (F := Ideal) (φ := .f32) x) (Ideal.ofBits .f32 0x7F800000#32) = 1#1) :
    ((x.toReal : ℝ) : EReal) = x := by
  have htop : Ideal.ofBits .f32 0x7F800000#32 = (⊤ : EReal) := by with_unfolding_all decide +kernel
  have hlt : max x (-x) < (⊤ : EReal) := by
    by_contra hn
    have h0 : Ideal.cmp .olt (max x (-x)) ⊤ = 0#1 := by
      show BitVec.ofBool (decide (max x (-x) < (⊤ : EReal))) = _
      rw [decide_eq_false hn]
      rfl
    rw [htop] at h
    exact absurd (h.symm.trans h0) (by decide)
  refine EReal.coe_toReal ?_ ?_
  · rintro rfl
    simp at hlt
  · rintro rfl
    simp at hlt

/-- The real matrix an array of extended reals holds. -/
def realOf {n m : ℕ} (x : (⟨2, ![n, m]⟩ : Shape).Idx → EReal) : RF := fun r c =>
  if h : r < n ∧ c < m then (x (ix2 ⟨r, h.1⟩ ⟨c, h.2⟩)).toReal else 0

theorem is_realOf {n m : ℕ} {x : (⟨2, ![n, m]⟩ : Shape).Idx → EReal} (h : ∀ i, (((x i).toReal : ℝ) : EReal) = x i) : Is x (realOf x) := fun r c => by
  unfold realOf
  rw [dif_pos ⟨r.isLt, c.isLt⟩]
  exact (h _).symm

instance : Subsingleton S_.Idx := ⟨fun a b => funext fun d => d.elim0⟩

variable {a0 : FVec Ideal S4096x2048 .bf16} {a1 : FVec Ideal S4096x3072 .bf16} {a2 : FVec Ideal S4096x1024 .bf16}

theorem finite (h : fn (F := Ideal) a0 a1 a2 = fun _ => 1#1) : Is a0 (realOf a0) ∧ Is a1 (realOf a1) ∧ Is a2 (realOf a2) := by
  have h0 := congrFun h (fun d => d.elim0)
  unfold fn at h0
  have h1 := IntOp.andi_eq_one.1 h0
  have h2 := IntOp.andi_eq_one.1 h1.1
  refine ⟨is_realOf fun i => real_of_bit _ ?_, is_realOf fun i => real_of_bit _ ?_, is_realOf fun i => real_of_bit _ ?_⟩
  · exact Host.reduce_andi_all _ _ _ _ _ h2.1 i
  · exact Host.reduce_andi_all _ _ _ _ _ h2.2 i
  · exact Host.reduce_andi_all _ _ _ _ _ h1.2 i

end Cert.Pre_finite
end
-- ==== Proof.MlpFrames.lean ====
/-
  The frames of the six products of the squared-ReLU MLP. Nothing was rewritten in an idealized text, so its run over any float
  values serves the printed text too.
-/
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import Idealize.ShloMosaic.Init

@[expose] public section

noncomputable section

namespace Cert.Proof

open Idealize.ShloMosaic Idealize.ShloMosaic.TcCoe Idealize.SL.Sem

theorem bodies_eq2 : @Cert.Kernel2.defs₀ Bits _ _ = @Cert.Kernel2Ideal.defs₀ Bits _ _ := by
  unfold Cert.Kernel2.defs₀ Cert.Kernel2Ideal.defs₀
  refine congrArg Defs.onTc (funext fun l => funext fun x => ?_)
  match l, x with
  | ⟨0, _⟩, (t, s) => rfl

theorem defs_eq2 : @Cert.Kernel2.defs Bits _ _ = @Cert.Kernel2Ideal.defs Bits _ _ := congrArg (Pipeline.defs (@Cert.Kernel2Ideal.pcfgs Bits _)) bodies_eq2

theorem main_eq2 : @Cert.Kernel2.main Bits _ = @Cert.Kernel2Ideal.main Bits _ := rfl

theorem frame_kernel2 : Cert.quiescent_Kernel2 := fun m ρ _ => by
  have key : ∀ d p, d = @Cert.Kernel2Ideal.defs Bits _ _ → p = @Cert.Kernel2Ideal.main Bits _ →
      θ_run d (onTc (τ := Cert.Kernel2Ideal.τ) p) ⟨m, fun _ => 0, ρ⟩ (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
        ∧ r.2.sem = fun _ => 0) := by
    rintro d p rfl rfl
    exact Cert.Kernel2Ideal.Gen.frame (F := Bits) m ρ
  exact key _ _ defs_eq2 main_eq2

theorem frame_kernel2Ideal : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem bodies_eq3 : @Cert.Kernel3.defs₀ Bits _ _ = @Cert.Kernel3Ideal.defs₀ Bits _ _ := by
  unfold Cert.Kernel3.defs₀ Cert.Kernel3Ideal.defs₀
  refine congrArg Defs.onTc (funext fun l => funext fun x => ?_)
  match l, x with
  | ⟨0, _⟩, (t, s) => rfl

theorem defs_eq3 : @Cert.Kernel3.defs Bits _ _ = @Cert.Kernel3Ideal.defs Bits _ _ := congrArg (Pipeline.defs (@Cert.Kernel3Ideal.pcfgs Bits _)) bodies_eq3

theorem main_eq3 : @Cert.Kernel3.main Bits _ = @Cert.Kernel3Ideal.main Bits _ := rfl

theorem frame_kernel3 : Cert.quiescent_Kernel3 := fun m ρ _ => by
  have key : ∀ d p, d = @Cert.Kernel3Ideal.defs Bits _ _ → p = @Cert.Kernel3Ideal.main Bits _ →
      θ_run d (onTc (τ := Cert.Kernel3Ideal.τ) p) ⟨m, fun _ => 0, ρ⟩ (fun r => (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
        ∧ r.2.sem = fun _ => 0) := by
    rintro d p rfl rfl
    exact Cert.Kernel3Ideal.Gen.frame (F := Bits) m ρ
  exact key _ _ defs_eq3 main_eq3

theorem frame_kernel3Ideal : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem bodies_eq4 : @Cert.Kernel4.defs₀ Bits _ _ = @Cert.Kernel4Ideal.defs₀ Bits _ _ := by
  unfold Cert.Kernel4.defs₀ Cert.Kernel4Ideal.defs₀
  refine congrArg Defs.onTc (funext fun l => funext fun x => ?_)
  match l, x with
  | ⟨0, _⟩, (t, s) => rfl

theorem defs_eq4 : @Cert.Kernel4.defs Bits _ _ = @Cert.Kernel4Ideal.defs Bits _ _ := congrArg (Pipeline.defs (@Cert.Kernel4Ideal.pcfgs Bits _)) bodies_eq4

theorem main_eq4 : @Cert.Kernel4.main Bits _ = @Cert.Kernel4Ideal.main Bits _ := rfl

theorem frame_kernel4 : Cert.quiescent_Kernel4 := fun m ρ _ => by
  have key : ∀ d p, d = @Cert.Kernel4Ideal.defs Bits _ _ → p = @Cert.Kernel4Ideal.main Bits _ →
      θ_run d (onTc (τ := Cert.Kernel4Ideal.τ) p) ⟨m, fun _ => 0, ρ⟩ (fun r => (∀ c : Dev Cert.Kernel4Ideal.nD,
        r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
        ∧ r.2.sem = fun _ => 0) := by
    rintro d p rfl rfl
    exact Cert.Kernel4Ideal.Gen.frame (F := Bits) m ρ
  exact key _ _ defs_eq4 main_eq4

theorem frame_kernel4Ideal : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem bodies_eq5 : @Cert.Kernel5.defs₀ Bits _ _ = @Cert.Kernel5Ideal.defs₀ Bits _ _ := by
  unfold Cert.Kernel5.defs₀ Cert.Kernel5Ideal.defs₀
  refine congrArg Defs.onTc (funext fun l => funext fun x => ?_)
  match l, x with
  | ⟨0, _⟩, (t, s) => rfl

theorem defs_eq5 : @Cert.Kernel5.defs Bits _ _ = @Cert.Kernel5Ideal.defs Bits _ _ := congrArg (Pipeline.defs (@Cert.Kernel5Ideal.pcfgs Bits _)) bodies_eq5

theorem main_eq5 : @Cert.Kernel5.main Bits _ = @Cert.Kernel5Ideal.main Bits _ := rfl

theorem frame_kernel5 : Cert.quiescent_Kernel5 := fun m ρ _ => by
  have key : ∀ d p, d = @Cert.Kernel5Ideal.defs Bits _ _ → p = @Cert.Kernel5Ideal.main Bits _ →
      θ_run d (onTc (τ := Cert.Kernel5Ideal.τ) p) ⟨m, fun _ => 0, ρ⟩ (fun r => (∀ c : Dev Cert.Kernel5Ideal.nD,
        r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
        ∧ r.2.sem = fun _ => 0) := by
    rintro d p rfl rfl
    exact Cert.Kernel5Ideal.Gen.frame (F := Bits) m ρ
  exact key _ _ defs_eq5 main_eq5

theorem frame_kernel5Ideal : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem bodies_eq6 : @Cert.Kernel6.defs₀ Bits _ _ = @Cert.Kernel6Ideal.defs₀ Bits _ _ := by
  unfold Cert.Kernel6.defs₀ Cert.Kernel6Ideal.defs₀
  refine congrArg Defs.onTc (funext fun l => funext fun x => ?_)
  match l, x with
  | ⟨0, _⟩, (t, s) => rfl

theorem defs_eq6 : @Cert.Kernel6.defs Bits _ _ = @Cert.Kernel6Ideal.defs Bits _ _ := congrArg (Pipeline.defs (@Cert.Kernel6Ideal.pcfgs Bits _)) bodies_eq6

theorem main_eq6 : @Cert.Kernel6.main Bits _ = @Cert.Kernel6Ideal.main Bits _ := rfl

theorem frame_kernel6 : Cert.quiescent_Kernel6 := fun m ρ _ => by
  have key : ∀ d p, d = @Cert.Kernel6Ideal.defs Bits _ _ → p = @Cert.Kernel6Ideal.main Bits _ →
      θ_run d (onTc (τ := Cert.Kernel6Ideal.τ) p) ⟨m, fun _ => 0, ρ⟩ (fun r => (∀ c : Dev Cert.Kernel6Ideal.nD,
        r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
        ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
        ∧ r.2.sem = fun _ => 0) := by
    rintro d p rfl rfl
    exact Cert.Kernel6Ideal.Gen.frame (F := Bits) m ρ
  exact key _ _ defs_eq6 main_eq6

theorem frame_kernel6Ideal : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem bodies_eq7 : @Cert.Kernel7.defs₀ Bits _ _ = @Cert.Kernel7Ideal.defs₀ Bits _ _ := by
  unfold Cert.Kernel7.defs₀ Cert.Kernel7Ideal.defs₀
  refine congrArg Defs.onTc (funext fun l => funext fun x => ?_)
  match l, x with
  | ⟨0, _⟩, (t, s) => rfl

theorem defs_eq7 : @Cert.Kernel7.defs Bits _ _ = @Cert.Kernel7Ideal.defs Bits _ _ := congrArg (Pipeline.defs (@Cert.Kernel7Ideal.pcfgs Bits _)) bodies_eq7

theorem main_eq7 : @Cert.Kernel7.main Bits _ = @Cert.Kernel7Ideal.main Bits _ := rfl

theorem frame_kernel7 : Cert.quiescent_Kernel7 := fun m ρ _ => by
  have key : ∀ d p, d = @Cert.Kernel7Ideal.defs Bits _ _ → p = @Cert.Kernel7Ideal.main Bits _ →
      θ_run d (onTc (τ := Cert.Kernel7Ideal.τ) p) ⟨m, fun _ => 0, ρ⟩ (fun r => (∀ c : Dev Cert.Kernel7Ideal.nD,
        r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
        ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
        ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
        ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
        ∧ r.2.sem = fun _ => 0) := by
    rintro d p rfl rfl
    exact Cert.Kernel7Ideal.Gen.frame (F := Bits) m ρ
  exact key _ _ defs_eq7 main_eq7

theorem frame_kernel7Ideal : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.Proof
end
-- ==== Proof.MlpIndex.lean ====
/-
  Small facts about indices and constants that the products share.
-/
module

public import Idealize.ShloMosaic.Lib.Pipeline.ValueKit

@[expose] public section

noncomputable section

namespace Cert.Mlp
open Idealize.ShloMosaic

/-- Two is the number the bits of the float two stand for. -/
theorem two_bits : Ideal.ofBits FTy.f32 1073741824#32 = (2 : EReal) := by
  simp [Ideal.ofBits, Ideal.ieee]
  rw [← EReal.coe_mul]
  norm_num
  rfl

/-- An index of a matrix is the pair of its coordinates. -/
theorem eta2 {n m : ℕ} (i : (⟨2, ![n, m]⟩ : Shape).Idx) : ∃ (r : Fin n) (j : Fin m), i = ix2 r j := by
  refine ⟨i 0, i 1, funext fun a => ?_⟩
  match a with
  | ⟨0, _⟩ => rfl
  | ⟨1, _⟩ => rfl

/-- An index of a stack of matrices is the triple of its coordinates. -/
theorem eta3 {n m l : ℕ} (i : (⟨3, ![n, m, l]⟩ : Shape).Idx) : ∃ (r : Fin n) (j : Fin m) (k : Fin l), i = ix3 r j k := by
  refine ⟨i 0, i 1, i 2, funext fun a => ?_⟩
  match a with
  | ⟨0, _⟩ => rfl
  | ⟨1, _⟩ => rfl
  | ⟨2, _⟩ => rfl

theorem at2 {α : Type} {n m : ℕ} (A : (⟨2, ![n, m]⟩ : Shape).Idx → α) {i i' : (⟨2, ![n, m]⟩ : Shape).Idx} (h0 : (i 0).val = (i' 0).val) (h1 : (i 1).val = (i' 1).val) : A i = A i' := by
  refine congrArg A (funext fun a => ?_)
  match a with
  | ⟨0, _⟩ => exact Fin.ext h0
  | ⟨1, _⟩ => exact Fin.ext h1

theorem at3 {α : Type} {n m l : ℕ} (A : (⟨3, ![n, m, l]⟩ : Shape).Idx → α) {i i' : (⟨3, ![n, m, l]⟩ : Shape).Idx} (h0 : (i 0).val = (i' 0).val) (h1 : (i 1).val = (i' 1).val)
    (h2 : (i 2).val = (i' 2).val) : A i = A i' := by
  refine congrArg A (funext fun a => ?_)
  match a with
  | ⟨0, _⟩ => exact Fin.ext h0
  | ⟨1, _⟩ => exact Fin.ext h1
  | ⟨2, _⟩ => exact Fin.ext h2

/-- The two summands of the derivative of a square are its double. -/
theorem twice (g x : EReal) : x * g + g * x = g * (2 * x) := by
  rw [mul_comm x g, mul_left_comm, ← one_add_one_eq_two, EReal.right_distrib_of_nonneg zero_le_one zero_le_one, one_mul]

/-- The derivative of the square of the ReLU is twice the ReLU: a negative input has slope zero either way. -/
theorem relu_slope (g a : EReal) : (if 0 < a then max a 0 * g + g * max a 0 else 0) = g * (2 * max a 0) := by
  rcases lt_or_ge 0 a with h | h
  · rw [if_pos h, twice]
  · rw [if_neg (not_lt.2 h), max_eq_right h, mul_zero, mul_zero]

/-- A sum over the 4096 positions of the contracted axis, taken in the eight blocks the weights come in. -/
theorem sum_blocks (f : Fin 4096 → EReal) : ∑ k, f k = ∑ b : Fin 8, ∑ k : Fin 512, f ⟨512 * b.val + k.val, by omega⟩ := by
  rw [← (finProdFinEquiv (m := 8) (n := 512)).sum_comp f, Fintype.sum_prod_type]
  refine Finset.sum_congr rfl fun b _ => Finset.sum_congr rfl fun k _ => congrArg f (Fin.ext ?_)
  exact Nat.add_comm _ _

/-- Four points, two blocks each, are the eight blocks. -/
theorem sum_points (s : Fin 8 → EReal) : s 0 + s 1 + (s 2 + s 3) + (s 4 + s 5) + (s 6 + s 7) = ∑ b, s b := by
  rw [Fin.sum_univ_eight]
  simp only [add_assoc]

end Cert.Mlp
end
-- ==== Proof.DownDx.lean ====
/-
  The gradient that flows back through the second product of the squared-ReLU MLP: dy · w2ᵀ times the derivative of the square
  of the ReLU.
-/
module

public import proofs.«01_k».proof.Proof.MlpIndex
public import proofs.«01_k».proof.Proof.Gen.Kernel2Ideal.Value
public import proofs.«01_k».proof.Proof.Gen.Reference2Ideal.Run
public import proofs.«01_k».proof.Proof.Gen.Reference2Ideal.Read

@[expose] public section

set_option maxHeartbeats 400000

noncomputable section

namespace Cert.DownDx
open Idealize.ShloMosaic Idealize.ShloMosaic.TcCoe Idealize.SL.Sem
open Cert.Mlp

/-- What the product leaves in its result, from the arrays. -/
def G (x0 : (⟨2, ![4096, 1024]⟩ : Shape).Idx → EReal) (x1 : (⟨3, ![8, 512, 1024]⟩ : Shape).Idx → EReal) (x2 : (⟨2, ![4096, 4096]⟩ : Shape).Idx → EReal) :
    (⟨2, ![4096, 4096]⟩ : Shape).Idx → EReal := fun i =>
  (∑ k : Fin 1024, x0 (ix2 (i 0) k) * x1 (ix3 ⟨(i 1).val / 512, by have := (i 1).isLt; simp at this; omega⟩ ⟨(i 1).val % 512, by omega⟩ k)) * (2 * max (x2 i) 0)

section Kernel
open Cert.Kernel2Ideal Cert.Kernel2Ideal.Gen

theorem pay (v0 : FVec Ideal S2048x1024 .bf16) (v1 : FVec Ideal S1x512x1024 .bf16) (v4 : FVec Ideal S2048x512 .bf16) (r : Fin 2048) (j : Fin 512) :
    k0_pay1 (F := Ideal) v0 v1 v4 (ix2 r j) = (∑ k : Fin 1024, v0 (ix2 r k) * v1 (ix3 0 j k)) * (2 * max (v4 (ix2 r j)) 0) := by
  pointwise [k0_pay1]
  rw [two_bits]

theorem out_eq (x0 : FVec Ideal S2048x1024 .bf16) (x1 : FVec Ideal S1x512x1024 .bf16) (x2 : FVec Ideal S2048x512 .bf16) :
    out0_3 (F := Ideal) x0 x1 x2 = k0_pay1 (F := Ideal) x0 x1 x2 := by
  unfold out0_3
  rw [View.canon_unit_zero (by decide), View.ld_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![(grid0.coords t 1).val, 0, 0] := (by decide +kernel : ∀ t : Fin grid0.N, _)
theorem index_2 : ∀ t : Fin cfg0.N, win0_2.index t = ![(grid0.coords t 0).val, (grid0.coords t 1).val] := (by decide +kernel : ∀ t : Fin grid0.N, _)
theorem index_3 : ∀ t : Fin cfg0.N, win0_3.index t = ![(grid0.coords t 0).val, (grid0.coords t 1).val] := (by decide +kernel : ∀ t : Fin grid0.N, _)

theorem read_0 (t : Fin cfg0.N) (A : S4096x1024.Idx → EReal) (y : S2048x1024.Idx) : (win0_0.blk t).view.read (Elt Ideal) A y = A ((win0_0.blk t).view.emb y) := rfl
theorem read_1 (t : Fin cfg0.N) (A : S8x512x1024.Idx → EReal) (y : S1x512x1024.Idx) : (win0_1.blk t).view.read (Elt Ideal) A y = A ((win0_1.blk t).view.emb y) := rfl
theorem read_2 (t : Fin cfg0.N) (A : S4096x4096.Idx → EReal) (y : S2048x512.Idx) : (win0_2.blk t).view.read (Elt Ideal) A y = A ((win0_2.blk t).view.emb y) := rfl

/-- A block of the product's blocks is the block of the whole product. -/
theorem block (t : Fin cfg0.N) (A0 : S4096x1024.Idx → EReal) (A1 : S8x512x1024.Idx → EReal) (A2 : S4096x4096.Idx → EReal) (r : Fin 2048) (j : Fin 512) :
    k0_pay1 (F := Ideal) ((win0_0.blk t).view.read (Elt Ideal) A0) ((win0_1.blk t).view.read (Elt Ideal) A1) ((win0_2.blk t).view.read (Elt Ideal) A2) (ix2 r j)
      = G A0 A1 A2 ((win0_3.blk t).view.emb (ix2 r j)) := by
  rw [pay]
  unfold G
  refine congrArg₂ (· * ·) (Finset.sum_congr rfl fun k _ => congrArg₂ (· * ·) ?_ ?_) (congrArg (fun x => 2 * max x (0 : EReal)) ?_)
  · rw [read_0]
    refine at2 A0 ?_ ?_ <;> blk_simp [index_0, index_3] <;> (try dsimp only [Fin.val_mk, Fin.val_zero]) <;> (try omega)
  · rw [read_1]
    refine at3 A1 ?_ ?_ ?_ <;> blk_simp [index_1, index_3] <;> (try dsimp only [Fin.val_mk, Fin.val_zero]) <;> (try omega)
  · rw [read_2]
    refine at2 A2 ?_ ?_ <;> blk_simp [index_2, index_3]

variable (m : (ℓ : Loc nD τ sig) → Buf (Elt Ideal) ℓ) (c : Dev nD)

theorem final : (dats m 0 c).arrAt 3 cfg0.N = (G (m ((c : Thread nD τ).loc main_arg0)) (m ((c : Thread nD τ).loc main_arg1)) (m ((c : Thread nD τ).loc main_arg2)) : S4096x4096.Idx → EReal) := by
  refine (dats m 0 c).arrAt_eq_of_covers 3 (G (m ((c : Thread nD τ).loc main_arg0)) (m ((c : Thread nD τ).loc main_arg1)) (m ((c : Thread nD τ).loc main_arg2)) : S4096x4096.Idx → EReal)
    (by decide +kernel) fun t hf y => ?_
  obtain ⟨r, j, rfl⟩ := eta2 (n := 2048) (m := 512) y
  show (dats m 0 c).after 3 t (ix2 r j) = _
  rw [after0_3, out_eq]
  exact block t _ _ _ r j

end Kernel

section Reference
open Cert.Reference2Ideal Cert.Reference2Ideal.Gen Cert.Reference2Ideal.Read

theorem ref_at (x0 : FVec Ideal S4096x1024 .bf16) (x1 : FVec Ideal S8x512x1024 .bf16) (x2 : FVec Ideal S4096x4096 .bf16) (i j : Fin 4096) :
    val_main_v16 (F := Ideal) x0 x1 x2 (ix2 i j) = G x0 x1 x2 (ix2 i j) := by
  pointwise [val_main_v16, val_main_v15, val_main_v6, val_main_v3, val_main_v5, val_main_cst, val_main_v13, val_main_v11, val_main_v4, val_main_call0_v0, val_main_call0_cst, val_main_v10, val_main_v1, val_main_v2, val_main_v0, val_main_v12, val_main_v14, val_main_cst_1]
  exact relu_slope _ _

theorem ref (x0 : FVec Ideal S4096x1024 .bf16) (x1 : FVec Ideal S8x512x1024 .bf16) (x2 : FVec Ideal S4096x4096 .bf16) :
    val_main_v16 (F := Ideal) x0 x1 x2 = G x0 x1 x2 := by
  funext i
  obtain ⟨r, j, rfl⟩ := eta2 (n := 4096) (m := 4096) i
  exact ref_at x0 x1 x2 r j

end Reference

end Cert.DownDx
end
-- ==== Proof.DownDw.lean ====
/-
  The gradient of the weights of the second product of the MLP: the square of the ReLU, transposed, times dy, in the stacked layout
  the exchange takes.
-/
module

public import proofs.«01_k».proof.Proof.MlpIndex
public import proofs.«01_k».proof.Proof.Gen.Kernel3Ideal.Value
public import proofs.«01_k».proof.Proof.Gen.Reference3Ideal.Run
public import proofs.«01_k».proof.Proof.Gen.Reference3Ideal.Read

@[expose] public section

set_option maxHeartbeats 400000

noncomputable section

namespace Cert.DownDw
open Idealize.ShloMosaic Idealize.ShloMosaic.TcCoe Idealize.SL.Sem
open Cert.Mlp

/-- What the product leaves in its result, from the arrays. -/
def G (x0 : (⟨2, ![4096, 4096]⟩ : Shape).Idx → EReal) (x1 : (⟨2, ![4096, 1024]⟩ : Shape).Idx → EReal) :
    (⟨3, ![8, 512, 1024]⟩ : Shape).Idx → EReal := fun i =>
  ∑ k : Fin 4096, (max (x0 (ix2 k ⟨(i 0).val * 512 + (i 1).val, by have := (i 0).isLt; have := (i 1).isLt; simp at *; omega⟩)) 0 * max (x0 (ix2 k ⟨(i 0).val * 512 + (i 1).val, by have := (i 0).isLt; have := (i 1).isLt; simp at *; omega⟩)) 0) * x1 (ix2 k (i 2))

section Kernel
open Cert.Kernel3Ideal Cert.Kernel3Ideal.Gen

theorem pay (v0 : FVec Ideal S4096x512 .bf16) (v1 : FVec Ideal S4096x1024 .bf16) (r : Fin 512) (j : Fin 1024) :
    k0_pay1 (F := Ideal) v0 v1 (ix3 0 r j) = ∑ k : Fin 4096, (max (v0 (ix2 k r)) 0 * max (v0 (ix2 k r)) 0) * v1 (ix2 k j) := by
  pointwise [k0_pay1]

theorem out_eq (v0 : FVec Ideal S4096x512 .bf16) (v1 : FVec Ideal S4096x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, (grid0.coords t 0).val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0, 0] := (by decide +kernel : ∀ t : Fin grid0.N, _)

theorem read_0 (t : Fin cfg0.N) (A : S4096x4096.Idx → EReal) (y : S4096x512.Idx) : (win0_0.blk t).view.read (Elt Ideal) A y = A ((win0_0.blk t).view.emb y) := rfl
theorem read_1 (t : Fin cfg0.N) (A : S4096x1024.Idx → EReal) (y : S4096x1024.Idx) : (win0_1.blk t).view.read (Elt Ideal) A y = A ((win0_1.blk t).view.emb y) := rfl

/-- A block of the result is the product of the blocks of the arguments. -/
theorem block (t : Fin cfg0.N) (A0 : S4096x4096.Idx → EReal) (A1 : S4096x1024.Idx → EReal) (r : Fin 512) (j : Fin 1024) :
    k0_pay1 (F := Ideal) ((win0_0.blk t).view.read (Elt Ideal) A0) ((win0_1.blk t).view.read (Elt Ideal) A1) (ix3 0 r j)
      = G A0 A1 ((win0_2.blk t).view.emb (ix3 0 r j)) := by
  rw [pay]
  unfold G
  refine Finset.sum_congr rfl fun k _ => congrArg₂ (· * ·) (congrArg (fun x => max x (0 : EReal) * max x 0) ?_) ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S8x512x1024.Idx → EReal) := by
  refine (dats m 0 c).arrAt_eq_of_covers 2 (G (m ((c : Thread nD τ).loc main_arg0)) (m ((c : Thread nD τ).loc main_arg1)) : S8x512x1024.Idx → EReal) (by decide +kernel) fun t hf y => ?_
  obtain ⟨z, r, j, rfl⟩ := eta3 (n := 1) (m := 512) (l := 1024) y
  obtain rfl : z = 0 := Subsingleton.elim _ _
  show (dats m 0 c).after 2 t (ix3 0 r j) = _
  rw [after0_2, out_eq]
  exact block t _ _  r j

end Kernel

section Reference
open Cert.Reference3Ideal Cert.Reference3Ideal.Gen Cert.Reference3Ideal.Read

theorem ref_at (x0 : FVec Ideal S4096x4096 .bf16) (x1 : FVec Ideal S4096x1024 .bf16) (i : Fin 8) (j : Fin 512) (k : Fin 1024) :
    val_main_v9 (F := Ideal) x0 x1 (ix3 i j k) = G x0 x1 (ix3 i j k) := by
  pointwise [val_main_v9, val_main_v8, val_main_v7, val_main_v6, val_main_v1, val_main_v4, val_main_v3, val_main_v0, val_main_call0_v0, val_main_call0_cst]
  exact Finset.sum_congr rfl fun _ _ => mul_comm _ _

theorem ref (x0 : FVec Ideal S4096x4096 .bf16) (x1 : FVec Ideal S4096x1024 .bf16) : val_main_v9 (F := Ideal) x0 x1 = G x0 x1 := by
  funext y
  obtain ⟨i, j, k, rfl⟩ := eta3 (n := 8) (m := 512) (l := 1024) y
  exact ref_at x0 x1 i j k

end Reference

end Cert.DownDw
end
-- ==== Proof.UpDx.lean ====
/-
  The gradient that flows back through the first product of the MLP: da · W1ᵀ. The contracted axis is taken in four parts, which
  the kernel adds up from point to point.
-/
module

public import proofs.«01_k».proof.Proof.MlpIndex
public import proofs.«01_k».proof.Proof.Gen.Kernel4Ideal.Value
public import proofs.«01_k».proof.Proof.Gen.Reference4Ideal.Run
public import proofs.«01_k».proof.Proof.Gen.Reference4Ideal.Read

@[expose] public section

set_option maxHeartbeats 400000
set_option maxRecDepth 16384

noncomputable section

namespace Cert.UpDx
open Idealize.ShloMosaic Idealize.ShloMosaic.TcCoe Idealize.SL.Sem
open Cert.Mlp

/-- The share of one block of the weights in an element of the product. -/
def slice (x0 : (⟨2, ![4096, 4096]⟩ : Shape).Idx → EReal) (x1 : (⟨3, ![8, 1024, 512]⟩ : Shape).Idx → EReal) (i : Fin 4096) (j : Fin 1024) (b : Fin 8) : EReal :=
  ∑ k : Fin 512, x0 (ix2 i ⟨512 * b.val + k.val, by omega⟩) * x1 (ix3 b j k)

/-- What the product leaves in its result, from the arrays. -/
def G (x0 : (⟨2, ![4096, 4096]⟩ : Shape).Idx → EReal) (x1 : (⟨3, ![8, 1024, 512]⟩ : Shape).Idx → EReal) : (⟨2, ![4096, 1024]⟩ : Shape).Idx → EReal := fun i =>
  ∑ b : Fin 8, slice x0 x1 (i 0) (i 1) b

section Kernel
open Cert.Kernel4Ideal Cert.Kernel4Ideal.Gen

/-- What one point adds to the accumulator. -/
def part (v0 : S2048x1024.Idx → EReal) (v1 : S2x1024x512.Idx → EReal) : S2048x1024.Idx → EReal := fun i =>
  (∑ k : Fin 512, v0 (ix2 (i 0) ⟨k.val, by omega⟩) * v1 (ix3 0 (i 1) k)) + ∑ k : Fin 512, v0 (ix2 (i 0) ⟨512 + k.val, by omega⟩) * v1 (ix3 1 (i 1) k)

theorem pay (v0 : FVec Ideal S2048x1024 .bf16) (v1 : FVec Ideal S1x1024x512 .bf16) (v2 : FVec Ideal S1x1024x512 .bf16) (r : Fin 2048) (j : Fin 1024) :
    k0_pay1 (F := Ideal) v0 v1 v2 (ix2 r j) = (∑ k : Fin 512, v0 (ix2 r ⟨k.val, by omega⟩) * v1 (ix3 0 j k)) + ∑ k : Fin 512, v0 (ix2 r ⟨512 + k.val, by omega⟩) * v2 (ix3 0 j k) := by
  pointwise [k0_pay1]

theorem ld_lo (x1 : S2x1024x512.Idx → EReal) (h) (j : Fin 1024) (k : Fin 512) :
    View.ld (Val := Elt Ideal) (e' := .bf16) x1 (Rect.unit (s := S2x1024x512) ![0, 0, 0] ![1, 1024, 512] h) (ix3 0 j k) = x1 (ix3 0 j k) := by
  refine at3 (n := 2) (m := 1024) (l := 512) x1 ?_ ?_ ?_
  · rfl
  · exact (Nat.zero_add _).trans (Nat.one_mul _)
  · exact (Nat.zero_add _).trans (Nat.one_mul _)

theorem ld_hi (x1 : S2x1024x512.Idx → EReal) (h) (j : Fin 1024) (k : Fin 512) :
    View.ld (Val := Elt Ideal) (e' := .bf16) x1 (Rect.unit (s := S2x1024x512) ![1, 0, 0] ![1, 1024, 512] h) (ix3 0 j k) = x1 (ix3 1 j k) := by
  refine at3 (n := 2) (m := 1024) (l := 512) x1 ?_ ?_ ?_
  · rfl
  · exact (Nat.zero_add _).trans (Nat.one_mul _)
  · exact (Nat.zero_add _).trans (Nat.one_mul _)

theorem pay_part (x0 : FVec Ideal S2048x1024 .bf16) (x1 : FVec Ideal S2x1024x512 .bf16) (h g1 g2) (y : S2048x1024.Idx) :
    k0_pay1 (F := Ideal) (View.ld (Val := Elt Ideal) (e' := .bf16) x0 (Rect.unit (s := S2048x1024) ![0, 0] ![2048, 1024] h)) (View.ld (Val := Elt Ideal) (e' := .bf16) x1 (Rect.unit (s := S2x1024x512) ![0, 0, 0] ![1, 1024, 512] g1))
      (View.ld (Val := Elt Ideal) (e' := .bf16) x1 (Rect.unit (s := S2x1024x512) ![1, 0, 0] ![1, 1024, 512] g2)) y = part x0 x1 y := by
  obtain ⟨r, j, rfl⟩ := eta2 (n := 2048) (m := 1024) y
  have e0 : View.ld (Val := Elt Ideal) (e' := .bf16) x0 (Rect.unit (s := S2048x1024) ![0, 0] ![2048, 1024] h) = x0 := View.ld_unit_zero (Val := Elt Ideal) (e := .bf16) (S := S2048x1024) (by decide) h x0
  rw [pay, e0]
  exact congrArg₂ (· + ·) (Finset.sum_congr rfl fun k _ => congrArg₂ (· * ·) rfl (ld_lo x1 _ j k)) (Finset.sum_congr rfl fun k _ => congrArg₂ (· * ·) rfl (ld_hi x1 _ j k))

theorem pay_add (x0 : FVec Ideal S2048x1024 .bf16) (x1 : FVec Ideal S2x1024x512 .bf16) (xs : FVec Ideal S2048x1024 .f32) (h g1 g2 g3) (y : S2048x1024.Idx) :
    k0_pay3 (F := Ideal) (View.ld (Val := Elt Ideal) (e' := .bf16) x0 (Rect.unit (s := S2048x1024) ![0, 0] ![2048, 1024] h)) (View.ld (Val := Elt Ideal) (e' := .bf16) x1 (Rect.unit (s := S2x1024x512) ![0, 0, 0] ![1, 1024, 512] g1))
      (View.ld (Val := Elt Ideal) (e' := .bf16) x1 (Rect.unit (s := S2x1024x512) ![1, 0, 0] ![1, 1024, 512] g2))
      (View.ld (Val := Elt Ideal) (e' := .f32) xs (Rect.unit (s := S2048x1024) ![0, 0] ![2048, 1024] g3)) y = xs y + part x0 x1 y := by
  have e0 : View.ld (Val := Elt Ideal) (e' := .f32) xs (Rect.unit (s := S2048x1024) ![0, 0] ![2048, 1024] g3) = xs := View.ld_unit_zero (Val := Elt Ideal) (e := .f32) (S := S2048x1024) (by decide) g3 xs
  unfold k0_pay3
  rw [shapeCast_self, e0]
  exact congrArg (xs y + ·) (pay_part x0 x1 _ _ _ y)

section Cases
variable (c : Dev nD) (i : grid0.Coords) (arg3 : Memref sig .tc .vmem S2048x1024 .bf16) (harg3 : arg3.IsWhole) (arg4 : Memref sig .tc .vmem S2x1024x512 .bf16) (harg4 : arg4.IsWhole)
  (arg5 : Memref sig .tc .vmem S2048x1024 .bf16) (harg5 : arg5.IsWhole) (arg6 : Memref sig .tc .vmem S2048x1024 .f32) (harg6 : arg6.IsWhole)
  (x0 : FVec Ideal S2048x1024 .bf16) (x1 : FVec Ideal S2x1024x512 .bf16) (xs : FVec Ideal S2048x1024 .f32)

theorem caseA (hc0 : cond0_0 i) (hc1 : ¬cond0_1 i) (hc2 : ¬cond0_2 i) (y : S2048x1024.Idx) :
    sout0_A_0 (F := Ideal) c i arg3 harg3 arg4 harg4 arg5 harg5 arg6 harg6 hc0 hc1 hc2 x0 x1 y = part x0 x1 y := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread]
  rw [View.canon_unit_zero (by decide)]
  unfold k0_pay2
  rw [shapeCast_self]
  exact pay_part x0 x1 _ _ _ y

theorem caseB (hc0 : ¬cond0_0 i) (hc1 : cond0_1 i) (hc2 : ¬cond0_2 i) (y : S2048x1024.Idx) :
    sout0_B_0 (F := Ideal) c i arg3 harg3 arg4 harg4 arg5 harg5 arg6 harg6 hc0 hc1 hc2 x0 x1 xs y = xs y + part x0 x1 y := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread]
  rw [View.canon_unit_zero (by decide)]
  exact pay_add x0 x1 xs _ _ _ _ y

theorem caseC (hc0 : ¬cond0_0 i) (hc1 : cond0_1 i) (hc2 : cond0_2 i) (y : S2048x1024.Idx) :
    out0_C_2 (F := Ideal) c i arg3 harg3 arg4 harg4 arg5 harg5 arg6 harg6 hc0 hc1 hc2 x0 x1 xs y = xs y + part x0 x1 y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  simp only [View.readAt_eq_ld, harg3.read_unread, harg4.read_unread, harg6.read_unread]
  rw [View.canon_unit_zero (by decide)]
  refine (congrFun (View.readCov_unit_zero (S := S2048x1024) arg6.view (by decide) _ _) y).trans ?_
  exact pay_add x0 x1 xs _ _ _ _ y

end Cases

theorem index_0 : ∀ t : Fin cfg0.N, win0_0.index t = ![(grid0.coords t 0).val, (grid0.coords t 2).val] := (by decide +kernel : ∀ t : Fin grid0.N, _)
theorem index_1 : ∀ t : Fin cfg0.N, win0_1.index t = ![(grid0.coords t 2).val, 0, 0] := (by decide +kernel : ∀ t : Fin grid0.N, _)
theorem index_2 : ∀ t : Fin cfg0.N, win0_2.index t = ![(grid0.coords t 0).val, 0] := (by decide +kernel : ∀ t : Fin grid0.N, _)
theorem coords_eq : ∀ t : Fin cfg0.N, (grid0.coords t 0).val = t.val / 4 ∧ (grid0.coords t 2).val = t.val % 4 := (by decide +kernel : ∀ t : Fin grid0.N, _)

theorem read_0 (t : Fin cfg0.N) (A : S4096x4096.Idx → EReal) (y : S2048x1024.Idx) : (win0_0.blk t).view.read (Elt Ideal) A y = A ((win0_0.blk t).view.emb y) := rfl
theorem read_1 (t : Fin cfg0.N) (A : S8x1024x512.Idx → EReal) (y : S2x1024x512.Idx) : (win0_1.blk t).view.read (Elt Ideal) A y = A ((win0_1.blk t).view.emb y) := rfl

/-- What a point adds is the share of its two blocks of the weights. -/
theorem part_blk (t : Fin cfg0.N) (A0 : S4096x4096.Idx → EReal) (A1 : S8x1024x512.Idx → EReal) (r : Fin 2048) (j : Fin 1024) (i : Fin 4096) (b b' : Fin 8)
    (hi : i.val = 2048 * (t.val / 4) + r.val) (hb : b.val = 2 * (t.val % 4)) (hb' : b'.val = 2 * (t.val % 4) + 1) :
    part ((win0_0.blk t).view.read (Elt Ideal) A0) ((win0_1.blk t).view.read (Elt Ideal) A1) (ix2 r j) = slice A0 A1 i j b + slice A0 A1 i j b' := by
  obtain ⟨c0, c2⟩ := coords_eq t
  unfold part slice
  refine congrArg₂ (· + ·) (Finset.sum_congr rfl fun k _ => congrArg₂ (· * ·) ?_ ?_) (Finset.sum_congr rfl fun k _ => congrArg₂ (· * ·) ?_ ?_)
  · rw [read_0]
    refine at2 A0 ?_ ?_ <;> blk_simp [index_0] <;> (try dsimp only [Fin.val_mk, Fin.val_zero]) <;> (try omega)
  · rw [read_1]
    refine at3 A1 ?_ ?_ ?_ <;> blk_simp [index_1] <;> (try dsimp only [Fin.val_mk, Fin.val_zero]) <;> (try omega)
  · rw [read_0]
    refine at2 A0 ?_ ?_ <;> blk_simp [index_0] <;> (try dsimp only [Fin.val_mk, Fin.val_zero]) <;> (try omega)
  · rw [read_1]
    refine at3 A1 ?_ ?_ ?_ <;> blk_simp [index_1] <;> (try dsimp only [Fin.val_mk, Fin.val_one]) <;> (try omega)

variable (m : (ℓ : Loc nD τ sig) → Buf (Elt Ideal) ℓ) (c : Dev nD)

theorem first (t : Fin cfg0.N) (h0 : t.val % 4 = 0) (y : S2048x1024.Idx) : (outsAt0 m c t.val t.isLt).2 y = part (iblk m c 0 t) (iblk m c 1 t) y := by
  have h1 : ¬1 ≤ t.val % 4 := by omega
  have h2 : ¬t.val % 4 = 3 := by omega
  have e := caseA c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h2 ((hcond0_2 t).mp h)) y
  rw [outsAt0_A m c t h0 h1 h2]
  dsimp only
  exact e

theorem next (t : Fin cfg0.N) (h0 : ¬t.val % 4 = 0) (h2 : ¬t.val % 4 = 3) (y : S2048x1024.Idx) :
    (outsAt0 m c t.val t.isLt).2 y = (outsAt0 m c (t.val - 1) (Nat.lt_of_le_of_lt (Nat.sub_le _ _) t.isLt)).2 y + part (iblk m c 0 t) (iblk m c 1 t) y := by
  have h1 : 1 ≤ t.val % 4 := by omega
  have e := caseB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) (fun h => h2 ((hcond0_2 t).mp h)) y
  rw [outsAt0_B m c t h0 h1 h2]
  dsimp only
  exact e

theorem last (t : Fin cfg0.N) (h2 : t.val % 4 = 3) (y : S2048x1024.Idx) :
    (outsAt0 m c t.val t.isLt).1 y = (outsAt0 m c (t.val - 1) (Nat.lt_of_le_of_lt (Nat.sub_le _ _) t.isLt)).2 y + part (iblk m c 0 t) (iblk m c 1 t) y := by
  have h0 : ¬t.val % 4 = 0 := by omega
  have h1 : 1 ≤ t.val % 4 := by omega
  have e := caseC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2) y
  rw [outsAt0_C m c t h0 h1 h2]
  dsimp only
  exact e

/-- What the last of four points leaves: the four points' shares. -/
theorem four (t : Fin cfg0.N) (h3 : t.val % 4 = 3) (r : Fin 2048) (j : Fin 1024) (i : Fin 4096) (hi : i.val = 2048 * (t.val / 4) + r.val) :
    (outsAt0 m c t.val t.isLt).1 (ix2 r j) = ∑ b : Fin 8, slice (m ((c : Thread nD τ).loc main_arg0)) (m ((c : Thread nD τ).loc main_arg1)) i j b := by
  have e1 := last m c t h3 (ix2 r j)
  have e2 := next m c ⟨t.val - 1, by omega⟩ (by (try dsimp only); omega) (by (try dsimp only); omega) (ix2 r j)
  have e3 := next m c ⟨t.val - 1 - 1, by omega⟩ (by (try dsimp only); omega) (by (try dsimp only); omega) (ix2 r j)
  have e4 := first m c ⟨t.val - 1 - 1 - 1, by omega⟩ (by (try dsimp only); omega) (ix2 r j)
  refine (e1.trans (congrArg (· + _) (e2.trans (congrArg (· + _) (e3.trans (congrArg (· + _) e4)))))).trans ?_
  rw [← sum_points]
  refine congrArg₂ (· + ·) (congrArg₂ (· + ·) (congrArg₂ (· + ·) ?_ ?_) ?_) ?_
  · exact part_blk _ _ _ r j i 0 1 (by (try dsimp only); omega) (by show (0 : ℕ) = _; (try dsimp only); omega) (by show (1 : ℕ) = _; (try dsimp only); omega)
  · exact part_blk _ _ _ r j i 2 3 (by (try dsimp only); omega) (by show (2 : ℕ) = _; (try dsimp only); omega) (by show (3 : ℕ) = _; (try dsimp only); omega)
  · exact part_blk _ _ _ r j i 4 5 (by (try dsimp only); omega) (by show (4 : ℕ) = _; (try dsimp only); omega) (by show (5 : ℕ) = _; (try dsimp only); omega)
  · exact part_blk _ _ _ r j i 6 7 (by (try dsimp only); omega) (by show (6 : ℕ) = _; (try dsimp only); omega) (by show (7 : ℕ) = _; (try dsimp only); omega)

theorem final : (dats m 0 c).arrAt 2 cfg0.N = (G (m ((c : Thread nD τ).loc main_arg0)) (m ((c : Thread nD τ).loc main_arg1)) : S4096x1024.Idx → EReal) := by
  refine (dats m 0 c).arrAt_eq_of_covers 2 (G (m ((c : Thread nD τ).loc main_arg0)) (m ((c : Thread nD τ).loc main_arg1)) : S4096x1024.Idx → EReal) (by decide +kernel) fun t hf y => ?_
  obtain ⟨r, j, rfl⟩ := eta2 (n := 2048) (m := 1024) y
  show (dats m 0 c).after 2 t (ix2 r j) = _
  rw [after0_2]
  have h3 : t.val % 4 = 3 := (flush0_2 t).mp hf
  have hN : t.val < 8 := lt_of_lt_of_eq t.isLt (show cfg0.N = 8 from N_0)
  refine (four m c t h3 r j ⟨2048 * (t.val / 4) + r.val, by omega⟩ rfl).trans ?_
  obtain ⟨c0, c2⟩ := coords_eq t
  unfold G
  refine Finset.sum_congr rfl fun b _ => ?_
  refine congrArg₂ (fun i j => slice (m ((c : Thread nD τ).loc main_arg0)) (m ((c : Thread nD τ).loc main_arg1)) i j b) (Fin.ext ?_) (Fin.ext ?_) <;> blk_simp [index_2] <;> (try dsimp only [Fin.val_mk]) <;> (try omega)

end Kernel

section Reference
open Cert.Reference4Ideal Cert.Reference4Ideal.Gen Cert.Reference4Ideal.Read

theorem ref_at (x0 : FVec Ideal S4096x4096 .bf16) (x1 : FVec Ideal S8x1024x512 .bf16) (i : Fin 4096) (j : Fin 1024) :
    val_main_v7 (F := Ideal) x0 x1 (ix2 i j) = G x0 x1 (ix2 i j) := by
  pointwise [val_main_v7, val_main_v6, val_main_v2, val_main_v3, val_main_v1, val_main_v0]
  refine (sum_blocks _).trans ?_
  unfold G slice
  refine Finset.sum_congr rfl fun b _ => Finset.sum_congr rfl fun k _ => congrArg₂ (· * ·) rfl (at3 x1 ?_ rfl ?_)
  · show (512 * b.val + k.val) / 512 = b.val
    omega
  · show (512 * b.val + k.val) % 512 = k.val
    omega

theorem ref (x0 : FVec Ideal S4096x4096 .bf16) (x1 : FVec Ideal S8x1024x512 .bf16) : val_main_v7 (F := Ideal) x0 x1 = G x0 x1 := by
  funext y
  obtain ⟨i, j, rfl⟩ := eta2 (n := 4096) (m := 1024) y
  exact ref_at x0 x1 i j

end Reference

end Cert.UpDx
end
-- ==== Proof.UpDw.lean ====
/-
  The gradient of the weights of the first product of the MLP: hᵀ · da, in the stacked layout the exchange takes.
-/
module

public import proofs.«01_k».proof.Proof.MlpIndex
public import proofs.«01_k».proof.Proof.Gen.Kernel5Ideal.Value
public import proofs.«01_k».proof.Proof.Gen.Reference5Ideal.Run
public import proofs.«01_k».proof.Proof.Gen.Reference5Ideal.Read

@[expose] public section

set_option maxHeartbeats 400000

noncomputable section

namespace Cert.UpDw
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![4096, 4096]⟩ : Shape).Idx → EReal) :
    (⟨3, ![8, 1024, 512]⟩ : Shape).Idx → EReal := fun i =>
  ∑ k : Fin 4096, x0 (ix2 k (i 1)) * x1 (ix2 k ⟨(i 0).val * 512 + (i 2).val, by have := (i 0).isLt; have := (i 2).isLt; simp at *; omega⟩)

section Kernel
open Cert.Kernel5Ideal Cert.Kernel5Ideal.Gen

theorem pay (v0 : FVec Ideal S4096x1024 .bf16) (v1 : FVec Ideal S4096x512 .bf16) (r : Fin 1024) (j : Fin 512) :
    k0_pay1 (F := Ideal) v0 v1 (ix3 0 r j) = ∑ k : Fin 4096, v0 (ix2 k r) * v1 (ix2 k j) := by
  pointwise [k0_pay1]

theorem out_eq (v0 : FVec Ideal S4096x1024 .bf16) (v1 : FVec Ideal S4096x512 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 1).val, 0, 0] := (by decide +kernel : ∀ t : Fin grid0.N, _)

theorem read_0 (t : Fin cfg0.N) (A : S4096x1024.Idx → EReal) (y : S4096x1024.Idx) : (win0_0.blk t).view.read (Elt Ideal) A y = A ((win0_0.blk t).view.emb y) := rfl
theorem read_1 (t : Fin cfg0.N) (A : S4096x4096.Idx → EReal) (y : S4096x512.Idx) : (win0_1.blk t).view.read (Elt Ideal) A y = A ((win0_1.blk t).view.emb y) := rfl

/-- A block of the result is the product of the blocks of the arguments. -/
theorem block (t : Fin cfg0.N) (A0 : S4096x1024.Idx → EReal) (A1 : S4096x4096.Idx → EReal) (r : Fin 1024) (j : Fin 512) :
    k0_pay1 (F := Ideal) ((win0_0.blk t).view.read (Elt Ideal) A0) ((win0_1.blk t).view.read (Elt Ideal) A1) (ix3 0 r j)
      = G A0 A1 ((win0_2.blk t).view.emb (ix3 0 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S8x1024x512.Idx → EReal) := by
  refine (dats m 0 c).arrAt_eq_of_covers 2 (G (m ((c : Thread nD τ).loc main_arg0)) (m ((c : Thread nD τ).loc main_arg1)) : S8x1024x512.Idx → EReal) (by decide +kernel) fun t hf y => ?_
  obtain ⟨z, r, j, rfl⟩ := eta3 (n := 1) (m := 1024) (l := 512) y
  obtain rfl : z = 0 := Subsingleton.elim _ _
  show (dats m 0 c).after 2 t (ix3 0 r j) = _
  rw [after0_2, out_eq]
  exact block t _ _  r j

end Kernel

section Reference
open Cert.Reference5Ideal Cert.Reference5Ideal.Gen Cert.Reference5Ideal.Read

theorem ref_at (x0 : FVec Ideal S4096x1024 .bf16) (x1 : FVec Ideal S4096x4096 .bf16) (i : Fin 8) (j : Fin 1024) (k : Fin 512) :
    val_main_v8 (F := Ideal) x0 x1 (ix3 i j k) = G x0 x1 (ix3 i j k) := by
  pointwise [val_main_v8, val_main_v7, val_main_v6, val_main_v5, val_main_v4, val_main_v1, val_main_v0]
  exact Finset.sum_congr rfl fun _ _ => mul_comm _ _

theorem ref (x0 : FVec Ideal S4096x1024 .bf16) (x1 : FVec Ideal S4096x4096 .bf16) : val_main_v8 (F := Ideal) x0 x1 = G x0 x1 := by
  funext y
  obtain ⟨i, j, k, rfl⟩ := eta3 (n := 8) (m := 1024) (l := 512) y
  exact ref_at x0 x1 i j k

end Reference

end Cert.UpDw
end
-- ==== Proof.Up.lean ====
/-
  The first product of the MLP: h · W1, the weights given as the stack of their gathered blocks of columns.
-/
module

public import proofs.«01_k».proof.Proof.MlpIndex
public import proofs.«01_k».proof.Proof.Gen.Kernel6Ideal.Value
public import proofs.«01_k».proof.Proof.Gen.Reference6Ideal.Run
public import proofs.«01_k».proof.Proof.Gen.Reference6Ideal.Read

@[expose] public section

set_option maxHeartbeats 400000

noncomputable section

namespace Cert.Up
open Idealize.ShloMosaic Idealize.ShloMosaic.TcCoe Idealize.SL.Sem
open Cert.Mlp

/-- What the product leaves in its result, from the arrays. -/
def G (x0 : (⟨2, ![4096, 1024]⟩ : Shape).Idx → EReal) (x1 : (⟨3, ![8, 1024, 512]⟩ : Shape).Idx → EReal) :
    (⟨2, ![4096, 4096]⟩ : Shape).Idx → EReal := fun i =>
  ∑ k : Fin 1024, x0 (ix2 (i 0) k) * x1 (ix3 ⟨(i 1).val / 512, by have := (i 1).isLt; simp at this; omega⟩ k ⟨(i 1).val % 512, by omega⟩)

section Kernel
open Cert.Kernel6Ideal Cert.Kernel6Ideal.Gen

theorem pay (v0 : FVec Ideal S2048x1024 .bf16) (v1 : FVec Ideal S1x1024x512 .bf16) (r : Fin 2048) (j : Fin 512) :
    k0_pay1 (F := Ideal) v0 v1 (ix2 r j) = ∑ k : Fin 1024, v0 (ix2 r k) * v1 (ix3 0 k j) := by
  pointwise [k0_pay1]

theorem out_eq (v0 : FVec Ideal S2048x1024 .bf16) (v1 : FVec Ideal S1x1024x512 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![(grid0.coords t 1).val, 0, 0] := (by decide +kernel : ∀ t : Fin grid0.N, _)
theorem index_2 : ∀ t : Fin cfg0.N, win0_2.index t = ![(grid0.coords t 0).val, (grid0.coords t 1).val] := (by decide +kernel : ∀ t : Fin grid0.N, _)

theorem read_0 (t : Fin cfg0.N) (A : S4096x1024.Idx → EReal) (y : S2048x1024.Idx) : (win0_0.blk t).view.read (Elt Ideal) A y = A ((win0_0.blk t).view.emb y) := rfl
theorem read_1 (t : Fin cfg0.N) (A : S8x1024x512.Idx → EReal) (y : S1x1024x512.Idx) : (win0_1.blk t).view.read (Elt Ideal) A y = A ((win0_1.blk t).view.emb y) := rfl

/-- A block of the result is the product of the blocks of the arguments. -/
theorem block (t : Fin cfg0.N) (A0 : S4096x1024.Idx → EReal) (A1 : S8x1024x512.Idx → EReal) (r : Fin 2048) (j : Fin 512) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at3 A1 ?_ ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x4096.Idx → EReal) := by
  refine (dats m 0 c).arrAt_eq_of_covers 2 (G (m ((c : Thread nD τ).loc main_arg0)) (m ((c : Thread nD τ).loc main_arg1)) : S4096x4096.Idx → EReal) (by decide +kernel) fun t hf y => ?_
  obtain ⟨r, j, rfl⟩ := eta2 (n := 2048) (m := 512) y
  show (dats m 0 c).after 2 t (ix2 r j) = _
  rw [after0_2, out_eq]
  exact block t _ _  r j

end Kernel

section Reference
open Cert.Reference6Ideal Cert.Reference6Ideal.Gen Cert.Reference6Ideal.Read

theorem ref_at (x0 : FVec Ideal S4096x1024 .bf16) (x1 : FVec Ideal S8x1024x512 .bf16) (i : Fin 4096) (j : Fin 4096) :
    val_main_v5 (F := Ideal) x0 x1 (ix2 i j) = G x0 x1 (ix2 i j) := by
  pointwise [val_main_v5, val_main_v4, val_main_v2, val_main_v3, val_main_v1, val_main_v0]
  rfl

theorem ref (x0 : FVec Ideal S4096x1024 .bf16) (x1 : FVec Ideal S8x1024x512 .bf16) : val_main_v5 (F := Ideal) x0 x1 = G x0 x1 := by
  funext y
  obtain ⟨i, j, rfl⟩ := eta2 (n := 4096) (m := 4096) y
  exact ref_at x0 x1 i j

end Reference

end Cert.Up
end
-- ==== Proof.Down.lean ====
/-
  The second product of the MLP: the square of the ReLU times W2, added to the residual stream through a gate. The contracted axis is
  taken in four parts, which the kernel adds up from point to point; the last point writes both results.
-/
module

public import proofs.«01_k».proof.Proof.MlpIndex
public import proofs.«01_k».proof.Proof.Gen.Kernel7Ideal.Value
public import proofs.«01_k».proof.Proof.Gen.Reference7Ideal.Run
public import proofs.«01_k».proof.Proof.Gen.Reference7Ideal.Read

@[expose] public section

set_option maxHeartbeats 400000
set_option maxRecDepth 16384

noncomputable section

namespace Cert.Down
open Idealize.ShloMosaic Idealize.ShloMosaic.TcCoe Idealize.SL.Sem
open Cert.Mlp

/-- The square of the ReLU. -/
def sq (a : EReal) : EReal := max a 0 * max a 0

/-- The share of one block of the weights in an element of the product. -/
def slice (x0 : (⟨2, ![4096, 4096]⟩ : Shape).Idx → EReal) (x1 : (⟨3, ![8, 512, 1024]⟩ : Shape).Idx → EReal) (i : Fin 4096) (j : Fin 1024) (b : Fin 8) : EReal :=
  ∑ k : Fin 512, sq (x0 (ix2 i ⟨512 * b.val + k.val, by omega⟩)) * x1 (ix3 b k j)

/-- The product, from the arrays: the second result. -/
def P (x0 : (⟨2, ![4096, 4096]⟩ : Shape).Idx → EReal) (x1 : (⟨3, ![8, 512, 1024]⟩ : Shape).Idx → EReal) : (⟨2, ![4096, 1024]⟩ : Shape).Idx → EReal := fun i =>
  ∑ b : Fin 8, slice x0 x1 (i 0) (i 1) b

/-- A value of the residual stream `x` plus its gated product. -/
def gated (x g s : EReal) : EReal := x + g * s

/-- The first result: the residual stream plus the gated product. -/
def G (x0 : (⟨2, ![4096, 4096]⟩ : Shape).Idx → EReal) (x1 : (⟨3, ![8, 512, 1024]⟩ : Shape).Idx → EReal) (x2 : (⟨2, ![4096, 1024]⟩ : Shape).Idx → EReal)
    (x3 : (⟨3, ![2, 1, 1024]⟩ : Shape).Idx → EReal) : (⟨2, ![4096, 1024]⟩ : Shape).Idx → EReal := fun i =>
  x2 i + x3 (ix3 ⟨(i 0).val / 2048, by have := (i 0).isLt; simp at this; omega⟩ 0 (i 1)) * P x0 x1 i

section Kernel
open Cert.Kernel7Ideal Cert.Kernel7Ideal.Gen

/-- What one point adds to the accumulator. -/
def part (v0 : S1024x1024.Idx → EReal) (v1 : S2x512x1024.Idx → EReal) : S1024x1024.Idx → EReal := fun i =>
  (∑ k : Fin 512, sq (v0 (ix2 (i 0) ⟨k.val, by omega⟩)) * v1 (ix3 0 k (i 1))) + ∑ k : Fin 512, sq (v0 (ix2 (i 0) ⟨512 + k.val, by omega⟩)) * v1 (ix3 1 k (i 1))

theorem pay (v0 : FVec Ideal S1024x1024 .bf16) (v1 : FVec Ideal S1x512x1024 .bf16) (v2 : FVec Ideal S1x512x1024 .bf16) (r j : Fin 1024) :
    k0_pay1 (F := Ideal) v0 v1 v2 (ix2 r j) = (∑ k : Fin 512, sq (v0 (ix2 r ⟨k.val, by omega⟩)) * v1 (ix3 0 k j)) + ∑ k : Fin 512, sq (v0 (ix2 r ⟨512 + k.val, by omega⟩)) * v2 (ix3 0 k j) := by
  pointwise [k0_pay1]
  rfl

theorem pay_gate (v24 : FVec Ideal S1024x1024 .f32) (v25 : FVec Ideal S1024x1024 .f32) (v26 : FVec Ideal S1x1x1024 .f32) (r j : Fin 1024) :
    k0_pay4 (F := Ideal) v24 v25 v26 (ix2 r j) = v25 (ix2 r j) + v26 (ix3 0 0 j) * v24 (ix2 r j) := by
  pointwise [k0_pay4]

theorem ld_lo (x1 : S2x512x1024.Idx → EReal) (h) (j : Fin 1024) (k : Fin 512) :
    View.ld (Val := Elt Ideal) (e' := .bf16) x1 (Rect.unit (s := S2x512x1024) ![0, 0, 0] ![1, 512, 1024] h) (ix3 0 k j) = x1 (ix3 0 k j) := by
  refine at3 (n := 2) (m := 512) (l := 1024) x1 ?_ ?_ ?_
  · rfl
  · exact (Nat.zero_add _).trans (Nat.one_mul _)
  · exact (Nat.zero_add _).trans (Nat.one_mul _)

theorem ld_hi (x1 : S2x512x1024.Idx → EReal) (h) (j : Fin 1024) (k : Fin 512) :
    View.ld (Val := Elt Ideal) (e' := .bf16) x1 (Rect.unit (s := S2x512x1024) ![1, 0, 0] ![1, 512, 1024] h) (ix3 0 k j) = x1 (ix3 1 k j) := by
  refine at3 (n := 2) (m := 512) (l := 1024) x1 ?_ ?_ ?_
  · rfl
  · exact (Nat.zero_add _).trans (Nat.one_mul _)
  · exact (Nat.zero_add _).trans (Nat.one_mul _)

theorem pay_part (x0 : FVec Ideal S1024x1024 .bf16) (x1 : FVec Ideal S2x512x1024 .bf16) (h g1 g2) (y : S1024x1024.Idx) :
    k0_pay1 (F := Ideal) (View.ld (Val := Elt Ideal) (e' := .bf16) x0 (Rect.unit (s := S1024x1024) ![0, 0] ![1024, 1024] h)) (View.ld (Val := Elt Ideal) (e' := .bf16) x1 (Rect.unit (s := S2x512x1024) ![0, 0, 0] ![1, 512, 1024] g1))
      (View.ld (Val := Elt Ideal) (e' := .bf16) x1 (Rect.unit (s := S2x512x1024) ![1, 0, 0] ![1, 512, 1024] g2)) y = part x0 x1 y := by
  obtain ⟨r, j, rfl⟩ := eta2 (n := 1024) (m := 1024) y
  have e0 : View.ld (Val := Elt Ideal) (e' := .bf16) x0 (Rect.unit (s := S1024x1024) ![0, 0] ![1024, 1024] h) = x0 := View.ld_unit_zero (Val := Elt Ideal) (e := .bf16) (S := S1024x1024) (by decide) h x0
  rw [pay, e0]
  exact congrArg₂ (· + ·) (Finset.sum_congr rfl fun k _ => congrArg₂ (· * ·) rfl (ld_lo x1 _ j k)) (Finset.sum_congr rfl fun k _ => congrArg₂ (· * ·) rfl (ld_hi x1 _ j k))

theorem pay_add (x0 : FVec Ideal S1024x1024 .bf16) (x1 : FVec Ideal S2x512x1024 .bf16) (xs : FVec Ideal S1024x1024 .f32) (h g1 g2 g3) (y : S1024x1024.Idx) :
    k0_pay3 (F := Ideal) (View.ld (Val := Elt Ideal) (e' := .bf16) x0 (Rect.unit (s := S1024x1024) ![0, 0] ![1024, 1024] h)) (View.ld (Val := Elt Ideal) (e' := .bf16) x1 (Rect.unit (s := S2x512x1024) ![0, 0, 0] ![1, 512, 1024] g1))
      (View.ld (Val := Elt Ideal) (e' := .bf16) x1 (Rect.unit (s := S2x512x1024) ![1, 0, 0] ![1, 512, 1024] g2))
      (View.ld (Val := Elt Ideal) (e' := .f32) xs (Rect.unit (s := S1024x1024) ![0, 0] ![1024, 1024] g3)) y = xs y + part x0 x1 y := by
  have e0 : View.ld (Val := Elt Ideal) (e' := .f32) xs (Rect.unit (s := S1024x1024) ![0, 0] ![1024, 1024] g3) = xs := View.ld_unit_zero (Val := Elt Ideal) (e := .f32) (S := S1024x1024) (by decide) g3 xs
  unfold k0_pay3
  rw [shapeCast_self, e0]
  exact congrArg (xs y + ·) (pay_part x0 x1 _ _ _ y)

section Cases
variable (c : Dev nD) (i : grid0.Coords) (arg3 : Memref sig .tc .vmem S1024x1024 .bf16) (harg3 : arg3.IsWhole) (arg4 : Memref sig .tc .vmem S2x512x1024 .bf16) (harg4 : arg4.IsWhole) (arg5 : Memref sig .tc .vmem S1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : FVec Ideal S1024x1024 .bf16) (x1 : FVec Ideal S2x512x1024 .bf16) (x2 : FVec Ideal S1024x1024 .f32) (x3 : FVec Ideal S1x1x1024 .f32) (xs : FVec Ideal S1024x1024 .f32)

theorem caseA (hc0 : cond0_0 i) (hc1 : ¬cond0_1 i) (hc2 : ¬cond0_2 i) (y : S1024x1024.Idx) :
    sout0_A_0 (F := Ideal) c i arg3 harg3 arg4 harg4 arg5 harg5 arg6 harg6 arg7 harg7 arg8 harg8 arg9 harg9 hc0 hc1 hc2 x0 x1 x2 x3 y = part x0 x1 y := by
  unfold sout0_A_0
  rw [View.read_writes_eq_canon _ _ _ (scover0_A_0 (F := Ideal) c i arg3 harg3 arg4 harg4 arg5 harg5 arg6 harg6 arg7 harg7 arg8 harg8 arg9 harg9 hc0 hc1 hc2 x0 x1 x2 x3)]
  unfold kernelRun0_A
  dsimp only
  sl_unfold_words
  simp only [View.readAt_eq_ld, harg3.read_unread, harg4.read_unread, harg5.read_unread, harg6.read_unread, harg9.read_unread]
  rw [View.canon_unit_zero (by decide)]
  unfold k0_pay2
  rw [shapeCast_self]
  exact pay_part x0 x1 _ _ _ y

theorem caseB (hc0 : ¬cond0_0 i) (hc1 : cond0_1 i) (hc2 : ¬cond0_2 i) (y : S1024x1024.Idx) :
    sout0_B_0 (F := Ideal) c i arg3 harg3 arg4 harg4 arg5 harg5 arg6 harg6 arg7 harg7 arg8 harg8 arg9 harg9 hc0 hc1 hc2 x0 x1 x2 x3 xs y = xs y + part x0 x1 y := by
  unfold sout0_B_0
  rw [View.read_writes_eq_canon _ _ _ (scover0_B_0 (F := Ideal) c i arg3 harg3 arg4 harg4 arg5 harg5 arg6 harg6 arg7 harg7 arg8 harg8 arg9 harg9 hc0 hc1 hc2 x0 x1 x2 x3 xs)]
  unfold kernelRun0_B
  dsimp only
  sl_unfold_words
  simp only [View.readAt_eq_ld, harg3.read_unread, harg4.read_unread, harg5.read_unread, harg6.read_unread, harg9.read_unread]
  rw [View.canon_unit_zero (by decide)]
  exact pay_add x0 x1 xs _ _ _ _ y

theorem caseC5 (hc0 : ¬cond0_0 i) (hc1 : cond0_1 i) (hc2 : cond0_2 i) (y : S1024x1024.Idx) :
    out0_C_5 (F := Ideal) c i arg3 harg3 arg4 harg4 arg5 harg5 arg6 harg6 arg7 harg7 arg8 harg8 arg9 harg9 hc0 hc1 hc2 x0 x1 x2 x3 xs y = xs y + part x0 x1 y := by
  unfold out0_C_5
  rw [View.read_writes_eq_canon _ _ _ (cover0_C_5 (F := Ideal) c i arg3 harg3 arg4 harg4 arg5 harg5 arg6 harg6 arg7 harg7 arg8 harg8 arg9 harg9 hc0 hc1 hc2 x0 x1 x2 x3 xs)]
  unfold kernelRun0_C
  dsimp only
  sl_unfold_words
  simp only [View.readAt_eq_ld, harg3.read_unread, harg4.read_unread, harg5.read_unread, harg6.read_unread, harg9.read_unread]
  rw [View.canon_unit_zero (by decide)]
  refine (congrFun (View.readCov_unit_zero (S := S1024x1024) arg9.view (by decide) _ _) y).trans ?_
  exact pay_add x0 x1 xs _ _ _ _ y

theorem caseC4 (hc0 : ¬cond0_0 i) (hc1 : cond0_1 i) (hc2 : cond0_2 i) (y : S1024x1024.Idx) :
    out0_C_4 (F := Ideal) c i arg3 harg3 arg4 harg4 arg5 harg5 arg6 harg6 arg7 harg7 arg8 harg8 arg9 harg9 hc0 hc1 hc2 x0 x1 x2 x3 xs y = x2 y + x3 (ix3 0 0 (y 1)) * (xs y + part x0 x1 y) := by
  unfold out0_C_4
  rw [View.read_writes_eq_canon _ _ _ (cover0_C_4 (F := Ideal) c i arg3 harg3 arg4 harg4 arg5 harg5 arg6 harg6 arg7 harg7 arg8 harg8 arg9 harg9 hc0 hc1 hc2 x0 x1 x2 x3 xs)]
  unfold kernelRun0_C
  dsimp only
  sl_unfold_words
  simp only [View.readAt_eq_ld, harg3.read_unread, harg4.read_unread, harg5.read_unread, harg6.read_unread, harg9.read_unread]
  rw [View.canon_unit_zero (by decide)]
  obtain ⟨r, j, rfl⟩ := eta2 (n := 1024) (m := 1024) y
  rw [pay_gate]
  refine congrArg₂ (· + ·) (congrFun (View.ld_unit_zero (Val := Elt Ideal) (e := .f32) (S := S1024x1024) (by decide) _ x2) (ix2 r j))
    (congrArg₂ (· * ·) (congrFun (View.ld_unit_zero (Val := Elt Ideal) (e := .f32) (S := S1x1x1024) (by decide) _ x3) (ix3 0 0 j)) ?_)
  refine (congrFun (View.readCov_unit_zero (S := S1024x1024) arg9.view (by decide) _ _) (ix2 r j)).trans ?_
  exact pay_add x0 x1 xs _ _ _ _ (ix2 r j)

end Cases

theorem index_0 : ∀ t : Fin cfg0.N, win0_0.index t = ![(grid0.coords t 0).val, (grid0.coords t 2).val] := (by decide +kernel : ∀ t : Fin grid0.N, _)
theorem index_1 : ∀ t : Fin cfg0.N, win0_1.index t = ![(grid0.coords t 2).val, 0, 0] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val / 2, 0, 0] := (by decide +kernel : ∀ t : Fin grid0.N, _)
theorem index_4 : ∀ t : Fin cfg0.N, win0_4.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem coords_eq : ∀ t : Fin cfg0.N, (grid0.coords t 0).val = t.val / 4 ∧ (grid0.coords t 2).val = t.val % 4 := (by decide +kernel : ∀ t : Fin grid0.N, _)

theorem read_0 (t : Fin cfg0.N) (A : S4096x4096.Idx → EReal) (y : S1024x1024.Idx) : (win0_0.blk t).view.read (Elt Ideal) A y = A ((win0_0.blk t).view.emb y) := rfl
theorem read_1 (t : Fin cfg0.N) (A : S8x512x1024.Idx → EReal) (y : S2x512x1024.Idx) : (win0_1.blk t).view.read (Elt Ideal) A y = A ((win0_1.blk t).view.emb y) := rfl

theorem read_2 (t : Fin cfg0.N) (A : S4096x1024.Idx → EReal) (y : S1024x1024.Idx) : (win0_2.blk t).view.read (Elt Ideal) A y = A ((win0_2.blk t).view.emb y) := rfl
theorem read_3 (t : Fin cfg0.N) (A : S2x1x1024.Idx → EReal) (y : S1x1x1024.Idx) : (win0_3.blk t).view.read (Elt Ideal) A y = A ((win0_3.blk t).view.emb y) := rfl

/-- What a point adds is the share of its two blocks of the weights. -/
theorem part_blk (t : Fin cfg0.N) (A0 : S4096x4096.Idx → EReal) (A1 : S8x512x1024.Idx → EReal) (r j : Fin 1024) (i : Fin 4096) (b b' : Fin 8)
    (hi : i.val = 1024 * (t.val / 4) + r.val) (hb : b.val = 2 * (t.val % 4)) (hb' : b'.val = 2 * (t.val % 4) + 1) :
    part ((win0_0.blk t).view.read (Elt Ideal) A0) ((win0_1.blk t).view.read (Elt Ideal) A1) (ix2 r j) = slice A0 A1 i j b + slice A0 A1 i j b' := by
  obtain ⟨c0, c2⟩ := coords_eq t
  unfold part slice
  refine congrArg₂ (· + ·) (Finset.sum_congr rfl fun k _ => congrArg₂ (· * ·) (congrArg sq ?_) ?_) (Finset.sum_congr rfl fun k _ => congrArg₂ (· * ·) (congrArg sq ?_) ?_)
  · rw [read_0]
    refine at2 A0 ?_ ?_ <;> blk_simp [index_0] <;> (try dsimp only [Fin.val_mk, Fin.val_zero]) <;> (try omega)
  · rw [read_1]
    refine at3 A1 ?_ ?_ ?_ <;> blk_simp [index_1] <;> (try dsimp only [Fin.val_mk, Fin.val_zero]) <;> (try omega)
  · rw [read_0]
    refine at2 A0 ?_ ?_ <;> blk_simp [index_0] <;> (try dsimp only [Fin.val_mk, Fin.val_zero]) <;> (try omega)
  · rw [read_1]
    refine at3 A1 ?_ ?_ ?_ <;> blk_simp [index_1] <;> (try dsimp only [Fin.val_mk, Fin.val_one]) <;> (try omega)

variable (m : (ℓ : Loc nD τ sig) → Buf (Elt Ideal) ℓ) (c : Dev nD)

theorem first (t : Fin cfg0.N) (h0 : t.val % 4 = 0) (y : S1024x1024.Idx) : (outsAt0 m c t.val t.isLt).2.2 y = part (iblk m c 0 t) (iblk m c 1 t) y := by
  have h1 : ¬1 ≤ t.val % 4 := by omega
  have h2 : ¬t.val % 4 = 3 := by omega
  have e := caseA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) ((hcond0_0 t).mpr h0) (fun h => h1 ((hcond0_1 t).mp h)) (fun h => h2 ((hcond0_2 t).mp h)) y
  rw [outsAt0_A m c t h0 h1 h2]
  dsimp only
  exact e

theorem next (t : Fin cfg0.N) (h0 : ¬t.val % 4 = 0) (h2 : ¬t.val % 4 = 3) (y : S1024x1024.Idx) :
    (outsAt0 m c t.val t.isLt).2.2 y = (outsAt0 m c (t.val - 1) (Nat.lt_of_le_of_lt (Nat.sub_le _ _) t.isLt)).2.2 y + part (iblk m c 0 t) (iblk m c 1 t) y := by
  have h1 : 1 ≤ t.val % 4 := by omega
  have e := caseB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) (Nat.lt_of_le_of_lt (Nat.sub_le _ _) t.isLt)).2.2 (fun h => h0 ((hcond0_0 t).mp h)) ((hcond0_1 t).mpr h1) (fun h => h2 ((hcond0_2 t).mp h)) y
  rw [outsAt0_B m c t h0 h1 h2]
  dsimp only
  exact e

theorem last5 (t : Fin cfg0.N) (h2 : t.val % 4 = 3) (y : S1024x1024.Idx) :
    (outsAt0 m c t.val t.isLt).2.1 y = (outsAt0 m c (t.val - 1) (Nat.lt_of_le_of_lt (Nat.sub_le _ _) t.isLt)).2.2 y + part (iblk m c 0 t) (iblk m c 1 t) y := by
  have h0 : ¬t.val % 4 = 0 := by omega
  have h1 : 1 ≤ t.val % 4 := by omega
  have e := caseC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) (Nat.lt_of_le_of_lt (Nat.sub_le _ _) t.isLt)).2.2 (fun h => h0 ((hcond0_0 t).mp h)) ((hcond0_1 t).mpr h1) ((hcond0_2 t).mpr h2) y
  rw [outsAt0_C m c t h0 h1 h2]
  dsimp only
  exact e

theorem last4 (t : Fin cfg0.N) (h2 : t.val % 4 = 3) (r j : Fin 1024) :
    (outsAt0 m c t.val t.isLt).1 (ix2 r j) = gated ((win0_2.blk t).view.read (Elt Ideal) (m ((c : Thread nD τ).loc main_arg2)) (ix2 r j))
      ((win0_3.blk t).view.read (Elt Ideal) (m ((c : Thread nD τ).loc main_arg3)) (ix3 0 0 j))
      ((outsAt0 m c (t.val - 1) (Nat.lt_of_le_of_lt (Nat.sub_le _ _) t.isLt)).2.2 (ix2 r j) + part (iblk m c 0 t) (iblk m c 1 t) (ix2 r j)) := by
  have h0 : ¬t.val % 4 = 0 := by omega
  have h1 : 1 ≤ t.val % 4 := by omega
  have e := caseC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (outsAt0 m c (t.val - 1) (Nat.lt_of_le_of_lt (Nat.sub_le _ _) t.isLt)).2.2 (fun h => h0 ((hcond0_0 t).mp h)) ((hcond0_1 t).mpr h1) ((hcond0_2 t).mpr h2) (ix2 r j)
  rw [outsAt0_C m c t h0 h1 h2]
  dsimp only
  exact e

/-- What four points add up to: the four points' shares. -/
theorem four (t : Fin cfg0.N) (h3 : t.val % 4 = 3) (r j : Fin 1024) (i : Fin 4096) (hi : i.val = 1024 * (t.val / 4) + r.val) :
    (outsAt0 m c (t.val - 1) (Nat.lt_of_le_of_lt (Nat.sub_le _ _) t.isLt)).2.2 (ix2 r j) + part (iblk m c 0 t) (iblk m c 1 t) (ix2 r j) = P (m ((c : Thread nD τ).loc main_arg0)) (m ((c : Thread nD τ).loc main_arg1)) (ix2 i j) := by
  have e2 := next m c ⟨t.val - 1, by omega⟩ (by (try dsimp only); omega) (by (try dsimp only); omega) (ix2 r j)
  have e3 := next m c ⟨t.val - 1 - 1, by omega⟩ (by (try dsimp only); omega) (by (try dsimp only); omega) (ix2 r j)
  have e4 := first m c ⟨t.val - 1 - 1 - 1, by omega⟩ (by (try dsimp only); omega) (ix2 r j)
  refine (congrArg (· + _) (e2.trans (congrArg (· + _) (e3.trans (congrArg (· + _) e4))))).trans ?_
  unfold P
  rw [← sum_points]
  refine congrArg₂ (· + ·) (congrArg₂ (· + ·) (congrArg₂ (· + ·) ?_ ?_) ?_) ?_
  · exact part_blk _ _ _ r j i 0 1 (by (try dsimp only); omega) (by show (0 : ℕ) = _; (try dsimp only); omega) (by show (1 : ℕ) = _; (try dsimp only); omega)
  · exact part_blk _ _ _ r j i 2 3 (by (try dsimp only); omega) (by show (2 : ℕ) = _; (try dsimp only); omega) (by show (3 : ℕ) = _; (try dsimp only); omega)
  · exact part_blk _ _ _ r j i 4 5 (by (try dsimp only); omega) (by show (4 : ℕ) = _; (try dsimp only); omega) (by show (5 : ℕ) = _; (try dsimp only); omega)
  · exact part_blk _ _ _ r j i 6 7 (by (try dsimp only); omega) (by show (6 : ℕ) = _; (try dsimp only); omega) (by show (7 : ℕ) = _; (try dsimp only); omega)

theorem final5 : (dats m 0 c).arrAt 5 cfg0.N = (P (m ((c : Thread nD τ).loc main_arg0)) (m ((c : Thread nD τ).loc main_arg1)) : S4096x1024.Idx → EReal) := by
  refine (dats m 0 c).arrAt_eq_of_covers 5 (P (m ((c : Thread nD τ).loc main_arg0)) (m ((c : Thread nD τ).loc main_arg1)) : S4096x1024.Idx → EReal) (by decide +kernel) fun t hf y => ?_
  obtain ⟨r, j, rfl⟩ := eta2 (n := 1024) (m := 1024) y
  show (dats m 0 c).after 5 t (ix2 r j) = _
  rw [after0_5]
  have h3 : t.val % 4 = 3 := (flush0_5 t).mp hf
  have hN : t.val < 16 := lt_of_lt_of_eq t.isLt (show cfg0.N = 16 from N_0)
  obtain ⟨c0, c2⟩ := coords_eq t
  have e := four m c t h3 r j ⟨1024 * (t.val / 4) + r.val, by omega⟩ rfl
  refine ((last5 m c t h3 (ix2 r j)).trans e).trans ?_
  refine at2 (P (m ((c : Thread nD τ).loc main_arg0)) (m ((c : Thread nD τ).loc main_arg1))) ?_ ?_ <;> blk_simp [index_5] <;> (try dsimp only [Fin.val_mk, Fin.val_zero]) <;> (try omega)

theorem final4 : (dats m 0 c).arrAt 4 cfg0.N = (G (m ((c : Thread nD τ).loc main_arg0)) (m ((c : Thread nD τ).loc main_arg1)) (m ((c : Thread nD τ).loc main_arg2)) (m ((c : Thread nD τ).loc main_arg3)) : S4096x1024.Idx → EReal) := by
  refine (dats m 0 c).arrAt_eq_of_covers 4 (G (m ((c : Thread nD τ).loc main_arg0)) (m ((c : Thread nD τ).loc main_arg1)) (m ((c : Thread nD τ).loc main_arg2)) (m ((c : Thread nD τ).loc main_arg3)) : S4096x1024.Idx → EReal) (by decide +kernel) fun t hf y => ?_
  obtain ⟨r, j, rfl⟩ := eta2 (n := 1024) (m := 1024) y
  show (dats m 0 c).after 4 t (ix2 r j) = _
  rw [after0_4]
  have h3 : t.val % 4 = 3 := (flush0_4 t).mp hf
  have hN : t.val < 16 := lt_of_lt_of_eq t.isLt (show cfg0.N = 16 from N_0)
  obtain ⟨c0, c2⟩ := coords_eq t
  have e := four m c t h3 r j ⟨1024 * (t.val / 4) + r.val, by omega⟩ rfl
  refine (last4 m c t h3 r j).trans ?_
  rw [e]
  unfold G gated
  refine congrArg₂ (· + ·) ?_ (congrArg₂ (· * ·) ?_ ?_)
  · rw [read_2]
    refine at2 (m ((c : Thread nD τ).loc main_arg2) : S4096x1024.Idx → EReal) ?_ ?_ <;> blk_simp [index_2, index_4] <;> (try dsimp only [Fin.val_mk, Fin.val_zero]) <;> (try omega)
  · rw [read_3]
    refine at3 (m ((c : Thread nD τ).loc main_arg3) : S2x1x1024.Idx → EReal) ?_ ?_ ?_ <;> blk_simp [index_3, index_4] <;> (try dsimp only [Fin.val_mk, Fin.val_zero]) <;> (try omega)
  · refine at2 (P (m ((c : Thread nD τ).loc main_arg0)) (m ((c : Thread nD τ).loc main_arg1))) ?_ ?_ <;> blk_simp [index_4] <;> (try dsimp only [Fin.val_mk, Fin.val_zero]) <;> (try omega)

end Kernel

section Reference
open Cert.Reference7Ideal Cert.Reference7Ideal.Gen Cert.Reference7Ideal.Read

theorem ref_sum_at (x0 : FVec Ideal S4096x4096 .bf16) (x1 : FVec Ideal S8x512x1024 .bf16) (i : Fin 4096) (j : Fin 1024) :
    val_main_v5 (F := Ideal) x0 x1 (ix2 i j) = P x0 x1 (ix2 i j) := by
  pointwise [val_main_v5, val_main_v4, val_main_v3, val_main_v1, val_main_call0_v0, val_main_call0_cst, val_main_v2, val_main_v0]
  refine (sum_blocks _).trans ?_
  unfold P slice
  refine Finset.sum_congr rfl fun b _ => Finset.sum_congr rfl fun k _ => congrArg₂ (· * ·) rfl (at3 x1 ?_ ?_ rfl)
  · show (512 * b.val + k.val) / 512 = b.val
    omega
  · show (512 * b.val + k.val) % 512 = k.val
    omega

theorem ref_sum (x0 : FVec Ideal S4096x4096 .bf16) (x1 : FVec Ideal S8x512x1024 .bf16) : val_main_v5 (F := Ideal) x0 x1 = P x0 x1 := by
  funext y
  obtain ⟨i, j, rfl⟩ := eta2 (n := 4096) (m := 1024) y
  exact ref_sum_at x0 x1 i j

theorem ref_P (x0 : FVec Ideal S4096x4096 .bf16) (x1 : FVec Ideal S8x512x1024 .bf16) : val_main_v11 (F := Ideal) x0 x1 = P x0 x1 :=
  ref_sum x0 x1

theorem ref_at (x0 : FVec Ideal S4096x4096 .bf16) (x1 : FVec Ideal S8x512x1024 .bf16) (x2 : FVec Ideal S4096x1024 .f32) (x3 : FVec Ideal S2x1x1024 .f32) (i : Fin 4096) (j : Fin 1024) :
    val_main_v10 (F := Ideal) x0 x1 x2 x3 (ix2 i j) = G x0 x1 x2 x3 (ix2 i j) := by
  unfold val_main_v10 val_main_v9 val_main_v8 val_main_v7 val_main_v6
  rw [ref_sum]
  pointwise []
  rfl

theorem ref (x0 : FVec Ideal S4096x4096 .bf16) (x1 : FVec Ideal S8x512x1024 .bf16) (x2 : FVec Ideal S4096x1024 .f32) (x3 : FVec Ideal S2x1x1024 .f32) :
    val_main_v10 (F := Ideal) x0 x1 x2 x3 = G x0 x1 x2 x3 := by
  funext y
  obtain ⟨i, j, rfl⟩ := eta2 (n := 4096) (m := 1024) y
  exact ref_at x0 x1 x2 x3 i j

end Reference

end Cert.Down
end
-- ==== Proof.MlpValues.lean ====
/-
  The value claims of the MLP's six products: each kernel and its reference end with the same results.
-/
module

public import proofs.«01_k».proof.Defs
public import proofs.«01_k».proof.Proof.DownDx
public import proofs.«01_k».proof.Proof.DownDw
public import proofs.«01_k».proof.Proof.UpDx
public import proofs.«01_k».proof.Proof.UpDw
public import proofs.«01_k».proof.Proof.Up
public import proofs.«01_k».proof.Proof.Down
public import proofs.«01_k».proof.Proof.Gen.Kernel2Ideal
public import proofs.«01_k».proof.Proof.Gen.Reference2Ideal
public import proofs.«01_k».proof.Proof.Gen.Kernel3Ideal
public import proofs.«01_k».proof.Proof.Gen.Reference3Ideal
public import proofs.«01_k».proof.Proof.Gen.Kernel4Ideal
public import proofs.«01_k».proof.Proof.Gen.Reference4Ideal
public import proofs.«01_k».proof.Proof.Gen.Kernel5Ideal
public import proofs.«01_k».proof.Proof.Gen.Reference5Ideal
public import proofs.«01_k».proof.Proof.Gen.Kernel6Ideal
public import proofs.«01_k».proof.Proof.Gen.Reference6Ideal
public import proofs.«01_k».proof.Proof.Gen.Kernel7Ideal
public import proofs.«01_k».proof.Proof.Gen.Reference7Ideal

@[expose] public section

set_option maxHeartbeats 400000
set_option maxRecDepth 16384

noncomputable section

namespace Cert.Proof
open Idealize.ShloMosaic Idealize.ShloMosaic.TcCoe Idealize.SL.Sem

/-- The kernel of the derivative of the second product by its input, through the ReLU and its reference end with the same array. -/
theorem algebraic2 : Cert.algebraic_Kernel2Ideal_Reference2Ideal := fun m ρ m' ρ' _ heq => by
  refine ⟨fun c => Cert.DownDx.G (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)), ?_, ?_⟩
  · exact (θ_run Cert.Kernel2Ideal.defs _ _).mono (fun r h c => ⟨(h c).1.trans (Cert.DownDx.final m c), (h c).2⟩) (Cert.Kernel2Ideal.Value.run_blocks (F := Ideal) m ρ)
  · refine (θ_run Cert.Reference2Ideal.defs _ _).mono (fun r h c => ?_) (Cert.Reference2Ideal.Value.run (F := Ideal) m' ρ')
    obtain ⟨hv, hargs⟩ := h c
    obtain ⟨e0, e1, e2⟩ := heq c
    refine ⟨hv.trans ((Cert.Reference2Ideal.Read.val_main_v16_eq _ _ _).trans ((Cert.DownDx.ref _ _ _).trans ?_)), hargs⟩
    rw [e0, e1, e2]

/-- The kernel of the derivative of the second product by its weights and its reference end with the same array. -/
theorem algebraic3 : Cert.algebraic_Kernel3Ideal_Reference3Ideal := fun m ρ m' ρ' _ heq => by
  refine ⟨fun c => Cert.DownDw.G (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.DownDw.final m c), (h c).2⟩) (Cert.Kernel3Ideal.Value.run_blocks (F := Ideal) m ρ)
  · refine (θ_run Cert.Reference3Ideal.defs _ _).mono (fun r h c => ?_) (Cert.Reference3Ideal.Value.run (F := Ideal) m' ρ')
    obtain ⟨hv, hargs⟩ := h c
    obtain ⟨e0, e1⟩ := heq c
    refine ⟨hv.trans ((Cert.Reference3Ideal.Read.val_main_v9_eq _ _).trans ((Cert.DownDw.ref _ _).trans ?_)), hargs⟩
    rw [e0, e1]

/-- The kernel of the derivative of the first product by its input and its reference end with the same array. -/
theorem algebraic4 : Cert.algebraic_Kernel4Ideal_Reference4Ideal := fun m ρ m' ρ' _ heq => by
  refine ⟨fun c => Cert.UpDx.G (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.UpDx.final m c), (h c).2⟩) (Cert.Kernel4Ideal.Value.run_blocks (F := Ideal) m ρ)
  · refine (θ_run Cert.Reference4Ideal.defs _ _).mono (fun r h c => ?_) (Cert.Reference4Ideal.Value.run (F := Ideal) m' ρ')
    obtain ⟨hv, hargs⟩ := h c
    obtain ⟨e0, e1⟩ := heq c
    refine ⟨hv.trans ((Cert.Reference4Ideal.Read.val_main_v7_eq _ _).trans ((Cert.UpDx.ref _ _).trans ?_)), hargs⟩
    rw [e0, e1]

/-- The kernel of the derivative of the first product by its weights and its reference end with the same array. -/
theorem algebraic5 : Cert.algebraic_Kernel5Ideal_Reference5Ideal := fun m ρ m' ρ' _ heq => by
  refine ⟨fun c => Cert.UpDw.G (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.UpDw.final m c), (h c).2⟩) (Cert.Kernel5Ideal.Value.run_blocks (F := Ideal) m ρ)
  · refine (θ_run Cert.Reference5Ideal.defs _ _).mono (fun r h c => ?_) (Cert.Reference5Ideal.Value.run (F := Ideal) m' ρ')
    obtain ⟨hv, hargs⟩ := h c
    obtain ⟨e0, e1⟩ := heq c
    refine ⟨hv.trans ((Cert.Reference5Ideal.Read.val_main_v8_eq _ _).trans ((Cert.UpDw.ref _ _).trans ?_)), hargs⟩
    rw [e0, e1]

/-- The kernel of the first product and its reference end with the same array. -/
theorem algebraic6 : Cert.algebraic_Kernel6Ideal_Reference6Ideal := fun m ρ m' ρ' _ heq => by
  refine ⟨fun c => Cert.Up.G (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)), ?_, ?_⟩
  · exact (θ_run Cert.Kernel6Ideal.defs _ _).mono (fun r h c => ⟨(h c).1.trans (Cert.Up.final m c), (h c).2⟩) (Cert.Kernel6Ideal.Value.run_blocks (F := Ideal) m ρ)
  · refine (θ_run Cert.Reference6Ideal.defs _ _).mono (fun r h c => ?_) (Cert.Reference6Ideal.Value.run (F := Ideal) m' ρ')
    obtain ⟨hv, hargs⟩ := h c
    obtain ⟨e0, e1⟩ := heq c
    refine ⟨hv.trans ((Cert.Reference6Ideal.Read.val_main_v5_eq _ _).trans ((Cert.Up.ref _ _).trans ?_)), hargs⟩
    rw [e0, e1]

/-- The kernel of the second product and its reference end with the same two arrays. -/
theorem algebraic7 : Cert.algebraic_Kernel7Ideal_Reference7Ideal := fun m ρ m' ρ' _ heq => by
  refine ⟨fun c => Cert.Down.G (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)),
    fun c => Cert.Down.P (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Down.final4 m c), (h c).2.1.trans (Cert.Down.final5 m c), (h c).2.2⟩)
      (Cert.Kernel7Ideal.Value.run_blocks (F := Ideal) m ρ)
  · refine (θ_run Cert.Reference7Ideal.defs _ _).mono (fun r h c => ?_) (Cert.Reference7Ideal.Value.run (F := Ideal) m' ρ')
    obtain ⟨hv, hw, hargs⟩ := h c
    obtain ⟨e0, e1, e2, e3⟩ := heq c
    refine ⟨hv.trans ((Cert.Reference7Ideal.Read.val_main_v10_eq _ _ _ _).trans ((Cert.Down.ref _ _ _ _).trans ?_)),
      hw.trans ((Cert.Reference7Ideal.Read.val_main_v11_eq _ _).trans ((Cert.Down.ref_P _ _).trans ?_)), hargs⟩
    · rw [e0, e1, e2, e3]
    · rw [e0, e1]

end Cert.Proof

end
-- ==== Proof.ProjFrames.lean ====
/-
  The frames of the projections' products. Nothing was rewritten in an idealized text, so its run over any float values serves the
  printed text too.
-/
module

public import proofs.«01_k».proof.Defs
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal.Run
public import Idealize.ShloMosaic.Init

@[expose] public section

noncomputable section

namespace Cert.Proof

open Idealize.ShloMosaic Idealize.ShloMosaic.TcCoe Idealize.SL.Sem

theorem bodies_eq8 : @Cert.Kernel8.defs₀ Bits _ _ = @Cert.Kernel8Ideal.defs₀ Bits _ _ := by
  unfold Cert.Kernel8.defs₀ Cert.Kernel8Ideal.defs₀
  refine congrArg Defs.onTc (funext fun l => funext fun x => ?_)
  match l, x with
  | ⟨0, _⟩, (t, s) => rfl

theorem defs_eq8 : @Cert.Kernel8.defs Bits _ _ = @Cert.Kernel8Ideal.defs Bits _ _ := congrArg (Pipeline.defs (@Cert.Kernel8Ideal.pcfgs Bits _)) bodies_eq8

theorem main_eq8 : @Cert.Kernel8.main Bits _ = @Cert.Kernel8Ideal.main Bits _ := rfl

theorem frame_kernel8 : Cert.quiescent_Kernel8 := fun m ρ _ => by
  have key : ∀ d p, d = @Cert.Kernel8Ideal.defs Bits _ _ → p = @Cert.Kernel8Ideal.main Bits _ →
      θ_run d (onTc (τ := Cert.Kernel8Ideal.τ) p) ⟨m, fun _ => 0, ρ⟩ (fun r => (∀ c : Dev Cert.Kernel8Ideal.nD,
        r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
        ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
        ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
        ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
        ∧ r.2.sem = fun _ => 0) := by
    rintro d p rfl rfl
    exact Cert.Kernel8Ideal.Gen.frame (F := Bits) m ρ
  exact key _ _ defs_eq8 main_eq8

theorem frame_kernel8Ideal : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem bodies_eq9 : @Cert.Kernel9.defs₀ Bits _ _ = @Cert.Kernel9Ideal.defs₀ Bits _ _ := by
  unfold Cert.Kernel9.defs₀ Cert.Kernel9Ideal.defs₀
  refine congrArg Defs.onTc (funext fun l => funext fun x => ?_)
  match l, x with
  | ⟨0, _⟩, (t, s) => rfl

theorem defs_eq9 : @Cert.Kernel9.defs Bits _ _ = @Cert.Kernel9Ideal.defs Bits _ _ := congrArg (Pipeline.defs (@Cert.Kernel9Ideal.pcfgs Bits _)) bodies_eq9

theorem main_eq9 : @Cert.Kernel9.main Bits _ = @Cert.Kernel9Ideal.main Bits _ := rfl

theorem frame_kernel9 : Cert.quiescent_Kernel9 := fun m ρ _ => by
  have key : ∀ d p, d = @Cert.Kernel9Ideal.defs Bits _ _ → p = @Cert.Kernel9Ideal.main Bits _ →
      θ_run d (onTc (τ := Cert.Kernel9Ideal.τ) p) ⟨m, fun _ => 0, ρ⟩ (fun r => (∀ c : Dev Cert.Kernel9Ideal.nD,
        r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
        ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
        ∧ r.2.sem = fun _ => 0) := by
    rintro d p rfl rfl
    exact Cert.Kernel9Ideal.Gen.frame (F := Bits) m ρ
  exact key _ _ defs_eq9 main_eq9

theorem frame_kernel9Ideal : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem bodies_eq10 : @Cert.Kernel10.defs₀ Bits _ _ = @Cert.Kernel10Ideal.defs₀ Bits _ _ := by
  unfold Cert.Kernel10.defs₀ Cert.Kernel10Ideal.defs₀
  refine congrArg Defs.onTc (funext fun l => funext fun x => ?_)
  match l, x with
  | ⟨0, _⟩, (t, s) => rfl

theorem defs_eq10 : @Cert.Kernel10.defs Bits _ _ = @Cert.Kernel10Ideal.defs Bits _ _ := congrArg (Pipeline.defs (@Cert.Kernel10Ideal.pcfgs Bits _)) bodies_eq10

theorem main_eq10 : @Cert.Kernel10.main Bits _ = @Cert.Kernel10Ideal.main Bits _ := rfl

theorem frame_kernel10 : Cert.quiescent_Kernel10 := fun m ρ _ => by
  have key : ∀ d p, d = @Cert.Kernel10Ideal.defs Bits _ _ → p = @Cert.Kernel10Ideal.main Bits _ →
      θ_run d (onTc (τ := Cert.Kernel10Ideal.τ) p) ⟨m, fun _ => 0, ρ⟩ (fun r => (∀ c : Dev Cert.Kernel10Ideal.nD,
        r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
        ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
        ∧ r.2.sem = fun _ => 0) := by
    rintro d p rfl rfl
    exact Cert.Kernel10Ideal.Gen.frame (F := Bits) m ρ
  exact key _ _ defs_eq10 main_eq10

theorem frame_kernel10Ideal : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem bodies_eq11 : @Cert.Kernel11.defs₀ Bits _ _ = @Cert.Kernel11Ideal.defs₀ Bits _ _ := by
  unfold Cert.Kernel11.defs₀ Cert.Kernel11Ideal.defs₀
  refine congrArg Defs.onTc (funext fun l => funext fun x => ?_)
  match l, x with
  | ⟨0, _⟩, (t, s) => rfl

theorem defs_eq11 : @Cert.Kernel11.defs Bits _ _ = @Cert.Kernel11Ideal.defs Bits _ _ := congrArg (Pipeline.defs (@Cert.Kernel11Ideal.pcfgs Bits _)) bodies_eq11

theorem main_eq11 : @Cert.Kernel11.main Bits _ = @Cert.Kernel11Ideal.main Bits _ := rfl

theorem frame_kernel11 : Cert.quiescent_Kernel11 := fun m ρ _ => by
  have key : ∀ d p, d = @Cert.Kernel11Ideal.defs Bits _ _ → p = @Cert.Kernel11Ideal.main Bits _ →
      θ_run d (onTc (τ := Cert.Kernel11Ideal.τ) p) ⟨m, fun _ => 0, ρ⟩ (fun r => (∀ c : Dev Cert.Kernel11Ideal.nD,
        r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
        ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
        ∧ r.2.sem = fun _ => 0) := by
    rintro d p rfl rfl
    exact Cert.Kernel11Ideal.Gen.frame (F := Bits) m ρ
  exact key _ _ defs_eq11 main_eq11

theorem frame_kernel11Ideal : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem bodies_eq12 : @Cert.Kernel12.defs₀ Bits _ _ = @Cert.Kernel12Ideal.defs₀ Bits _ _ := by
  unfold Cert.Kernel12.defs₀ Cert.Kernel12Ideal.defs₀
  refine congrArg Defs.onTc (funext fun l => funext fun x => ?_)
  match l, x with
  | ⟨0, _⟩, (t, s) => rfl

theorem defs_eq12 : @Cert.Kernel12.defs Bits _ _ = @Cert.Kernel12Ideal.defs Bits _ _ := congrArg (Pipeline.defs (@Cert.Kernel12Ideal.pcfgs Bits _)) bodies_eq12

theorem main_eq12 : @Cert.Kernel12.main Bits _ = @Cert.Kernel12Ideal.main Bits _ := rfl

theorem frame_kernel12 : Cert.quiescent_Kernel12 := fun m ρ _ => by
  have key : ∀ d p, d = @Cert.Kernel12Ideal.defs Bits _ _ → p = @Cert.Kernel12Ideal.main Bits _ →
      θ_run d (onTc (τ := Cert.Kernel12Ideal.τ) p) ⟨m, fun _ => 0, ρ⟩ (fun r => (∀ c : Dev Cert.Kernel12Ideal.nD,
        r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
        ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
        ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
        ∧ r.2.sem = fun _ => 0) := by
    rintro d p rfl rfl
    exact Cert.Kernel12Ideal.Gen.frame (F := Bits) m ρ
  exact key _ _ defs_eq12 main_eq12

theorem frame_kernel12Ideal : Cert.quiescent_Kernel12Ideal := fun m ρ _ => Cert.Kernel12Ideal.Gen.frame (F := Ideal) m ρ
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem bodies_eq13 : @Cert.Kernel13.defs₀ Bits _ _ = @Cert.Kernel13Ideal.defs₀ Bits _ _ := by
  unfold Cert.Kernel13.defs₀ Cert.Kernel13Ideal.defs₀
  refine congrArg Defs.onTc (funext fun l => funext fun x => ?_)
  match l, x with
  | ⟨0, _⟩, (t, s) => rfl

theorem defs_eq13 : @Cert.Kernel13.defs Bits _ _ = @Cert.Kernel13Ideal.defs Bits _ _ := congrArg (Pipeline.defs (@Cert.Kernel13Ideal.pcfgs Bits _)) bodies_eq13

theorem main_eq13 : @Cert.Kernel13.main Bits _ = @Cert.Kernel13Ideal.main Bits _ := rfl

theorem frame_kernel13 : Cert.quiescent_Kernel13 := fun m ρ _ => by
  have key : ∀ d p, d = @Cert.Kernel13Ideal.defs Bits _ _ → p = @Cert.Kernel13Ideal.main Bits _ →
      θ_run d (onTc (τ := Cert.Kernel13Ideal.τ) p) ⟨m, fun _ => 0, ρ⟩ (fun r => (∀ c : Dev Cert.Kernel13Ideal.nD,
        r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
        ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
        ∧ r.2.sem = fun _ => 0) := by
    rintro d p rfl rfl
    exact Cert.Kernel13Ideal.Gen.frame (F := Bits) m ρ
  exact key _ _ defs_eq13 main_eq13

theorem frame_kernel13Ideal : Cert.quiescent_Kernel13Ideal := fun m ρ _ => Cert.Kernel13Ideal.Gen.frame (F := Ideal) m ρ
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem bodies_eq14 : @Cert.Kernel14.defs₀ Bits _ _ = @Cert.Kernel14Ideal.defs₀ Bits _ _ := by
  unfold Cert.Kernel14.defs₀ Cert.Kernel14Ideal.defs₀
  refine congrArg Defs.onTc (funext fun l => funext fun x => ?_)
  match l, x with
  | ⟨0, _⟩, (t, s) => rfl

theorem defs_eq14 : @Cert.Kernel14.defs Bits _ _ = @Cert.Kernel14Ideal.defs Bits _ _ := congrArg (Pipeline.defs (@Cert.Kernel14Ideal.pcfgs Bits _)) bodies_eq14

theorem main_eq14 : @Cert.Kernel14.main Bits _ = @Cert.Kernel14Ideal.main Bits _ := rfl

theorem frame_kernel14 : Cert.quiescent_Kernel14 := fun m ρ _ => by
  have key : ∀ d p, d = @Cert.Kernel14Ideal.defs Bits _ _ → p = @Cert.Kernel14Ideal.main Bits _ →
      θ_run d (onTc (τ := Cert.Kernel14Ideal.τ) p) ⟨m, fun _ => 0, ρ⟩ (fun r => (∀ c : Dev Cert.Kernel14Ideal.nD,
        r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
        ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
        ∧ r.2.sem = fun _ => 0) := by
    rintro d p rfl rfl
    exact Cert.Kernel14Ideal.Gen.frame (F := Bits) m ρ
  exact key _ _ defs_eq14 main_eq14

theorem frame_kernel14Ideal : Cert.quiescent_Kernel14Ideal := fun m ρ _ => Cert.Kernel14Ideal.Gen.frame (F := Ideal) m ρ
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem bodies_eq15 : @Cert.Kernel15.defs₀ Bits _ _ = @Cert.Kernel15Ideal.defs₀ Bits _ _ := by
  unfold Cert.Kernel15.defs₀ Cert.Kernel15Ideal.defs₀
  refine congrArg Defs.onTc (funext fun l => funext fun x => ?_)
  match l, x with
  | ⟨0, _⟩, (t, s) => rfl

theorem defs_eq15 : @Cert.Kernel15.defs Bits _ _ = @Cert.Kernel15Ideal.defs Bits _ _ := congrArg (Pipeline.defs (@Cert.Kernel15Ideal.pcfgs Bits _)) bodies_eq15

theorem main_eq15 : @Cert.Kernel15.main Bits _ = @Cert.Kernel15Ideal.main Bits _ := rfl

theorem frame_kernel15 : Cert.quiescent_Kernel15 := fun m ρ _ => by
  have key : ∀ d p, d = @Cert.Kernel15Ideal.defs Bits _ _ → p = @Cert.Kernel15Ideal.main Bits _ →
      θ_run d (onTc (τ := Cert.Kernel15Ideal.τ) p) ⟨m, fun _ => 0, ρ⟩ (fun r => (∀ c : Dev Cert.Kernel15Ideal.nD,
        r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
        ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
        ∧ r.2.sem = fun _ => 0) := by
    rintro d p rfl rfl
    exact Cert.Kernel15Ideal.Gen.frame (F := Bits) m ρ
  exact key _ _ defs_eq15 main_eq15

theorem frame_kernel15Ideal : Cert.quiescent_Kernel15Ideal := fun m ρ _ => Cert.Kernel15Ideal.Gen.frame (F := Ideal) m ρ
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem bodies_eq16 : @Cert.Kernel16.defs₀ Bits _ _ = @Cert.Kernel16Ideal.defs₀ Bits _ _ := by
  unfold Cert.Kernel16.defs₀ Cert.Kernel16Ideal.defs₀
  refine congrArg Defs.onTc (funext fun l => funext fun x => ?_)
  match l, x with
  | ⟨0, _⟩, (t, s) => rfl

theorem defs_eq16 : @Cert.Kernel16.defs Bits _ _ = @Cert.Kernel16Ideal.defs Bits _ _ := congrArg (Pipeline.defs (@Cert.Kernel16Ideal.pcfgs Bits _)) bodies_eq16

theorem main_eq16 : @Cert.Kernel16.main Bits _ = @Cert.Kernel16Ideal.main Bits _ := rfl

theorem frame_kernel16 : Cert.quiescent_Kernel16 := fun m ρ _ => by
  have key : ∀ d p, d = @Cert.Kernel16Ideal.defs Bits _ _ → p = @Cert.Kernel16Ideal.main Bits _ →
      θ_run d (onTc (τ := Cert.Kernel16Ideal.τ) p) ⟨m, fun _ => 0, ρ⟩ (fun r => (∀ c : Dev Cert.Kernel16Ideal.nD,
        r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
        ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
        ∧ r.2.sem = fun _ => 0) := by
    rintro d p rfl rfl
    exact Cert.Kernel16Ideal.Gen.frame (F := Bits) m ρ
  exact key _ _ defs_eq16 main_eq16

theorem frame_kernel16Ideal : Cert.quiescent_Kernel16Ideal := fun m ρ _ => Cert.Kernel16Ideal.Gen.frame (F := Ideal) m ρ
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem bodies_eq17 : @Cert.Kernel17.defs₀ Bits _ _ = @Cert.Kernel17Ideal.defs₀ Bits _ _ := by
  unfold Cert.Kernel17.defs₀ Cert.Kernel17Ideal.defs₀
  refine congrArg Defs.onTc (funext fun l => funext fun x => ?_)
  match l, x with
  | ⟨0, _⟩, (t, s) => rfl

theorem defs_eq17 : @Cert.Kernel17.defs Bits _ _ = @Cert.Kernel17Ideal.defs Bits _ _ := congrArg (Pipeline.defs (@Cert.Kernel17Ideal.pcfgs Bits _)) bodies_eq17

theorem main_eq17 : @Cert.Kernel17.main Bits _ = @Cert.Kernel17Ideal.main Bits _ := rfl

theorem frame_kernel17 : Cert.quiescent_Kernel17 := fun m ρ _ => by
  have key : ∀ d p, d = @Cert.Kernel17Ideal.defs Bits _ _ → p = @Cert.Kernel17Ideal.main Bits _ →
      θ_run d (onTc (τ := Cert.Kernel17Ideal.τ) p) ⟨m, fun _ => 0, ρ⟩ (fun r => (∀ c : Dev Cert.Kernel17Ideal.nD,
        r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
        ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
        ∧ r.2.sem = fun _ => 0) := by
    rintro d p rfl rfl
    exact Cert.Kernel17Ideal.Gen.frame (F := Bits) m ρ
  exact key _ _ defs_eq17 main_eq17

theorem frame_kernel17Ideal : Cert.quiescent_Kernel17Ideal := fun m ρ _ => Cert.Kernel17Ideal.Gen.frame (F := Ideal) m ρ
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem bodies_eq18 : @Cert.Kernel18.defs₀ Bits _ _ = @Cert.Kernel18Ideal.defs₀ Bits _ _ := by
  unfold Cert.Kernel18.defs₀ Cert.Kernel18Ideal.defs₀
  refine congrArg Defs.onTc (funext fun l => funext fun x => ?_)
  match l, x with
  | ⟨0, _⟩, (t, s) => rfl

theorem defs_eq18 : @Cert.Kernel18.defs Bits _ _ = @Cert.Kernel18Ideal.defs Bits _ _ := congrArg (Pipeline.defs (@Cert.Kernel18Ideal.pcfgs Bits _)) bodies_eq18

theorem main_eq18 : @Cert.Kernel18.main Bits _ = @Cert.Kernel18Ideal.main Bits _ := rfl

theorem frame_kernel18 : Cert.quiescent_Kernel18 := fun m ρ _ => by
  have key : ∀ d p, d = @Cert.Kernel18Ideal.defs Bits _ _ → p = @Cert.Kernel18Ideal.main Bits _ →
      θ_run d (onTc (τ := Cert.Kernel18Ideal.τ) p) ⟨m, fun _ => 0, ρ⟩ (fun r => (∀ c : Dev Cert.Kernel18Ideal.nD,
        r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
        ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
        ∧ r.2.sem = fun _ => 0) := by
    rintro d p rfl rfl
    exact Cert.Kernel18Ideal.Gen.frame (F := Bits) m ρ
  exact key _ _ defs_eq18 main_eq18

theorem frame_kernel18Ideal : Cert.quiescent_Kernel18Ideal := fun m ρ _ => Cert.Kernel18Ideal.Gen.frame (F := Ideal) m ρ
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem bodies_eq19 : @Cert.Kernel19.defs₀ Bits _ _ = @Cert.Kernel19Ideal.defs₀ Bits _ _ := by
  unfold Cert.Kernel19.defs₀ Cert.Kernel19Ideal.defs₀
  refine congrArg Defs.onTc (funext fun l => funext fun x => ?_)
  match l, x with
  | ⟨0, _⟩, (t, s) => rfl

theorem defs_eq19 : @Cert.Kernel19.defs Bits _ _ = @Cert.Kernel19Ideal.defs Bits _ _ := congrArg (Pipeline.defs (@Cert.Kernel19Ideal.pcfgs Bits _)) bodies_eq19

theorem main_eq19 : @Cert.Kernel19.main Bits _ = @Cert.Kernel19Ideal.main Bits _ := rfl

theorem frame_kernel19 : Cert.quiescent_Kernel19 := fun m ρ _ => by
  have key : ∀ d p, d = @Cert.Kernel19Ideal.defs Bits _ _ → p = @Cert.Kernel19Ideal.main Bits _ →
      θ_run d (onTc (τ := Cert.Kernel19Ideal.τ) p) ⟨m, fun _ => 0, ρ⟩ (fun r => (∀ c : Dev Cert.Kernel19Ideal.nD,
        r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
        ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
        ∧ r.2.sem = fun _ => 0) := by
    rintro d p rfl rfl
    exact Cert.Kernel19Ideal.Gen.frame (F := Bits) m ρ
  exact key _ _ defs_eq19 main_eq19

theorem frame_kernel19Ideal : Cert.quiescent_Kernel19Ideal := fun m ρ _ => Cert.Kernel19Ideal.Gen.frame (F := Ideal) m ρ
theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem bodies_eq20 : @Cert.Kernel20.defs₀ Bits _ _ = @Cert.Kernel20Ideal.defs₀ Bits _ _ := by
  unfold Cert.Kernel20.defs₀ Cert.Kernel20Ideal.defs₀
  refine congrArg Defs.onTc (funext fun l => funext fun x => ?_)
  match l, x with
  | ⟨0, _⟩, (t, s) => rfl

theorem defs_eq20 : @Cert.Kernel20.defs Bits _ _ = @Cert.Kernel20Ideal.defs Bits _ _ := congrArg (Pipeline.defs (@Cert.Kernel20Ideal.pcfgs Bits _)) bodies_eq20

theorem main_eq20 : @Cert.Kernel20.main Bits _ = @Cert.Kernel20Ideal.main Bits _ := rfl

theorem frame_kernel20 : Cert.quiescent_Kernel20 := fun m ρ _ => by
  have key : ∀ d p, d = @Cert.Kernel20Ideal.defs Bits _ _ → p = @Cert.Kernel20Ideal.main Bits _ →
      θ_run d (onTc (τ := Cert.Kernel20Ideal.τ) p) ⟨m, fun _ => 0, ρ⟩ (fun r => (∀ c : Dev Cert.Kernel20Ideal.nD,
        r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
        ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
        ∧ r.2.sem = fun _ => 0) := by
    rintro d p rfl rfl
    exact Cert.Kernel20Ideal.Gen.frame (F := Bits) m ρ
  exact key _ _ defs_eq20 main_eq20

theorem frame_kernel20Ideal : Cert.quiescent_Kernel20Ideal := fun m ρ _ => Cert.Kernel20Ideal.Gen.frame (F := Ideal) m ρ
theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem bodies_eq21 : @Cert.Kernel21.defs₀ Bits _ _ = @Cert.Kernel21Ideal.defs₀ Bits _ _ := by
  unfold Cert.Kernel21.defs₀ Cert.Kernel21Ideal.defs₀
  refine congrArg Defs.onTc (funext fun l => funext fun x => ?_)
  match l, x with
  | ⟨0, _⟩, (t, s) => rfl

theorem defs_eq21 : @Cert.Kernel21.defs Bits _ _ = @Cert.Kernel21Ideal.defs Bits _ _ := congrArg (Pipeline.defs (@Cert.Kernel21Ideal.pcfgs Bits _)) bodies_eq21

theorem main_eq21 : @Cert.Kernel21.main Bits _ = @Cert.Kernel21Ideal.main Bits _ := rfl

theorem frame_kernel21 : Cert.quiescent_Kernel21 := fun m ρ _ => by
  have key : ∀ d p, d = @Cert.Kernel21Ideal.defs Bits _ _ → p = @Cert.Kernel21Ideal.main Bits _ →
      θ_run d (onTc (τ := Cert.Kernel21Ideal.τ) p) ⟨m, fun _ => 0, ρ⟩ (fun r => (∀ c : Dev Cert.Kernel21Ideal.nD,
        r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
        ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
        ∧ r.2.sem = fun _ => 0) := by
    rintro d p rfl rfl
    exact Cert.Kernel21Ideal.Gen.frame (F := Bits) m ρ
  exact key _ _ defs_eq21 main_eq21

theorem frame_kernel21Ideal : Cert.quiescent_Kernel21Ideal := fun m ρ _ => Cert.Kernel21Ideal.Gen.frame (F := Ideal) m ρ
theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem bodies_eq22 : @Cert.Kernel22.defs₀ Bits _ _ = @Cert.Kernel22Ideal.defs₀ Bits _ _ := by
  unfold Cert.Kernel22.defs₀ Cert.Kernel22Ideal.defs₀
  refine congrArg Defs.onTc (funext fun l => funext fun x => ?_)
  match l, x with
  | ⟨0, _⟩, (t, s) => rfl

theorem defs_eq22 : @Cert.Kernel22.defs Bits _ _ = @Cert.Kernel22Ideal.defs Bits _ _ := congrArg (Pipeline.defs (@Cert.Kernel22Ideal.pcfgs Bits _)) bodies_eq22

theorem main_eq22 : @Cert.Kernel22.main Bits _ = @Cert.Kernel22Ideal.main Bits _ := rfl

theorem frame_kernel22 : Cert.quiescent_Kernel22 := fun m ρ _ => by
  have key : ∀ d p, d = @Cert.Kernel22Ideal.defs Bits _ _ → p = @Cert.Kernel22Ideal.main Bits _ →
      θ_run d (onTc (τ := Cert.Kernel22Ideal.τ) p) ⟨m, fun _ => 0, ρ⟩ (fun r => (∀ c : Dev Cert.Kernel22Ideal.nD,
        r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
        ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
        ∧ r.2.sem = fun _ => 0) := by
    rintro d p rfl rfl
    exact Cert.Kernel22Ideal.Gen.frame (F := Bits) m ρ
  exact key _ _ defs_eq22 main_eq22

theorem frame_kernel22Ideal : Cert.quiescent_Kernel22Ideal := fun m ρ _ => Cert.Kernel22Ideal.Gen.frame (F := Ideal) m ρ
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

end Cert.Proof

end
-- ==== Proof.Out.lean ====
/-
  An attention's output projection, o · W_out: the second result. The first adds it, through a gate, to the residual stream.
-/
module

public import proofs.«01_k».proof.Proof.MlpIndex
public import proofs.«01_k».proof.Proof.Gen.Kernel8Ideal.Value
public import proofs.«01_k».proof.Proof.Gen.Reference8Ideal.Run
public import proofs.«01_k».proof.Proof.Gen.Reference8Ideal.Read

@[expose] public section

set_option maxHeartbeats 400000
set_option maxRecDepth 16384

noncomputable section

namespace Cert.Out
open Idealize.ShloMosaic Idealize.ShloMosaic.TcCoe Idealize.SL.Sem
open Cert.Mlp

/-- The product, from the arrays: the second result. -/
def P (x0 : (⟨2, ![4096, 1024]⟩ : Shape).Idx → EReal) (x1 : (⟨2, ![1024, 1024]⟩ : Shape).Idx → EReal) : (⟨2, ![4096, 1024]⟩ : Shape).Idx → EReal := fun i =>
  ∑ k : Fin 1024, x0 (ix2 (i 0) k) * x1 (ix2 k (i 1))

/-- The first result: the residual stream plus the gated product. -/
def G (x0 : (⟨2, ![4096, 1024]⟩ : Shape).Idx → EReal) (x1 : (⟨2, ![1024, 1024]⟩ : Shape).Idx → EReal) (x2 : (⟨2, ![4096, 1024]⟩ : Shape).Idx → EReal) (x3 : (⟨3, ![2, 1, 1024]⟩ : Shape).Idx → EReal) :
    (⟨2, ![4096, 1024]⟩ : Shape).Idx → EReal := fun i =>
  x2 i + x3 (ix3 ⟨(i 0).val / 2048, by have := (i 0).isLt; simp at this; omega⟩ 0 (i 1)) * P x0 x1 i

section Kernel
open Cert.Kernel8Ideal Cert.Kernel8Ideal.Gen

theorem pay (v0 v1 : FVec Ideal S1024x1024 .bf16) (r j : Fin 1024) :
    k0_pay3 (F := Ideal) v0 v1 (ix2 r j) = ∑ k : Fin 1024, v0 (ix2 r k) * v1 (ix2 k j) := by
  pointwise [k0_pay3, k0_pay1]

theorem pay_gate (v0 v1 : FVec Ideal S1024x1024 .bf16) (v2 : FVec Ideal S1024x1024 .f32) (v3 : FVec Ideal S1x1x1024 .f32) (r j : Fin 1024) :
    k0_pay2 (F := Ideal) v0 v1 v2 v3 (ix2 r j) = v2 (ix2 r j) + v3 (ix3 0 0 j) * ∑ k : Fin 1024, v0 (ix2 r k) * v1 (ix2 k j) := by
  pointwise [k0_pay2, k0_pay1]

theorem out_eq4 (v0 v1 : FVec Ideal S1024x1024 .bf16) (v2 : FVec Ideal S1024x1024 .f32) (v3 : FVec Ideal S1x1x1024 .f32) :
    out0_4 (F := Ideal) v0 v1 v2 v3 = k0_pay2 (F := Ideal) v0 v1 v2 v3 := by
  unfold out0_4
  rw [View.canon_unit_zero (by decide), View.ld_unit_zero (by decide), View.ld_unit_zero (by decide), View.ld_unit_zero (by decide), View.ld_unit_zero (by decide)]

theorem out_eq5 (v0 v1 : FVec Ideal S1024x1024 .bf16) (v2 : FVec Ideal S1024x1024 .f32) (v3 : FVec Ideal S1x1x1024 .f32) :
    out0_5 (F := Ideal) v0 v1 v2 v3 = k0_pay3 (F := Ideal) v0 v1 := by
  unfold out0_5
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val / 2, 0, 0] := (by decide +kernel : ∀ t : Fin grid0.N, _)
theorem index_4 : ∀ t : Fin cfg0.N, win0_4.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)

theorem read_0 (t : Fin cfg0.N) (A : S4096x1024.Idx → EReal) (y : S1024x1024.Idx) : (win0_0.blk t).view.read (Elt Ideal) A y = A ((win0_0.blk t).view.emb y) := rfl
theorem read_1 (t : Fin cfg0.N) (A : S1024x1024.Idx → EReal) (y : S1024x1024.Idx) : (win0_1.blk t).view.read (Elt Ideal) A y = A ((win0_1.blk t).view.emb y) := rfl
theorem read_2 (t : Fin cfg0.N) (A : S4096x1024.Idx → EReal) (y : S1024x1024.Idx) : (win0_2.blk t).view.read (Elt Ideal) A y = A ((win0_2.blk t).view.emb y) := rfl
theorem read_3 (t : Fin cfg0.N) (A : S2x1x1024.Idx → EReal) (y : S1x1x1024.Idx) : (win0_3.blk t).view.read (Elt Ideal) A y = A ((win0_3.blk t).view.emb y) := rfl

/-- A block of the product is the product of the blocks. -/
theorem block5 (t : Fin cfg0.N) (A0 : S4096x1024.Idx → EReal) (A1 : S1024x1024.Idx → EReal) (r j : Fin 1024) :
    k0_pay3 (F := Ideal) ((win0_0.blk t).view.read (Elt Ideal) A0) ((win0_1.blk t).view.read (Elt Ideal) A1) (ix2 r j)
      = P A0 A1 ((win0_5.blk t).view.emb (ix2 r j)) := by
  rw [pay]
  unfold P
  refine Finset.sum_congr rfl fun k _ => congrArg₂ (· * ·) ?_ ?_
  · rw [read_0]
    refine at2 A0 ?_ ?_ <;> blk_simp [index_0, index_5] <;> (try dsimp only [Fin.val_mk, Fin.val_zero]) <;> (try omega)
  · rw [read_1]
    refine at2 A1 ?_ ?_ <;> blk_simp [index_1, index_5] <;> (try dsimp only [Fin.val_mk, Fin.val_zero]) <;> (try omega)

theorem block4 (t : Fin cfg0.N) (A0 : S4096x1024.Idx → EReal) (A1 : S1024x1024.Idx → EReal) (A2 : S4096x1024.Idx → EReal) (A3 : S2x1x1024.Idx → EReal) (r j : Fin 1024) :
    k0_pay2 (F := Ideal) ((win0_0.blk t).view.read (Elt Ideal) A0) ((win0_1.blk t).view.read (Elt Ideal) A1) ((win0_2.blk t).view.read (Elt Ideal) A2)
        ((win0_3.blk t).view.read (Elt Ideal) A3) (ix2 r j) = G A0 A1 A2 A3 ((win0_4.blk t).view.emb (ix2 r j)) := by
  rw [pay_gate]
  unfold G
  refine congrArg₂ (· + ·) ?_ (congrArg₂ (· * ·) ?_ ?_)
  · rw [read_2]
    refine at2 A2 ?_ ?_ <;> blk_simp [index_2, index_4] <;> (try dsimp only [Fin.val_mk, Fin.val_zero]) <;> (try omega)
  · rw [read_3]
    refine at3 A3 ?_ ?_ ?_ <;> blk_simp [index_3, index_4] <;> (try dsimp only [Fin.val_mk, Fin.val_zero]) <;> (try omega)
  · refine ((pay _ _ r j).symm.trans (block5 t A0 A1 r j)).trans ?_
    refine at2 (P A0 A1) ?_ ?_ <;> blk_simp [index_4, index_5] <;> (try dsimp only [Fin.val_mk, Fin.val_zero]) <;> (try omega)

variable (m : (ℓ : Loc nD τ sig) → Buf (Elt Ideal) ℓ) (c : Dev nD)

theorem final5 : (dats m 0 c).arrAt 5 cfg0.N = (P (m ((c : Thread nD τ).loc main_arg0)) (m ((c : Thread nD τ).loc main_arg1)) : S4096x1024.Idx → EReal) := by
  refine (dats m 0 c).arrAt_eq_of_covers 5 (P (m ((c : Thread nD τ).loc main_arg0)) (m ((c : Thread nD τ).loc main_arg1)) : S4096x1024.Idx → EReal) (by decide +kernel) fun t hf y => ?_
  obtain ⟨r, j, rfl⟩ := eta2 (n := 1024) (m := 1024) y
  show (dats m 0 c).after 5 t (ix2 r j) = _
  rw [after0_5, out_eq5]
  exact block5 t _ _ r j

theorem final4 : (dats m 0 c).arrAt 4 cfg0.N = (G (m ((c : Thread nD τ).loc main_arg0)) (m ((c : Thread nD τ).loc main_arg1)) (m ((c : Thread nD τ).loc main_arg2)) (m ((c : Thread nD τ).loc main_arg3)) : S4096x1024.Idx → EReal) := by
  refine (dats m 0 c).arrAt_eq_of_covers 4 (G (m ((c : Thread nD τ).loc main_arg0)) (m ((c : Thread nD τ).loc main_arg1)) (m ((c : Thread nD τ).loc main_arg2)) (m ((c : Thread nD τ).loc main_arg3)) : S4096x1024.Idx → EReal) (by decide +kernel) fun t hf y => ?_
  obtain ⟨r, j, rfl⟩ := eta2 (n := 1024) (m := 1024) y
  show (dats m 0 c).after 4 t (ix2 r j) = _
  rw [after0_4, out_eq4]
  exact block4 t _ _ _ _ r j

end Kernel

section Reference
open Cert.Reference8Ideal Cert.Reference8Ideal.Gen Cert.Reference8Ideal.Read

theorem ref_sum (x0 : FVec Ideal S4096x1024 .bf16) (x1 : FVec Ideal S1024x1024 .bf16) : val_main_v2 (F := Ideal) x0 x1 = P x0 x1 := by
  funext y
  obtain ⟨i, j, rfl⟩ := eta2 (n := 4096) (m := 1024) y
  pointwise [val_main_v2, val_main_v1, val_main_v0]
  rfl

theorem ref_P (x0 : FVec Ideal S4096x1024 .bf16) (x1 : FVec Ideal S1024x1024 .bf16) : val_main_v8 (F := Ideal) x0 x1 = P x0 x1 :=
  ref_sum x0 x1

theorem ref_at (x0 : FVec Ideal S4096x1024 .bf16) (x1 : FVec Ideal S1024x1024 .bf16) (x2 : FVec Ideal S4096x1024 .f32) (x3 : FVec Ideal S2x1x1024 .f32) (i : Fin 4096) (j : Fin 1024) :
    val_main_v7 (F := Ideal) x0 x1 x2 x3 (ix2 i j) = G x0 x1 x2 x3 (ix2 i j) := by
  unfold val_main_v7 val_main_v6 val_main_v5 val_main_v4 val_main_v3
  rw [ref_sum]
  pointwise []
  rfl

theorem ref (x0 : FVec Ideal S4096x1024 .bf16) (x1 : FVec Ideal S1024x1024 .bf16) (x2 : FVec Ideal S4096x1024 .f32) (x3 : FVec Ideal S2x1x1024 .f32) :
    val_main_v7 (F := Ideal) x0 x1 x2 x3 = G x0 x1 x2 x3 := by
  funext y
  obtain ⟨i, j, rfl⟩ := eta2 (n := 4096) (m := 1024) y
  exact ref_at x0 x1 x2 x3 i j

end Reference

end Cert.Out
end
-- ==== Proof.OutDx.lean ====
/-
  The gradient of the input of an attention's output projection: dy · W_outᵀ.
-/
module

public import proofs.«01_k».proof.Proof.MlpIndex
public import proofs.«01_k».proof.Proof.Gen.Kernel9Ideal.Value
public import proofs.«01_k».proof.Proof.Gen.Reference9Ideal.Run
public import proofs.«01_k».proof.Proof.Gen.Reference9Ideal.Read

@[expose] public section

set_option maxHeartbeats 400000
set_option maxRecDepth 16384

noncomputable section

namespace Cert.OutDx
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![1024, 1024]⟩ : Shape).Idx → EReal) : (⟨2, ![4096, 1024]⟩ : Shape).Idx → EReal := fun i =>
  ∑ k : Fin 1024, x0 (ix2 (i 0) k) * x1 (ix2 (i 1) k)

section Kernel
open Cert.Kernel9Ideal Cert.Kernel9Ideal.Gen

theorem pay (v0 : FVec Ideal S1024x1024 .bf16) (v1 : FVec Ideal S1024x1024 .bf16) (r j : Fin 1024) :
    k0_pay1 (F := Ideal) v0 v1 (ix2 r j) = ∑ k : Fin 1024, v0 (ix2 r k) * v1 (ix2 j k) := by
  pointwise [k0_pay1]

theorem out_eq (v0 : FVec Ideal S1024x1024 .bf16) (v1 : FVec Ideal S1024x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

theorem read_0 (t : Fin cfg0.N) (A : S4096x1024.Idx → EReal) (y : S1024x1024.Idx) : (win0_0.blk t).view.read (Elt Ideal) A y = A ((win0_0.blk t).view.emb y) := rfl
theorem read_1 (t : Fin cfg0.N) (A : S1024x1024.Idx → EReal) (y : S1024x1024.Idx) : (win0_1.blk t).view.read (Elt Ideal) A y = A ((win0_1.blk t).view.emb y) := rfl

/-- A block of the result is the product of the blocks of the arguments. -/
theorem block (t : Fin cfg0.N) (A0 : S4096x1024.Idx → EReal) (A1 : S1024x1024.Idx → EReal) (r j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x1024.Idx → EReal) := by
  refine (dats m 0 c).arrAt_eq_of_covers 2 (G (m ((c : Thread nD τ).loc main_arg0)) (m ((c : Thread nD τ).loc main_arg1)) : S4096x1024.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference9Ideal Cert.Reference9Ideal.Gen Cert.Reference9Ideal.Read

theorem ref_at (x0 : FVec Ideal S4096x1024 .bf16) (x1 : FVec Ideal S1024x1024 .bf16) (i : Fin 4096) (j : Fin 1024) :
    val_main_v5 (F := Ideal) x0 x1 (ix2 i j) = G x0 x1 (ix2 i j) := by
  pointwise [val_main_v5, val_main_v4, val_main_v0, val_main_v1]
  rfl

theorem ref (x0 : FVec Ideal S4096x1024 .bf16) (x1 : FVec Ideal S1024x1024 .bf16) : val_main_v5 (F := Ideal) x0 x1 = G x0 x1 := by
  funext y
  obtain ⟨i, j, rfl⟩ := eta2 (n := 4096) (m := 1024) y
  exact ref_at x0 x1 i j

end Reference

end Cert.OutDx
end
-- ==== Proof.OutDw.lean ====
/-
  The gradient of the weights of an attention's output projection: oᵀ · dy.
-/
module

public import proofs.«01_k».proof.Proof.MlpIndex
public import proofs.«01_k».proof.Proof.Gen.Kernel10Ideal.Value
public import proofs.«01_k».proof.Proof.Gen.Reference10Ideal.Run
public import proofs.«01_k».proof.Proof.Gen.Reference10Ideal.Read

@[expose] public section

set_option maxHeartbeats 400000
set_option maxRecDepth 16384

noncomputable section

namespace Cert.OutDw
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![4096, 1024]⟩ : Shape).Idx → EReal) : (⟨2, ![1024, 1024]⟩ : Shape).Idx → EReal := fun i =>
  ∑ k : Fin 4096, x0 (ix2 k (i 0)) * x1 (ix2 k (i 1))

section Kernel
open Cert.Kernel10Ideal Cert.Kernel10Ideal.Gen

theorem pay (v0 : FVec Ideal S4096x1024 .bf16) (v1 : FVec Ideal S4096x1024 .bf16) (r j : Fin 1024) :
    k0_pay1 (F := Ideal) v0 v1 (ix2 r j) = ∑ k : Fin 4096, v0 (ix2 k r) * v1 (ix2 k j) := by
  pointwise [k0_pay1]

theorem out_eq (v0 : FVec Ideal S4096x1024 .bf16) (v1 : FVec Ideal S4096x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

theorem read_0 (t : Fin cfg0.N) (A : S4096x1024.Idx → EReal) (y : S4096x1024.Idx) : (win0_0.blk t).view.read (Elt Ideal) A y = A ((win0_0.blk t).view.emb y) := rfl
theorem read_1 (t : Fin cfg0.N) (A : S4096x1024.Idx → EReal) (y : S4096x1024.Idx) : (win0_1.blk t).view.read (Elt Ideal) A y = A ((win0_1.blk t).view.emb y) := rfl

/-- A block of the result is the product of the blocks of the arguments. -/
theorem block (t : Fin cfg0.N) (A0 : S4096x1024.Idx → EReal) (A1 : S4096x1024.Idx → EReal) (r j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S1024x1024.Idx → EReal) := by
  refine (dats m 0 c).arrAt_eq_of_covers 2 (G (m ((c : Thread nD τ).loc main_arg0)) (m ((c : Thread nD τ).loc main_arg1)) : S1024x1024.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference10Ideal Cert.Reference10Ideal.Gen Cert.Reference10Ideal.Read

theorem ref_at (x0 : FVec Ideal S4096x1024 .bf16) (x1 : FVec Ideal S4096x1024 .bf16) (i : Fin 1024) (j : Fin 1024) :
    val_main_v5 (F := Ideal) x0 x1 (ix2 i j) = G x0 x1 (ix2 i j) := by
  pointwise [val_main_v5, val_main_v4, val_main_v1, val_main_v0]
  exact Finset.sum_congr rfl fun _ _ => mul_comm _ _

theorem ref (x0 : FVec Ideal S4096x1024 .bf16) (x1 : FVec Ideal S4096x1024 .bf16) : val_main_v5 (F := Ideal) x0 x1 = G x0 x1 := by
  funext y
  obtain ⟨i, j, rfl⟩ := eta2 (n := 1024) (m := 1024) y
  exact ref_at x0 x1 i j

end Reference

end Cert.OutDw
end
-- ==== Proof.Qkv.lean ====
/-
  The projection of the forgetting attention's queries, keys and values, side by side: h · W_qkv.
-/
module

public import proofs.«01_k».proof.Proof.MlpIndex
public import proofs.«01_k».proof.Proof.Gen.Kernel11Ideal.Value
public import proofs.«01_k».proof.Proof.Gen.Reference11Ideal.Run
public import proofs.«01_k».proof.Proof.Gen.Reference11Ideal.Read

@[expose] public section

set_option maxHeartbeats 400000
set_option maxRecDepth 16384

noncomputable section

namespace Cert.Qkv
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![1024, 3072]⟩ : Shape).Idx → EReal) : (⟨2, ![4096, 3072]⟩ : Shape).Idx → EReal := fun i =>
  ∑ k : Fin 1024, x0 (ix2 (i 0) k) * x1 (ix2 k (i 1))

section Kernel
open Cert.Kernel11Ideal Cert.Kernel11Ideal.Gen

theorem pay (v0 : FVec Ideal S1024x1024 .bf16) (v1 : FVec Ideal S1024x1024 .bf16) (r j : Fin 1024) :
    k0_pay1 (F := Ideal) v0 v1 (ix2 r j) = ∑ k : Fin 1024, v0 (ix2 r k) * v1 (ix2 k j) := by
  pointwise [k0_pay1]

theorem out_eq (v0 : FVec Ideal S1024x1024 .bf16) (v1 : FVec Ideal S1024x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)

theorem read_0 (t : Fin cfg0.N) (A : S4096x1024.Idx → EReal) (y : S1024x1024.Idx) : (win0_0.blk t).view.read (Elt Ideal) A y = A ((win0_0.blk t).view.emb y) := rfl
theorem read_1 (t : Fin cfg0.N) (A : S1024x3072.Idx → EReal) (y : S1024x1024.Idx) : (win0_1.blk t).view.read (Elt Ideal) A y = A ((win0_1.blk t).view.emb y) := rfl

/-- A block of the result is the product of the blocks of the arguments. -/
theorem block (t : Fin cfg0.N) (A0 : S4096x1024.Idx → EReal) (A1 : S1024x3072.Idx → EReal) (r j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x3072.Idx → EReal) := by
  refine (dats m 0 c).arrAt_eq_of_covers 2 (G (m ((c : Thread nD τ).loc main_arg0)) (m ((c : Thread nD τ).loc main_arg1)) : S4096x3072.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference11Ideal Cert.Reference11Ideal.Gen Cert.Reference11Ideal.Read

theorem ref_at (x0 : FVec Ideal S4096x1024 .bf16) (x1 : FVec Ideal S1024x3072 .bf16) (i : Fin 4096) (j : Fin 3072) :
    val_main_v3 (F := Ideal) x0 x1 (ix2 i j) = G x0 x1 (ix2 i j) := by
  pointwise [val_main_v3, val_main_v2, val_main_v0, val_main_v1]
  rfl

theorem ref (x0 : FVec Ideal S4096x1024 .bf16) (x1 : FVec Ideal S1024x3072 .bf16) : val_main_v3 (F := Ideal) x0 x1 = G x0 x1 := by
  funext y
  obtain ⟨i, j, rfl⟩ := eta2 (n := 4096) (m := 3072) y
  exact ref_at x0 x1 i j

end Reference

end Cert.Qkv
end
-- ==== Proof.QkvDx.lean ====
/-
  The gradient of the input of the forgetting attention's projection, d(qkv) · W_qkvᵀ, added to the gate's share of that gradient.
  The contracted axis is taken in three parts, which the kernel adds up from point to point.
-/
module

public import proofs.«01_k».proof.Proof.MlpIndex
public import proofs.«01_k».proof.Proof.Gen.Kernel12Ideal.Value
public import proofs.«01_k».proof.Proof.Gen.Reference12Ideal.Run
public import proofs.«01_k».proof.Proof.Gen.Reference12Ideal.Read

@[expose] public section

set_option maxHeartbeats 400000
set_option maxRecDepth 16384

noncomputable section

namespace Cert.QkvDx
open Idealize.ShloMosaic Idealize.ShloMosaic.TcCoe Idealize.SL.Sem
open Cert.Mlp

/-- The share of one part of the contracted axis in an element of the product. -/
def slice (x0 : (⟨2, ![4096, 3072]⟩ : Shape).Idx → EReal) (x1 : (⟨2, ![1024, 3072]⟩ : Shape).Idx → EReal) (i : Fin 4096) (j : Fin 1024) (b : Fin 3) : EReal :=
  ∑ k : Fin 1024, x0 (ix2 i ⟨1024 * b.val + k.val, by omega⟩) * x1 (ix2 j ⟨1024 * b.val + k.val, by omega⟩)

/-- What the call leaves in its result, from the arrays. -/
def G (x0 : (⟨2, ![4096, 3072]⟩ : Shape).Idx → EReal) (x1 : (⟨2, ![1024, 3072]⟩ : Shape).Idx → EReal) (x2 : (⟨2, ![4096, 1024]⟩ : Shape).Idx → EReal) : (⟨2, ![4096, 1024]⟩ : Shape).Idx → EReal := fun i =>
  (∑ b : Fin 3, slice x0 x1 (i 0) (i 1) b) + x2 i

/-- A sum over the 3072 positions of the contracted axis, in its three parts. -/
theorem sum_thirds (f : Fin 3072 → EReal) : ∑ k, f k = ∑ b : Fin 3, ∑ k : Fin 1024, f ⟨1024 * b.val + k.val, by omega⟩ := by
  rw [← (finProdFinEquiv (m := 3) (n := 1024)).sum_comp f, Fintype.sum_prod_type]
  refine Finset.sum_congr rfl fun b _ => Finset.sum_congr rfl fun k _ => congrArg f (Fin.ext ?_)
  exact Nat.add_comm _ _

section Kernel
open Cert.Kernel12Ideal Cert.Kernel12Ideal.Gen

/-- What one point adds to the accumulator. -/
def part (v0 v1 : S1024x1024.Idx → EReal) (r j : Fin 1024) : EReal := ∑ k : Fin 1024, v0 (ix2 r k) * v1 (ix2 j k)

/-- A sum of two extended reals. -/
def plus (a b : EReal) : EReal := a + b

theorem pay (v0 v1 : FVec Ideal S1024x1024 .bf16) (r j : Fin 1024) : k0_pay1 (F := Ideal) v0 v1 (ix2 r j) = part v0 v1 r j := by
  pointwise [k0_pay1]
  rfl

theorem pay_add (v0 v1 : FVec Ideal S1024x1024 .bf16) (v12 : FVec Ideal S1024x1024 .f32) (r j : Fin 1024) :
    k0_pay3 (F := Ideal) v0 v1 v12 (ix2 r j) = plus (v12 (ix2 r j)) (part v0 v1 r j) := by
  unfold k0_pay3
  rw [shapeCast_self]
  exact congrArg (plus (v12 (ix2 r j))) (pay v0 v1 r j)

theorem pay_last (v12 v13 : FVec Ideal S1024x1024 .f32) (r j : Fin 1024) : k0_pay4 (F := Ideal) v12 v13 (ix2 r j) = plus (v12 (ix2 r j)) (v13 (ix2 r j)) := by
  pointwise [k0_pay4]
  rfl

theorem ld_all (x : FVec Ideal S1024x1024 .bf16) (h) : View.ld (Val := Elt Ideal) (e' := .bf16) x (Rect.unit (s := S1024x1024) ![0, 0] ![1024, 1024] h) = x :=
  View.ld_unit_zero (Val := Elt Ideal) (e := .bf16) (S := S1024x1024) (by decide) h x

theorem ld_acc (x : FVec Ideal S1024x1024 .f32) (h) : View.ld (Val := Elt Ideal) (e' := .f32) x (Rect.unit (s := S1024x1024) ![0, 0] ![1024, 1024] h) = x :=
  View.ld_unit_zero (Val := Elt Ideal) (e := .f32) (S := S1024x1024) (by decide) h x

section Cases
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
  (x0 x1 : FVec Ideal S1024x1024 .bf16) (x2 xs : FVec Ideal S1024x1024 .f32)

theorem caseA (hc0 : cond0_0 i) (hc1 : ¬cond0_1 i) (hc2 : ¬cond0_2 i) (r j : Fin 1024) :
    sout0_A_0 (F := Ideal) c i arg3 harg3 arg4 harg4 arg5 harg5 arg6 harg6 arg7 harg7 hc0 hc1 hc2 x0 x1 x2 (ix2 r j) = part x0 x1 r j := by
  unfold sout0_A_0
  rw [View.read_writes_eq_canon _ _ _ (scover0_A_0 (F := Ideal) c i arg3 harg3 arg4 harg4 arg5 harg5 arg6 harg6 arg7 harg7 hc0 hc1 hc2 x0 x1 x2)]
  unfold kernelRun0_A
  dsimp only
  sl_unfold_words
  simp only [View.readAt_eq_ld, harg3.read_unread, harg4.read_unread, harg5.read_unread, harg7.read_unread]
  rw [View.canon_unit_zero (by decide)]
  unfold k0_pay2
  rw [shapeCast_self]
  refine (pay _ _ r j).trans ?_
  exact congrArg₂ (fun a b => part a b r j) (ld_all x0 _) (ld_all x1 _)

theorem caseB (hc0 : ¬cond0_0 i) (hc1 : cond0_1 i) (hc2 : ¬cond0_2 i) (r j : Fin 1024) :
    sout0_B_0 (F := Ideal) c i arg3 harg3 arg4 harg4 arg5 harg5 arg6 harg6 arg7 harg7 hc0 hc1 hc2 x0 x1 x2 xs (ix2 r j) = plus (xs (ix2 r j)) (part x0 x1 r j) := by
  unfold sout0_B_0
  rw [View.read_writes_eq_canon _ _ _ (scover0_B_0 (F := Ideal) c i arg3 harg3 arg4 harg4 arg5 harg5 arg6 harg6 arg7 harg7 hc0 hc1 hc2 x0 x1 x2 xs)]
  unfold kernelRun0_B
  dsimp only
  sl_unfold_words
  simp only [View.readAt_eq_ld, harg3.read_unread, harg4.read_unread, harg5.read_unread, harg7.read_unread]
  rw [View.canon_unit_zero (by decide)]
  refine (pay_add _ _ _ r j).trans ?_
  exact congrArg₂ plus (congrFun (ld_acc xs _) (ix2 r j)) (congrArg₂ (fun a b => part a b r j) (ld_all x0 _) (ld_all x1 _))

theorem caseC (hc0 : ¬cond0_0 i) (hc1 : cond0_1 i) (hc2 : cond0_2 i) (r j : Fin 1024) :
    out0_C_3 (F := Ideal) c i arg3 harg3 arg4 harg4 arg5 harg5 arg6 harg6 arg7 harg7 hc0 hc1 hc2 x0 x1 x2 xs (ix2 r j) = plus (plus (xs (ix2 r j)) (part x0 x1 r j)) (x2 (ix2 r j)) := by
  unfold out0_C_3
  rw [View.read_writes_eq_canon _ _ _ (cover0_C_3 (F := Ideal) c i arg3 harg3 arg4 harg4 arg5 harg5 arg6 harg6 arg7 harg7 hc0 hc1 hc2 x0 x1 x2 xs)]
  unfold kernelRun0_C
  dsimp only
  sl_unfold_words
  simp only [View.readAt_eq_ld, harg3.read_unread, harg4.read_unread, harg5.read_unread, harg7.read_unread]
  rw [View.canon_unit_zero (by decide)]
  refine (pay_last _ _ r j).trans ?_
  refine congrArg₂ plus ?_ (congrFun (ld_acc x2 _) (ix2 r j))
  refine (congrFun (View.readCov_unit_zero (S := S1024x1024) arg7.view (by decide) _ _) (ix2 r j)).trans ?_
  refine (pay_add _ _ _ r j).trans ?_
  exact congrArg₂ plus (congrFun (ld_acc xs _) (ix2 r j)) (congrArg₂ (fun a b => part a b r j) (ld_all x0 _) (ld_all x1 _))

end Cases

theorem index_0 : ∀ t : Fin cfg0.N, win0_0.index t = ![(grid0.coords t 0).val, (grid0.coords t 2).val] := (by decide +kernel : ∀ t : Fin grid0.N, _)
theorem index_1 : ∀ t : Fin cfg0.N, win0_1.index t = ![0, (grid0.coords t 2).val] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem coords_eq : ∀ t : Fin cfg0.N, (grid0.coords t 0).val = t.val / 3 ∧ (grid0.coords t 2).val = t.val % 3 := (by decide +kernel : ∀ t : Fin grid0.N, _)

theorem read_0 (t : Fin cfg0.N) (A : S4096x3072.Idx → EReal) (y : S1024x1024.Idx) : (win0_0.blk t).view.read (Elt Ideal) A y = A ((win0_0.blk t).view.emb y) := rfl
theorem read_1 (t : Fin cfg0.N) (A : S1024x3072.Idx → EReal) (y : S1024x1024.Idx) : (win0_1.blk t).view.read (Elt Ideal) A y = A ((win0_1.blk t).view.emb y) := rfl
theorem read_2 (t : Fin cfg0.N) (A : S4096x1024.Idx → EReal) (y : S1024x1024.Idx) : (win0_2.blk t).view.read (Elt Ideal) A y = A ((win0_2.blk t).view.emb y) := rfl

/-- What a point adds, from the arrays. -/
theorem part_eq (t : Fin cfg0.N) (A0 : S4096x3072.Idx → EReal) (A1 : S1024x3072.Idx → EReal) (r j : Fin 1024) (i : Fin 4096) (b : Fin 3)
    (hi : i.val = 1024 * (t.val / 3) + r.val) (hb : b.val = t.val % 3) :
    part ((win0_0.blk t).view.read (Elt Ideal) A0) ((win0_1.blk t).view.read (Elt Ideal) A1) r j = slice A0 A1 i j b := by
  obtain ⟨c0, c2⟩ := coords_eq t
  unfold part slice
  refine Finset.sum_congr rfl fun k _ => congrArg₂ (· * ·) ?_ ?_
  · rw [read_0]
    refine at2 A0 ?_ ?_ <;> blk_simp [index_0] <;> (try dsimp only [Fin.val_mk, Fin.val_zero]) <;> (try omega)
  · rw [read_1]
    refine at2 A1 ?_ ?_ <;> blk_simp [index_1] <;> (try dsimp only [Fin.val_mk, Fin.val_zero]) <;> (try omega)

variable (m : (ℓ : Loc nD τ sig) → Buf (Elt Ideal) ℓ) (c : Dev nD)

theorem first (t : Fin cfg0.N) (h0 : t.val % 3 = 0) (r j : Fin 1024) : (outsAt0 m c t.val t.isLt).2 (ix2 r j) = part (iblk m c 0 t) (iblk m c 1 t) r j := by
  have h1 : ¬1 ≤ t.val % 3 := by omega
  have h2 : ¬t.val % 3 = 2 := by omega
  have e := caseA c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0) (fun h => h1 ((hcond0_1 t).mp h)) (fun h => h2 ((hcond0_2 t).mp h)) r j
  rw [outsAt0_A m c t h0 h1 h2]
  dsimp only
  exact e

theorem next (t : Fin cfg0.N) (h0 : ¬t.val % 3 = 0) (h2 : ¬t.val % 3 = 2) (r j : Fin 1024) :
    (outsAt0 m c t.val t.isLt).2 (ix2 r j) = plus ((outsAt0 m c (t.val - 1) (Nat.lt_of_le_of_lt (Nat.sub_le _ _) t.isLt)).2 (ix2 r j)) (part (iblk m c 0 t) (iblk m c 1 t) r j) := by
  have h1 : 1 ≤ t.val % 3 := by omega
  have e := caseB c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (outsAt0 m c (t.val - 1) (Nat.lt_of_le_of_lt (Nat.sub_le _ _) t.isLt)).2 (fun h => h0 ((hcond0_0 t).mp h)) ((hcond0_1 t).mpr h1) (fun h => h2 ((hcond0_2 t).mp h)) r j
  rw [outsAt0_B m c t h0 h1 h2]
  dsimp only
  exact e

theorem last (t : Fin cfg0.N) (h2 : t.val % 3 = 2) (r j : Fin 1024) :
    (outsAt0 m c t.val t.isLt).1 (ix2 r j) = plus (plus ((outsAt0 m c (t.val - 1) (Nat.lt_of_le_of_lt (Nat.sub_le _ _) t.isLt)).2 (ix2 r j)) (part (iblk m c 0 t) (iblk m c 1 t) r j))
      ((win0_2.blk t).view.read (Elt Ideal) (m ((c : Thread nD τ).loc main_arg2)) (ix2 r j)) := by
  have h0 : ¬t.val % 3 = 0 := by omega
  have h1 : 1 ≤ t.val % 3 := by omega
  have e := caseC c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (outsAt0 m c (t.val - 1) (Nat.lt_of_le_of_lt (Nat.sub_le _ _) t.isLt)).2 (fun h => h0 ((hcond0_0 t).mp h)) ((hcond0_1 t).mpr h1) ((hcond0_2 t).mpr h2) r j
  rw [outsAt0_C m c t h0 h1 h2]
  dsimp only
  exact e

/-- What three points add up to: the three points' shares. -/
theorem three (t : Fin cfg0.N) (h3 : t.val % 3 = 2) (r j : Fin 1024) (i : Fin 4096) (hi : i.val = 1024 * (t.val / 3) + r.val) :
    plus ((outsAt0 m c (t.val - 1) (Nat.lt_of_le_of_lt (Nat.sub_le _ _) t.isLt)).2 (ix2 r j)) (part (iblk m c 0 t) (iblk m c 1 t) r j) = ∑ b : Fin 3, slice (m ((c : Thread nD τ).loc main_arg0)) (m ((c : Thread nD τ).loc main_arg1)) i j b := by
  have e2 := next m c ⟨t.val - 1, by omega⟩ (by (try dsimp only); omega) (by (try dsimp only); omega) r j
  have e3 := first m c ⟨t.val - 1 - 1, by omega⟩ (by (try dsimp only); omega) r j
  refine (congrArg (plus · _) (e2.trans (congrArg (plus · _) e3))).trans ?_
  rw [Fin.sum_univ_three]
  unfold plus
  refine congrArg₂ (· + ·) (congrArg₂ (· + ·) ?_ ?_) ?_
  · exact part_eq ⟨t.val - 1 - 1, by omega⟩ _ _ r j i 0 (by dsimp only; omega) (by dsimp only; omega)
  · exact part_eq ⟨t.val - 1, by omega⟩ _ _ r j i 1 (by dsimp only; omega) (by dsimp only; omega)
  · exact part_eq t _ _ r j i 2 hi h3.symm

theorem final : (dats m 0 c).arrAt 3 cfg0.N = (G (m ((c : Thread nD τ).loc main_arg0)) (m ((c : Thread nD τ).loc main_arg1)) (m ((c : Thread nD τ).loc main_arg2)) : S4096x1024.Idx → EReal) := by
  refine (dats m 0 c).arrAt_eq_of_covers 3 (G (m ((c : Thread nD τ).loc main_arg0)) (m ((c : Thread nD τ).loc main_arg1)) (m ((c : Thread nD τ).loc main_arg2)) : S4096x1024.Idx → EReal) (by decide +kernel) fun t hf y => ?_
  obtain ⟨r, j, rfl⟩ := eta2 (n := 1024) (m := 1024) y
  show (dats m 0 c).after 3 t (ix2 r j) = _
  rw [after0_3]
  have h3 : t.val % 3 = 2 := (flush0_3 t).mp hf
  have hN : t.val < 12 := lt_of_lt_of_eq t.isLt (show cfg0.N = 12 from N_0)
  obtain ⟨c0, c2⟩ := coords_eq t
  have e := three m c t h3 r j ⟨1024 * (t.val / 3) + r.val, by omega⟩ rfl
  refine (last m c t h3 r j).trans ?_
  rw [e, read_2]
  refine (show plus (∑ b : Fin 3, slice (m ((c : Thread nD τ).loc main_arg0)) (m ((c : Thread nD τ).loc main_arg1)) ⟨1024 * (t.val / 3) + r.val, by omega⟩ j b) ((m ((c : Thread nD τ).loc main_arg2)) ((win0_2.blk t).view.emb (ix2 r j)))
    = G (m ((c : Thread nD τ).loc main_arg0)) (m ((c : Thread nD τ).loc main_arg1)) (m ((c : Thread nD τ).loc main_arg2)) (ix2 ⟨1024 * (t.val / 3) + r.val, by omega⟩ j) from congrArg (plus _) ?_).trans ?_
  · refine at2 ((m ((c : Thread nD τ).loc main_arg2)) : S4096x1024.Idx → EReal) ?_ ?_ <;> blk_simp [index_2] <;> (try dsimp only [Fin.val_mk, Fin.val_zero]) <;> (try omega)
  · refine at2 (G (m ((c : Thread nD τ).loc main_arg0)) (m ((c : Thread nD τ).loc main_arg1)) (m ((c : Thread nD τ).loc main_arg2))) ?_ ?_ <;> blk_simp [index_3] <;> (try dsimp only [Fin.val_mk, Fin.val_zero]) <;> (try omega)

end Kernel

section Reference
open Cert.Reference12Ideal Cert.Reference12Ideal.Gen Cert.Reference12Ideal.Read

theorem ref_at (x0 : FVec Ideal S4096x3072 .bf16) (x1 : FVec Ideal S1024x3072 .bf16) (x2 : FVec Ideal S4096x1024 .f32) (i : Fin 4096) (j : Fin 1024) :
    val_main_v6 (F := Ideal) x0 x1 x2 (ix2 i j) = G x0 x1 x2 (ix2 i j) := by
  pointwise [val_main_v6, val_main_v5, val_main_v4, val_main_v0, val_main_v1]
  exact congrArg (· + x2 (ix2 i j)) (sum_thirds _)

theorem ref (x0 : FVec Ideal S4096x3072 .bf16) (x1 : FVec Ideal S1024x3072 .bf16) (x2 : FVec Ideal S4096x1024 .f32) : val_main_v6 (F := Ideal) x0 x1 x2 = G x0 x1 x2 := by
  funext y
  obtain ⟨i, j, rfl⟩ := eta2 (n := 4096) (m := 1024) y
  exact ref_at x0 x1 x2 i j

end Reference

end Cert.QkvDx
end
-- ==== Proof.QkvDw.lean ====
/-
  The gradient of the weights of the forgetting attention's projection: hᵀ · d(qkv).
-/
module

public import proofs.«01_k».proof.Proof.MlpIndex
public import proofs.«01_k».proof.Proof.Gen.Kernel13Ideal.Value
public import proofs.«01_k».proof.Proof.Gen.Reference13Ideal.Run
public import proofs.«01_k».proof.Proof.Gen.Reference13Ideal.Read

@[expose] public section

set_option maxHeartbeats 400000
set_option maxRecDepth 16384

noncomputable section

namespace Cert.QkvDw
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![4096, 3072]⟩ : Shape).Idx → EReal) : (⟨2, ![1024, 3072]⟩ : Shape).Idx → EReal := fun i =>
  ∑ k : Fin 4096, x0 (ix2 k (i 0)) * x1 (ix2 k (i 1))

section Kernel
open Cert.Kernel13Ideal Cert.Kernel13Ideal.Gen

theorem pay (v0 : FVec Ideal S4096x1024 .bf16) (v1 : FVec Ideal S4096x1024 .bf16) (r j : Fin 1024) :
    k0_pay1 (F := Ideal) v0 v1 (ix2 r j) = ∑ k : Fin 4096, v0 (ix2 k r) * v1 (ix2 k j) := by
  pointwise [k0_pay1]

theorem out_eq (v0 : FVec Ideal S4096x1024 .bf16) (v1 : FVec Ideal S4096x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![0, (grid0.coords t 1).val] := (by decide +kernel : ∀ t : Fin grid0.N, _)

theorem read_0 (t : Fin cfg0.N) (A : S4096x1024.Idx → EReal) (y : S4096x1024.Idx) : (win0_0.blk t).view.read (Elt Ideal) A y = A ((win0_0.blk t).view.emb y) := rfl
theorem read_1 (t : Fin cfg0.N) (A : S4096x3072.Idx → EReal) (y : S4096x1024.Idx) : (win0_1.blk t).view.read (Elt Ideal) A y = A ((win0_1.blk t).view.emb y) := rfl

/-- A block of the result is the product of the blocks of the arguments. -/
theorem block (t : Fin cfg0.N) (A0 : S4096x1024.Idx → EReal) (A1 : S4096x3072.Idx → EReal) (r j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S1024x3072.Idx → EReal) := by
  refine (dats m 0 c).arrAt_eq_of_covers 2 (G (m ((c : Thread nD τ).loc main_arg0)) (m ((c : Thread nD τ).loc main_arg1)) : S1024x3072.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference13Ideal Cert.Reference13Ideal.Gen Cert.Reference13Ideal.Read

theorem ref_at (x0 : FVec Ideal S4096x1024 .bf16) (x1 : FVec Ideal S4096x3072 .bf16) (i : Fin 1024) (j : Fin 3072) :
    val_main_v5 (F := Ideal) x0 x1 (ix2 i j) = G x0 x1 (ix2 i j) := by
  pointwise [val_main_v5, val_main_v4, val_main_v1, val_main_v0]
  exact Finset.sum_congr rfl fun _ _ => mul_comm _ _

theorem ref (x0 : FVec Ideal S4096x1024 .bf16) (x1 : FVec Ideal S4096x3072 .bf16) : val_main_v5 (F := Ideal) x0 x1 = G x0 x1 := by
  funext y
  obtain ⟨i, j, rfl⟩ := eta2 (n := 1024) (m := 3072) y
  exact ref_at x0 x1 i j

end Reference

end Cert.QkvDw
end
-- ==== Proof.MlaDown.lean ====
/-
  The projection of MLA down to its ranks and the shared rotary channels: h · W_down.
-/
module

public import proofs.«01_k».proof.Proof.MlpIndex
public import proofs.«01_k».proof.Proof.Gen.Kernel14Ideal.Value
public import proofs.«01_k».proof.Proof.Gen.Reference14Ideal.Run
public import proofs.«01_k».proof.Proof.Gen.Reference14Ideal.Read

@[expose] public section

set_option maxHeartbeats 400000
set_option maxRecDepth 16384

noncomputable section

namespace Cert.MlaDown
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![1024, 512]⟩ : Shape).Idx → EReal) : (⟨2, ![4096, 512]⟩ : Shape).Idx → EReal := fun i =>
  ∑ k : Fin 1024, x0 (ix2 (i 0) k) * x1 (ix2 k (i 1))

section Kernel
open Cert.Kernel14Ideal Cert.Kernel14Ideal.Gen

theorem pay (v0 : FVec Ideal S1024x1024 .bf16) (v1 : FVec Ideal S1024x512 .bf16) (r : Fin 1024) (j : Fin 512) :
    k0_pay1 (F := Ideal) v0 v1 (ix2 r j) = ∑ k : Fin 1024, v0 (ix2 r k) * v1 (ix2 k j) := by
  pointwise [k0_pay1]

theorem out_eq (v0 : FVec Ideal S1024x1024 .bf16) (v1 : FVec Ideal S1024x512 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

theorem read_0 (t : Fin cfg0.N) (A : S4096x1024.Idx → EReal) (y : S1024x1024.Idx) : (win0_0.blk t).view.read (Elt Ideal) A y = A ((win0_0.blk t).view.emb y) := rfl
theorem read_1 (t : Fin cfg0.N) (A : S1024x512.Idx → EReal) (y : S1024x512.Idx) : (win0_1.blk t).view.read (Elt Ideal) A y = A ((win0_1.blk t).view.emb y) := rfl

/-- A block of the result is the product of the blocks of the arguments. -/
theorem block (t : Fin cfg0.N) (A0 : S4096x1024.Idx → EReal) (A1 : S1024x512.Idx → EReal) (r : Fin 1024) (j : Fin 512) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x512.Idx → EReal) := by
  refine (dats m 0 c).arrAt_eq_of_covers 2 (G (m ((c : Thread nD τ).loc main_arg0)) (m ((c : Thread nD τ).loc main_arg1)) : S4096x512.Idx → EReal) (by decide +kernel) fun t hf y => ?_
  obtain ⟨r, j, rfl⟩ := eta2 (n := 1024) (m := 512) y
  show (dats m 0 c).after 2 t (ix2 r j) = _
  rw [after0_2, out_eq]
  exact block t _ _ r j

end Kernel

section Reference
open Cert.Reference14Ideal Cert.Reference14Ideal.Gen Cert.Reference14Ideal.Read

theorem ref_at (x0 : FVec Ideal S4096x1024 .bf16) (x1 : FVec Ideal S1024x512 .bf16) (i : Fin 4096) (j : Fin 512) :
    val_main_v2 (F := Ideal) x0 x1 (ix2 i j) = G x0 x1 (ix2 i j) := by
  pointwise [val_main_v2, val_main_v0, val_main_v1]
  rfl

theorem ref (x0 : FVec Ideal S4096x1024 .bf16) (x1 : FVec Ideal S1024x512 .bf16) : val_main_v2 (F := Ideal) x0 x1 = G x0 x1 := by
  funext y
  obtain ⟨i, j, rfl⟩ := eta2 (n := 4096) (m := 512) y
  exact ref_at x0 x1 i j

end Reference

end Cert.MlaDown
end
-- ==== Proof.MlaUq.lean ====
/-
  The projection of MLA up to the queries: c_q · W_uq.
-/
module

public import proofs.«01_k».proof.Proof.MlpIndex
public import proofs.«01_k».proof.Proof.Gen.Kernel15Ideal.Value
public import proofs.«01_k».proof.Proof.Gen.Reference15Ideal.Run
public import proofs.«01_k».proof.Proof.Gen.Reference15Ideal.Read

@[expose] public section

set_option maxHeartbeats 400000
set_option maxRecDepth 16384

noncomputable section

namespace Cert.MlaUq
open Idealize.ShloMosaic Idealize.ShloMosaic.TcCoe Idealize.SL.Sem
open Cert.Mlp

/-- What the product leaves in its result, from the arrays. -/
def G (x0 : (⟨2, ![4096, 256]⟩ : Shape).Idx → EReal) (x1 : (⟨2, ![256, 2048]⟩ : Shape).Idx → EReal) : (⟨2, ![4096, 2048]⟩ : Shape).Idx → EReal := fun i =>
  ∑ k : Fin 256, x0 (ix2 (i 0) k) * x1 (ix2 k (i 1))

section Kernel
open Cert.Kernel15Ideal Cert.Kernel15Ideal.Gen

theorem pay (v0 : FVec Ideal S1024x256 .bf16) (v1 : FVec Ideal S256x1024 .bf16) (r : Fin 1024) (j : Fin 1024) :
    k0_pay1 (F := Ideal) v0 v1 (ix2 r j) = ∑ k : Fin 256, v0 (ix2 r k) * v1 (ix2 k j) := by
  pointwise [k0_pay1]

theorem out_eq (v0 : FVec Ideal S1024x256 .bf16) (v1 : FVec Ideal S256x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)

theorem read_0 (t : Fin cfg0.N) (A : S4096x256.Idx → EReal) (y : S1024x256.Idx) : (win0_0.blk t).view.read (Elt Ideal) A y = A ((win0_0.blk t).view.emb y) := rfl
theorem read_1 (t : Fin cfg0.N) (A : S256x2048.Idx → EReal) (y : S256x1024.Idx) : (win0_1.blk t).view.read (Elt Ideal) A y = A ((win0_1.blk t).view.emb y) := rfl

/-- A block of the result is the product of the blocks of the arguments. -/
theorem block (t : Fin cfg0.N) (A0 : S4096x256.Idx → EReal) (A1 : S256x2048.Idx → EReal) (r : Fin 1024) (j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x2048.Idx → EReal) := by
  refine (dats m 0 c).arrAt_eq_of_covers 2 (G (m ((c : Thread nD τ).loc main_arg0)) (m ((c : Thread nD τ).loc main_arg1)) : S4096x2048.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference15Ideal Cert.Reference15Ideal.Gen Cert.Reference15Ideal.Read

theorem ref_at (x0 : FVec Ideal S4096x256 .bf16) (x1 : FVec Ideal S256x2048 .bf16) (i : Fin 4096) (j : Fin 2048) :
    val_main_v2 (F := Ideal) x0 x1 (ix2 i j) = G x0 x1 (ix2 i j) := by
  pointwise [val_main_v2, val_main_v0, val_main_v1]
  rfl

theorem ref (x0 : FVec Ideal S4096x256 .bf16) (x1 : FVec Ideal S256x2048 .bf16) : val_main_v2 (F := Ideal) x0 x1 = G x0 x1 := by
  funext y
  obtain ⟨i, j, rfl⟩ := eta2 (n := 4096) (m := 2048) y
  exact ref_at x0 x1 i j

end Reference

end Cert.MlaUq
end
-- ==== Proof.MlaUkv.lean ====
/-
  The projection of MLA up to the keys and values: c_kv · W_ukv.
-/
module

public import proofs.«01_k».proof.Proof.MlpIndex
public import proofs.«01_k».proof.Proof.Gen.Kernel16Ideal.Value
public import proofs.«01_k».proof.Proof.Gen.Reference16Ideal.Run
public import proofs.«01_k».proof.Proof.Gen.Reference16Ideal.Read

@[expose] public section

set_option maxHeartbeats 400000
set_option maxRecDepth 16384

noncomputable section

namespace Cert.MlaUkv
open Idealize.ShloMosaic Idealize.ShloMosaic.TcCoe Idealize.SL.Sem
open Cert.Mlp

/-- What the product leaves in its result, from the arrays. -/
def G (x0 : (⟨2, ![4096, 256]⟩ : Shape).Idx → EReal) (x1 : (⟨2, ![256, 3072]⟩ : Shape).Idx → EReal) : (⟨2, ![4096, 3072]⟩ : Shape).Idx → EReal := fun i =>
  ∑ k : Fin 256, x0 (ix2 (i 0) k) * x1 (ix2 k (i 1))

section Kernel
open Cert.Kernel16Ideal Cert.Kernel16Ideal.Gen

theorem pay (v0 : FVec Ideal S1024x256 .bf16) (v1 : FVec Ideal S256x1024 .bf16) (r : Fin 1024) (j : Fin 1024) :
    k0_pay1 (F := Ideal) v0 v1 (ix2 r j) = ∑ k : Fin 256, v0 (ix2 r k) * v1 (ix2 k j) := by
  pointwise [k0_pay1]

theorem out_eq (v0 : FVec Ideal S1024x256 .bf16) (v1 : FVec Ideal S256x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)

theorem read_0 (t : Fin cfg0.N) (A : S4096x256.Idx → EReal) (y : S1024x256.Idx) : (win0_0.blk t).view.read (Elt Ideal) A y = A ((win0_0.blk t).view.emb y) := rfl
theorem read_1 (t : Fin cfg0.N) (A : S256x3072.Idx → EReal) (y : S256x1024.Idx) : (win0_1.blk t).view.read (Elt Ideal) A y = A ((win0_1.blk t).view.emb y) := rfl

/-- A block of the result is the product of the blocks of the arguments. -/
theorem block (t : Fin cfg0.N) (A0 : S4096x256.Idx → EReal) (A1 : S256x3072.Idx → EReal) (r : Fin 1024) (j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x3072.Idx → EReal) := by
  refine (dats m 0 c).arrAt_eq_of_covers 2 (G (m ((c : Thread nD τ).loc main_arg0)) (m ((c : Thread nD τ).loc main_arg1)) : S4096x3072.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference16Ideal Cert.Reference16Ideal.Gen Cert.Reference16Ideal.Read

theorem ref_at (x0 : FVec Ideal S4096x256 .bf16) (x1 : FVec Ideal S256x3072 .bf16) (i : Fin 4096) (j : Fin 3072) :
    val_main_v3 (F := Ideal) x0 x1 (ix2 i j) = G x0 x1 (ix2 i j) := by
  pointwise [val_main_v3, val_main_v2, val_main_v0, val_main_v1]
  rfl

theorem ref (x0 : FVec Ideal S4096x256 .bf16) (x1 : FVec Ideal S256x3072 .bf16) : val_main_v3 (F := Ideal) x0 x1 = G x0 x1 := by
  funext y
  obtain ⟨i, j, rfl⟩ := eta2 (n := 4096) (m := 3072) y
  exact ref_at x0 x1 i j

end Reference

end Cert.MlaUkv
end
-- ==== Proof.MlaDownDx.lean ====
/-
  The gradient of the input of MLA's projection down to its ranks.
-/
module

public import proofs.«01_k».proof.Proof.MlpIndex
public import proofs.«01_k».proof.Proof.Gen.Kernel17Ideal.Value
public import proofs.«01_k».proof.Proof.Gen.Reference17Ideal.Run
public import proofs.«01_k».proof.Proof.Gen.Reference17Ideal.Read

@[expose] public section

set_option maxHeartbeats 400000
set_option maxRecDepth 16384

noncomputable section

namespace Cert.MlaDownDx
open Idealize.ShloMosaic Idealize.ShloMosaic.TcCoe Idealize.SL.Sem
open Cert.Mlp

/-- What the product leaves in its result, from the arrays. -/
def G (x0 : (⟨2, ![4096, 512]⟩ : Shape).Idx → EReal) (x1 : (⟨2, ![1024, 512]⟩ : Shape).Idx → EReal) : (⟨2, ![4096, 1024]⟩ : Shape).Idx → EReal := fun i =>
  ∑ k : Fin 512, x0 (ix2 (i 0) k) * x1 (ix2 (i 1) k)

section Kernel
open Cert.Kernel17Ideal Cert.Kernel17Ideal.Gen

theorem pay (v0 : FVec Ideal S1024x512 .bf16) (v1 : FVec Ideal S1024x512 .bf16) (r : Fin 1024) (j : Fin 1024) :
    k0_pay1 (F := Ideal) v0 v1 (ix2 r j) = ∑ k : Fin 512, v0 (ix2 r k) * v1 (ix2 j k) := by
  pointwise [k0_pay1]

theorem out_eq (v0 : FVec Ideal S1024x512 .bf16) (v1 : FVec Ideal S1024x512 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

theorem read_0 (t : Fin cfg0.N) (A : S4096x512.Idx → EReal) (y : S1024x512.Idx) : (win0_0.blk t).view.read (Elt Ideal) A y = A ((win0_0.blk t).view.emb y) := rfl
theorem read_1 (t : Fin cfg0.N) (A : S1024x512.Idx → EReal) (y : S1024x512.Idx) : (win0_1.blk t).view.read (Elt Ideal) A y = A ((win0_1.blk t).view.emb y) := rfl

/-- A block of the result is the product of the blocks of the arguments. -/
theorem block (t : Fin cfg0.N) (A0 : S4096x512.Idx → EReal) (A1 : S1024x512.Idx → EReal) (r : Fin 1024) (j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S4096x1024.Idx → EReal) := by
  refine (dats m 0 c).arrAt_eq_of_covers 2 (G (m ((c : Thread nD τ).loc main_arg0)) (m ((c : Thread nD τ).loc main_arg1)) : S4096x1024.Idx → EReal) (by decide +kernel) fun t hf y => ?_
  obtain ⟨r, j, rfl⟩ := eta2 (n := 1024) (m := 1024) y
  show (dats m 0 c).after 2 t (ix2 r j) = _
  rw [after0_2, out_eq]
  exact block t _ _ r j

end Kernel

section Reference
open Cert.Reference17Ideal Cert.Reference17Ideal.Gen Cert.Reference17Ideal.Read

theorem ref_at (x0 : FVec Ideal S4096x512 .bf16) (x1 : FVec Ideal S1024x512 .bf16) (i : Fin 4096) (j : Fin 1024) :
    val_main_v5 (F := Ideal) x0 x1 (ix2 i j) = G x0 x1 (ix2 i j) := by
  pointwise [val_main_v5, val_main_v4, val_main_v0, val_main_v1]
  rfl

theorem ref (x0 : FVec Ideal S4096x512 .bf16) (x1 : FVec Ideal S1024x512 .bf16) : val_main_v5 (F := Ideal) x0 x1 = G x0 x1 := by
  funext y
  obtain ⟨i, j, rfl⟩ := eta2 (n := 4096) (m := 1024) y
  exact ref_at x0 x1 i j

end Reference

end Cert.MlaDownDx
end
-- ==== Proof.MlaDownDw.lean ====
/-
  The gradient of the weights of MLA's projection down to its ranks.
-/
module

public import proofs.«01_k».proof.Proof.MlpIndex
public import proofs.«01_k».proof.Proof.Gen.Kernel18Ideal.Value
public import proofs.«01_k».proof.Proof.Gen.Reference18Ideal.Run
public import proofs.«01_k».proof.Proof.Gen.Reference18Ideal.Read

@[expose] public section

set_option maxHeartbeats 400000
set_option maxRecDepth 16384

noncomputable section

namespace Cert.MlaDownDw
open Idealize.ShloMosaic Idealize.ShloMosaic.TcCoe Idealize.SL.Sem
open Cert.Mlp

/-- What the product leaves in its result, from the arrays. -/
def G (x0 : (⟨2, ![4096, 1024]⟩ : Shape).Idx → EReal) (x1 : (⟨2, ![4096, 512]⟩ : Shape).Idx → EReal) : (⟨2, ![1024, 512]⟩ : Shape).Idx → EReal := fun i =>
  ∑ k : Fin 4096, x0 (ix2 k (i 0)) * x1 (ix2 k (i 1))

section Kernel
open Cert.Kernel18Ideal Cert.Kernel18Ideal.Gen

theorem pay (v0 : FVec Ideal S4096x1024 .bf16) (v1 : FVec Ideal S4096x512 .bf16) (r : Fin 1024) (j : Fin 512) :
    k0_pay1 (F := Ideal) v0 v1 (ix2 r j) = ∑ k : Fin 4096, v0 (ix2 k r) * v1 (ix2 k j) := by
  pointwise [k0_pay1]

theorem out_eq (v0 : FVec Ideal S4096x1024 .bf16) (v1 : FVec Ideal S4096x512 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

theorem read_0 (t : Fin cfg0.N) (A : S4096x1024.Idx → EReal) (y : S4096x1024.Idx) : (win0_0.blk t).view.read (Elt Ideal) A y = A ((win0_0.blk t).view.emb y) := rfl
theorem read_1 (t : Fin cfg0.N) (A : S4096x512.Idx → EReal) (y : S4096x512.Idx) : (win0_1.blk t).view.read (Elt Ideal) A y = A ((win0_1.blk t).view.emb y) := rfl

/-- A block of the result is the product of the blocks of the arguments. -/
theorem block (t : Fin cfg0.N) (A0 : S4096x1024.Idx → EReal) (A1 : S4096x512.Idx → EReal) (r : Fin 1024) (j : Fin 512) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S1024x512.Idx → EReal) := by
  refine (dats m 0 c).arrAt_eq_of_covers 2 (G (m ((c : Thread nD τ).loc main_arg0)) (m ((c : Thread nD τ).loc main_arg1)) : S1024x512.Idx → EReal) (by decide +kernel) fun t hf y => ?_
  obtain ⟨r, j, rfl⟩ := eta2 (n := 1024) (m := 512) y
  show (dats m 0 c).after 2 t (ix2 r j) = _
  rw [after0_2, out_eq]
  exact block t _ _ r j

end Kernel

section Reference
open Cert.Reference18Ideal Cert.Reference18Ideal.Gen Cert.Reference18Ideal.Read

theorem ref_at (x0 : FVec Ideal S4096x1024 .bf16) (x1 : FVec Ideal S4096x512 .bf16) (i : Fin 1024) (j : Fin 512) :
    val_main_v5 (F := Ideal) x0 x1 (ix2 i j) = G x0 x1 (ix2 i j) := by
  pointwise [val_main_v5, val_main_v4, val_main_v1, val_main_v0]
  exact Finset.sum_congr rfl fun _ _ => mul_comm _ _

theorem ref (x0 : FVec Ideal S4096x1024 .bf16) (x1 : FVec Ideal S4096x512 .bf16) : val_main_v5 (F := Ideal) x0 x1 = G x0 x1 := by
  funext y
  obtain ⟨i, j, rfl⟩ := eta2 (n := 1024) (m := 512) y
  exact ref_at x0 x1 i j

end Reference

end Cert.MlaDownDw
end
-- ==== Proof.MlaUqDw.lean ====
/-
  The gradient of the weights of MLA's projection up to the queries.
-/
module

public import proofs.«01_k».proof.Proof.MlpIndex
public import proofs.«01_k».proof.Proof.Gen.Kernel19Ideal.Value
public import proofs.«01_k».proof.Proof.Gen.Reference19Ideal.Run
public import proofs.«01_k».proof.Proof.Gen.Reference19Ideal.Read

@[expose] public section

set_option maxHeartbeats 400000
set_option maxRecDepth 16384

noncomputable section

namespace Cert.MlaUqDw
open Idealize.ShloMosaic Idealize.ShloMosaic.TcCoe Idealize.SL.Sem
open Cert.Mlp

/-- What the product leaves in its result, from the arrays. -/
def G (x0 : (⟨2, ![4096, 256]⟩ : Shape).Idx → EReal) (x1 : (⟨2, ![4096, 2048]⟩ : Shape).Idx → EReal) : (⟨2, ![256, 2048]⟩ : Shape).Idx → EReal := fun i =>
  ∑ k : Fin 4096, x0 (ix2 k (i 0)) * x1 (ix2 k (i 1))

section Kernel
open Cert.Kernel19Ideal Cert.Kernel19Ideal.Gen

theorem pay (v0 : FVec Ideal S4096x256 .bf16) (v1 : FVec Ideal S4096x1024 .bf16) (r : Fin 256) (j : Fin 1024) :
    k0_pay1 (F := Ideal) v0 v1 (ix2 r j) = ∑ k : Fin 4096, v0 (ix2 k r) * v1 (ix2 k j) := by
  pointwise [k0_pay1]

theorem out_eq (v0 : FVec Ideal S4096x256 .bf16) (v1 : FVec Ideal S4096x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![0, (grid0.coords t 1).val] := (by decide +kernel : ∀ t : Fin grid0.N, _)

theorem read_0 (t : Fin cfg0.N) (A : S4096x256.Idx → EReal) (y : S4096x256.Idx) : (win0_0.blk t).view.read (Elt Ideal) A y = A ((win0_0.blk t).view.emb y) := rfl
theorem read_1 (t : Fin cfg0.N) (A : S4096x2048.Idx → EReal) (y : S4096x1024.Idx) : (win0_1.blk t).view.read (Elt Ideal) A y = A ((win0_1.blk t).view.emb y) := rfl

/-- A block of the result is the product of the blocks of the arguments. -/
theorem block (t : Fin cfg0.N) (A0 : S4096x256.Idx → EReal) (A1 : S4096x2048.Idx → EReal) (r : Fin 256) (j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S256x2048.Idx → EReal) := by
  refine (dats m 0 c).arrAt_eq_of_covers 2 (G (m ((c : Thread nD τ).loc main_arg0)) (m ((c : Thread nD τ).loc main_arg1)) : S256x2048.Idx → EReal) (by decide +kernel) fun t hf y => ?_
  obtain ⟨r, j, rfl⟩ := eta2 (n := 256) (m := 1024) y
  show (dats m 0 c).after 2 t (ix2 r j) = _
  rw [after0_2, out_eq]
  exact block t _ _ r j

end Kernel

section Reference
open Cert.Reference19Ideal Cert.Reference19Ideal.Gen Cert.Reference19Ideal.Read

theorem ref_at (x0 : FVec Ideal S4096x256 .bf16) (x1 : FVec Ideal S4096x2048 .bf16) (i : Fin 256) (j : Fin 2048) :
    val_main_v5 (F := Ideal) x0 x1 (ix2 i j) = G x0 x1 (ix2 i j) := by
  pointwise [val_main_v5, val_main_v4, val_main_v1, val_main_v0]
  exact Finset.sum_congr rfl fun _ _ => mul_comm _ _

theorem ref (x0 : FVec Ideal S4096x256 .bf16) (x1 : FVec Ideal S4096x2048 .bf16) : val_main_v5 (F := Ideal) x0 x1 = G x0 x1 := by
  funext y
  obtain ⟨i, j, rfl⟩ := eta2 (n := 256) (m := 2048) y
  exact ref_at x0 x1 i j

end Reference

end Cert.MlaUqDw
end
-- ==== Proof.MlaUkvDw.lean ====
/-
  The gradient of the weights of MLA's projection up to the keys and values.
-/
module

public import proofs.«01_k».proof.Proof.MlpIndex
public import proofs.«01_k».proof.Proof.Gen.Kernel20Ideal.Value
public import proofs.«01_k».proof.Proof.Gen.Reference20Ideal.Run
public import proofs.«01_k».proof.Proof.Gen.Reference20Ideal.Read

@[expose] public section

set_option maxHeartbeats 400000
set_option maxRecDepth 16384

noncomputable section

namespace Cert.MlaUkvDw
open Idealize.ShloMosaic Idealize.ShloMosaic.TcCoe Idealize.SL.Sem
open Cert.Mlp

/-- What the product leaves in its result, from the arrays. -/
def G (x0 : (⟨2, ![4096, 256]⟩ : Shape).Idx → EReal) (x1 : (⟨2, ![4096, 3072]⟩ : Shape).Idx → EReal) : (⟨2, ![256, 3072]⟩ : Shape).Idx → EReal := fun i =>
  ∑ k : Fin 4096, x0 (ix2 k (i 0)) * x1 (ix2 k (i 1))

section Kernel
open Cert.Kernel20Ideal Cert.Kernel20Ideal.Gen

theorem pay (v0 : FVec Ideal S4096x256 .bf16) (v1 : FVec Ideal S4096x1024 .bf16) (r : Fin 256) (j : Fin 1024) :
    k0_pay1 (F := Ideal) v0 v1 (ix2 r j) = ∑ k : Fin 4096, v0 (ix2 k r) * v1 (ix2 k j) := by
  pointwise [k0_pay1]

theorem out_eq (v0 : FVec Ideal S4096x256 .bf16) (v1 : FVec Ideal S4096x1024 .bf16) :
    out0_2 (F := Ideal) v0 v1 = k0_pay1 (F := Ideal) v0 v1 := by
  unfold out0_2
  rw [View.canon_unit_zero (by decide), View.ld_unit_zero (by decide), View.ld_unit_zero (by decide)]

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![0, (grid0.coords t 1).val] := (by decide +kernel : ∀ t : Fin grid0.N, _)

theorem read_0 (t : Fin cfg0.N) (A : S4096x256.Idx → EReal) (y : S4096x256.Idx) : (win0_0.blk t).view.read (Elt Ideal) A y = A ((win0_0.blk t).view.emb y) := rfl
theorem read_1 (t : Fin cfg0.N) (A : S4096x3072.Idx → EReal) (y : S4096x1024.Idx) : (win0_1.blk t).view.read (Elt Ideal) A y = A ((win0_1.blk t).view.emb y) := rfl

/-- A block of the result is the product of the blocks of the arguments. -/
theorem block (t : Fin cfg0.N) (A0 : S4096x256.Idx → EReal) (A1 : S4096x3072.Idx → EReal) (r : Fin 256) (j : Fin 1024) :
    k0_pay1 (F := Ideal) ((win0_0.blk t).view.read (Elt Ideal) A0) ((win0_1.blk t).view.read (Elt Ideal) A1) (ix2 r j)
      = G A0 A1 ((win0_2.blk t).view.emb (ix2 r j)) := by
  rw [pay]
  unfold G
  refine Finset.sum_congr rfl fun k _ => congrArg₂ (· * ·) ?_ ?_
  · rw [read_0]
    refine at2 A0 ?_ ?_ <;> blk_simp [index_0, index_2] <;> (try dsimp only [Fin.val_mk, Fin.val_zero]) <;> (try omega)
  · rw [read_1]
    refine at2 A1 ?_ ?_ <;> blk_simp [index_1, index_2] <;> (try dsimp only [Fin.val_mk, Fin.val_zero]) <;> (try omega)

variable (m : (ℓ : Loc nD τ sig) → Buf (Elt Ideal) ℓ) (c : Dev nD)

theorem final : (dats m 0 c).arrAt 2 cfg0.N = (G (m ((c : Thread nD τ).loc main_arg0)) (m ((c : Thread nD τ).loc main_arg1)) : S256x3072.Idx → EReal) := by
  refine (dats m 0 c).arrAt_eq_of_covers 2 (G (m ((c : Thread nD τ).loc main_arg0)) (m ((c : Thread nD τ).loc main_arg1)) : S256x3072.Idx → EReal) (by decide +kernel) fun t hf y => ?_
  obtain ⟨r, j, rfl⟩ := eta2 (n := 256) (m := 1024) y
  show (dats m 0 c).after 2 t (ix2 r j) = _
  rw [after0_2, out_eq]
  exact block t _ _ r j

end Kernel

section Reference
open Cert.Reference20Ideal Cert.Reference20Ideal.Gen Cert.Reference20Ideal.Read

theorem ref_at (x0 : FVec Ideal S4096x256 .bf16) (x1 : FVec Ideal S4096x3072 .bf16) (i : Fin 256) (j : Fin 3072) :
    val_main_v5 (F := Ideal) x0 x1 (ix2 i j) = G x0 x1 (ix2 i j) := by
  pointwise [val_main_v5, val_main_v4, val_main_v1, val_main_v0]
  exact Finset.sum_congr rfl fun _ _ => mul_comm _ _

theorem ref (x0 : FVec Ideal S4096x256 .bf16) (x1 : FVec Ideal S4096x3072 .bf16) : val_main_v5 (F := Ideal) x0 x1 = G x0 x1 := by
  funext y
  obtain ⟨i, j, rfl⟩ := eta2 (n := 256) (m := 3072) y
  exact ref_at x0 x1 i j

end Reference

end Cert.MlaUkvDw
end
-- ==== Proof.MlaUqDx.lean ====
/-
  The gradient of the input of MLA's projection up to the queries: d_q · W_uqᵀ. The contracted axis is taken in two parts,
  which the kernel adds up from point to point.
-/
module

public import proofs.«01_k».proof.Proof.MlpIndex
public import proofs.«01_k».proof.Proof.Gen.Kernel21Ideal.Value
public import proofs.«01_k».proof.Proof.Gen.Reference21Ideal.Run
public import proofs.«01_k».proof.Proof.Gen.Reference21Ideal.Read

@[expose] public section

set_option maxHeartbeats 400000
set_option maxRecDepth 16384

noncomputable section

namespace Cert.MlaUqDx
open Idealize.ShloMosaic Idealize.ShloMosaic.TcCoe Idealize.SL.Sem
open Cert.Mlp

/-- The share of one part of the contracted axis in an element of the product. -/
def slice (x0 : (⟨2, ![4096, 2048]⟩ : Shape).Idx → EReal) (x1 : (⟨2, ![256, 2048]⟩ : Shape).Idx → EReal) (i : Fin 4096) (j : Fin 256) (b : Fin 2) : EReal :=
  ∑ k : Fin 1024, x0 (ix2 i ⟨1024 * b.val + k.val, by omega⟩) * x1 (ix2 j ⟨1024 * b.val + k.val, by omega⟩)

/-- What the call leaves in its result, from the arrays. -/
def G (x0 : (⟨2, ![4096, 2048]⟩ : Shape).Idx → EReal) (x1 : (⟨2, ![256, 2048]⟩ : Shape).Idx → EReal) : (⟨2, ![4096, 256]⟩ : Shape).Idx → EReal := fun i =>
  ∑ b : Fin 2, slice x0 x1 (i 0) (i 1) b

/-- A sum over the 2048 positions of the contracted axis, in its two parts. -/
theorem sum_halves (f : Fin 2048 → EReal) : ∑ k, f k = ∑ b : Fin 2, ∑ k : Fin 1024, f ⟨1024 * b.val + k.val, by omega⟩ := by
  rw [← (finProdFinEquiv (m := 2) (n := 1024)).sum_comp f, Fintype.sum_prod_type]
  refine Finset.sum_congr rfl fun b _ => Finset.sum_congr rfl fun k _ => congrArg f (Fin.ext ?_)
  exact Nat.add_comm _ _

section Kernel
open Cert.Kernel21Ideal Cert.Kernel21Ideal.Gen

/-- What one point adds to the accumulator. -/
def part (v0 : S1024x1024.Idx → EReal) (v1 : S256x1024.Idx → EReal) (r : Fin 1024) (j : Fin 256) : EReal := ∑ k : Fin 1024, v0 (ix2 r k) * v1 (ix2 j k)

/-- A sum of two extended reals. -/
def plus (a b : EReal) : EReal := a + b

theorem pay (v0 : FVec Ideal S1024x1024 .bf16) (v1 : FVec Ideal S256x1024 .bf16) (r : Fin 1024) (j : Fin 256) : k0_pay1 (F := Ideal) v0 v1 (ix2 r j) = part v0 v1 r j := by
  pointwise [k0_pay1]
  rfl

theorem pay_add (v0 : FVec Ideal S1024x1024 .bf16) (v1 : FVec Ideal S256x1024 .bf16) (v12 : FVec Ideal S1024x256 .f32) (r : Fin 1024) (j : Fin 256) :
    k0_pay3 (F := Ideal) v0 v1 v12 (ix2 r j) = plus (v12 (ix2 r j)) (part v0 v1 r j) := by
  unfold k0_pay3
  rw [shapeCast_self]
  exact congrArg (plus (v12 (ix2 r j))) (pay v0 v1 r j)

theorem pay_last (v12 : FVec Ideal S1024x256 .f32) (r : Fin 1024) (j : Fin 256) : k0_pay4 (F := Ideal) v12 (ix2 r j) = v12 (ix2 r j) := by
  pointwise [k0_pay4]

theorem ld_all (x : FVec Ideal S1024x1024 .bf16) (h) : View.ld (Val := Elt Ideal) (e' := .bf16) x (Rect.unit (s := S1024x1024) ![0, 0] ![1024, 1024] h) = x :=
  View.ld_unit_zero (Val := Elt Ideal) (e := .bf16) (S := S1024x1024) (by decide) h x

theorem ld_wts (x : FVec Ideal S256x1024 .bf16) (h) : View.ld (Val := Elt Ideal) (e' := .bf16) x (Rect.unit (s := S256x1024) ![0, 0] ![256, 1024] h) = x :=
  View.ld_unit_zero (Val := Elt Ideal) (e := .bf16) (S := S256x1024) (by decide) h x

theorem ld_acc (x : FVec Ideal S1024x256 .f32) (h) : View.ld (Val := Elt Ideal) (e' := .f32) x (Rect.unit (s := S1024x256) ![0, 0] ![1024, 256] h) = x :=
  View.ld_unit_zero (Val := Elt Ideal) (e := .f32) (S := S1024x256) (by decide) h x

section Cases
variable (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S1024x256 .bf16) (harg5 : arg5.IsWhole) (arg6 : Memref sig .tc .vmem S1024x256 .f32) (harg6 : arg6.IsWhole)
  (x0 : FVec Ideal S1024x1024 .bf16) (x1 : FVec Ideal S256x1024 .bf16) (xs : FVec Ideal S1024x256 .f32)

theorem caseA (hc0 : cond0_0 i) (hc1 : ¬cond0_1 i) (hc2 : ¬cond0_2 i) (r : Fin 1024) (j : Fin 256) :
    sout0_A_0 (F := Ideal) c i arg3 harg3 arg4 harg4 arg5 harg5 arg6 harg6 hc0 hc1 hc2 x0 x1 (ix2 r j) = part x0 x1 r j := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread]
  rw [View.canon_unit_zero (by decide)]
  unfold k0_pay2
  rw [shapeCast_self]
  refine (pay _ _ r j).trans ?_
  exact congrArg₂ (fun a b => part a b r j) (ld_all x0 _) (ld_wts x1 _)

theorem caseB (hc0 : ¬cond0_0 i) (hc1 : cond0_1 i) (hc2 : cond0_2 i) (r : Fin 1024) (j : Fin 256) :
    out0_B_2 (F := Ideal) c i arg3 harg3 arg4 harg4 arg5 harg5 arg6 harg6 hc0 hc1 hc2 x0 x1 xs (ix2 r j) = plus (xs (ix2 r j)) (part x0 x1 r j) := by
  unfold out0_B_2
  rw [View.read_writes_eq_canon _ _ _ (cover0_B_2 (F := Ideal) c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread]
  rw [View.canon_unit_zero (by decide)]
  refine (pay_last _ r j).trans ?_
  refine (congrFun (View.readCov_unit_zero (S := S1024x256) arg6.view (by decide) _ _) (ix2 r j)).trans ?_
  refine (pay_add _ _ _ r j).trans ?_
  exact congrArg₂ plus (congrFun (ld_acc xs _) (ix2 r j)) (congrArg₂ (fun a b => part a b r j) (ld_all x0 _) (ld_wts x1 _))

end Cases

theorem index_0 : ∀ t : Fin cfg0.N, win0_0.index t = ![(grid0.coords t 0).val, (grid0.coords t 2).val] := (by decide +kernel : ∀ t : Fin grid0.N, _)
theorem index_1 : ∀ t : Fin cfg0.N, win0_1.index t = ![0, (grid0.coords t 2).val] := (by decide +kernel : ∀ t : Fin grid0.N, _)
theorem index_2 : ∀ t : Fin cfg0.N, win0_2.index t = ![(grid0.coords t 0).val, 0] := (by decide +kernel : ∀ t : Fin grid0.N, _)
theorem coords_eq : ∀ t : Fin cfg0.N, (grid0.coords t 0).val = t.val / 2 ∧ (grid0.coords t 2).val = t.val % 2 := (by decide +kernel : ∀ t : Fin grid0.N, _)

theorem read_0 (t : Fin cfg0.N) (A : S4096x2048.Idx → EReal) (y : S1024x1024.Idx) : (win0_0.blk t).view.read (Elt Ideal) A y = A ((win0_0.blk t).view.emb y) := rfl
theorem read_1 (t : Fin cfg0.N) (A : S256x2048.Idx → EReal) (y : S256x1024.Idx) : (win0_1.blk t).view.read (Elt Ideal) A y = A ((win0_1.blk t).view.emb y) := rfl

/-- What a point adds, from the arrays. -/
theorem part_eq (t : Fin cfg0.N) (A0 : S4096x2048.Idx → EReal) (A1 : S256x2048.Idx → EReal) (r : Fin 1024) (j : Fin 256) (i : Fin 4096) (b : Fin 2)
    (hi : i.val = 1024 * (t.val / 2) + r.val) (hb : b.val = t.val % 2) :
    part ((win0_0.blk t).view.read (Elt Ideal) A0) ((win0_1.blk t).view.read (Elt Ideal) A1) r j = slice A0 A1 i j b := by
  obtain ⟨c0, c2⟩ := coords_eq t
  unfold part slice
  refine Finset.sum_congr rfl fun k _ => congrArg₂ (· * ·) ?_ ?_
  · rw [read_0]
    refine at2 A0 ?_ ?_ <;> blk_simp [index_0] <;> (try dsimp only [Fin.val_mk, Fin.val_zero]) <;> (try omega)
  · rw [read_1]
    refine at2 A1 ?_ ?_ <;> blk_simp [index_1] <;> (try dsimp only [Fin.val_mk, Fin.val_zero]) <;> (try omega)

variable (m : (ℓ : Loc nD τ sig) → Buf (Elt Ideal) ℓ) (c : Dev nD)

theorem first (t : Fin cfg0.N) (h0 : t.val % 2 = 0) (r : Fin 1024) (j : Fin 256) : (outsAt0 m c t.val t.isLt).2 (ix2 r j) = part (iblk m c 0 t) (iblk m c 1 t) r j := by
  have h1 : ¬t.val % 2 = 1 := by omega
  have h2 : ¬t.val % 2 = 1 := by omega
  have e := caseA c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h2 ((hcond0_2 t).mp h)) r j
  rw [outsAt0_A m c t h0 h1 h2]
  dsimp only
  exact e

theorem last (t : Fin cfg0.N) (h2 : t.val % 2 = 1) (r : Fin 1024) (j : Fin 256) :
    (outsAt0 m c t.val t.isLt).1 (ix2 r j) = plus ((outsAt0 m c (t.val - 1) (Nat.lt_of_le_of_lt (Nat.sub_le _ _) t.isLt)).2 (ix2 r j)) (part (iblk m c 0 t) (iblk m c 1 t) r j) := by
  have h0 : ¬t.val % 2 = 0 := by omega
  have h1 : t.val % 2 = 1 := by omega
  have e := caseB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2) r j
  rw [outsAt0_B m c t h0 h1 h2]
  dsimp only
  exact e

/-- What two points add up to: the two points' shares. -/
theorem two (t : Fin cfg0.N) (h3 : t.val % 2 = 1) (r : Fin 1024) (j : Fin 256) (i : Fin 4096) (hi : i.val = 1024 * (t.val / 2) + r.val) :
    plus ((outsAt0 m c (t.val - 1) (Nat.lt_of_le_of_lt (Nat.sub_le _ _) t.isLt)).2 (ix2 r j)) (part (iblk m c 0 t) (iblk m c 1 t) r j) = ∑ b : Fin 2, slice (m ((c : Thread nD τ).loc main_arg0)) (m ((c : Thread nD τ).loc main_arg1)) i j b := by
  have e2 := first m c ⟨t.val - 1, by omega⟩ (by (try dsimp only); omega) r j
  refine (congrArg (plus · _) e2).trans ?_
  rw [Fin.sum_univ_two]
  unfold plus
  refine congrArg₂ (· + ·) ?_ ?_
  · exact part_eq ⟨t.val - 1, by omega⟩ _ _ r j i 0 (by dsimp only; omega) (by dsimp only; omega)
  · exact part_eq t _ _ r j i 1 hi h3.symm

theorem final : (dats m 0 c).arrAt 2 cfg0.N = (G (m ((c : Thread nD τ).loc main_arg0)) (m ((c : Thread nD τ).loc main_arg1)) : S4096x256.Idx → EReal) := by
  refine (dats m 0 c).arrAt_eq_of_covers 2 (G (m ((c : Thread nD τ).loc main_arg0)) (m ((c : Thread nD τ).loc main_arg1)) : S4096x256.Idx → EReal) (by decide +kernel) fun t hf y => ?_
  obtain ⟨r, j, rfl⟩ := eta2 (n := 1024) (m := 256) y
  show (dats m 0 c).after 2 t (ix2 r j) = _
  rw [after0_2]
  have h3 : t.val % 2 = 1 := (flush0_2 t).mp hf
  have hN : t.val < 8 := lt_of_lt_of_eq t.isLt (show cfg0.N = 8 from N_0)
  obtain ⟨c0, c2⟩ := coords_eq t
  have e := two m c t h3 r j ⟨1024 * (t.val / 2) + r.val, by omega⟩ rfl
  refine (last m c t h3 r j).trans (e.trans ?_)
  refine (show ∑ b : Fin 2, slice (m ((c : Thread nD τ).loc main_arg0)) (m ((c : Thread nD τ).loc main_arg1)) ⟨1024 * (t.val / 2) + r.val, by omega⟩ j b = G (m ((c : Thread nD τ).loc main_arg0)) (m ((c : Thread nD τ).loc main_arg1)) (ix2 ⟨1024 * (t.val / 2) + r.val, by omega⟩ j) from rfl).trans ?_
  refine at2 (G (m ((c : Thread nD τ).loc main_arg0)) (m ((c : Thread nD τ).loc main_arg1))) ?_ ?_ <;> blk_simp [index_2] <;> (try dsimp only [Fin.val_mk, Fin.val_zero]) <;> (try omega)

end Kernel

section Reference
open Cert.Reference21Ideal Cert.Reference21Ideal.Gen Cert.Reference21Ideal.Read

theorem ref_at (x0 : FVec Ideal S4096x2048 .bf16) (x1 : FVec Ideal S256x2048 .bf16) (i : Fin 4096) (j : Fin 256) :
    val_main_v5 (F := Ideal) x0 x1 (ix2 i j) = G x0 x1 (ix2 i j) := by
  pointwise [val_main_v5, val_main_v4, val_main_v0, val_main_v1]
  exact sum_halves _

theorem ref (x0 : FVec Ideal S4096x2048 .bf16) (x1 : FVec Ideal S256x2048 .bf16) : val_main_v5 (F := Ideal) x0 x1 = G x0 x1 := by
  funext y
  obtain ⟨i, j, rfl⟩ := eta2 (n := 4096) (m := 256) y
  exact ref_at x0 x1 i j

end Reference

end Cert.MlaUqDx
end
-- ==== Proof.MlaUkvDx.lean ====
/-
  The gradient of the input of MLA's projection up to the keys and values: d_kv · W_ukvᵀ. The contracted axis is taken in three
  parts, which the kernel adds up from point to point.
-/
module

public import proofs.«01_k».proof.Proof.MlpIndex
public import proofs.«01_k».proof.Proof.Gen.Kernel22Ideal.Value
public import proofs.«01_k».proof.Proof.Gen.Reference22Ideal.Run
public import proofs.«01_k».proof.Proof.Gen.Reference22Ideal.Read

@[expose] public section

set_option maxHeartbeats 400000
set_option maxRecDepth 16384

noncomputable section

namespace Cert.MlaUkvDx
open Idealize.ShloMosaic Idealize.ShloMosaic.TcCoe Idealize.SL.Sem
open Cert.Mlp

/-- The share of one part of the contracted axis in an element of the product. -/
def slice (x0 : (⟨2, ![4096, 3072]⟩ : Shape).Idx → EReal) (x1 : (⟨2, ![256, 3072]⟩ : Shape).Idx → EReal) (i : Fin 4096) (j : Fin 256) (b : Fin 3) : EReal :=
  ∑ k : Fin 1024, x0 (ix2 i ⟨1024 * b.val + k.val, by omega⟩) * x1 (ix2 j ⟨1024 * b.val + k.val, by omega⟩)

/-- What the call leaves in its result, from the arrays. -/
def G (x0 : (⟨2, ![4096, 3072]⟩ : Shape).Idx → EReal) (x1 : (⟨2, ![256, 3072]⟩ : Shape).Idx → EReal) : (⟨2, ![4096, 256]⟩ : Shape).Idx → EReal := fun i =>
  ∑ b : Fin 3, slice x0 x1 (i 0) (i 1) b

/-- A sum over the 3072 positions of the contracted axis, in its three parts. -/
theorem sum_thirds (f : Fin 3072 → EReal) : ∑ k, f k = ∑ b : Fin 3, ∑ k : Fin 1024, f ⟨1024 * b.val + k.val, by omega⟩ := by
  rw [← (finProdFinEquiv (m := 3) (n := 1024)).sum_comp f, Fintype.sum_prod_type]
  refine Finset.sum_congr rfl fun b _ => Finset.sum_congr rfl fun k _ => congrArg f (Fin.ext ?_)
  exact Nat.add_comm _ _

section Kernel
open Cert.Kernel22Ideal Cert.Kernel22Ideal.Gen

/-- What one point adds to the accumulator. -/
def part (v0 : S1024x1024.Idx → EReal) (v1 : S256x1024.Idx → EReal) (r : Fin 1024) (j : Fin 256) : EReal := ∑ k : Fin 1024, v0 (ix2 r k) * v1 (ix2 j k)

/-- A sum of two extended reals. -/
def plus (a b : EReal) : EReal := a + b

theorem pay (v0 : FVec Ideal S1024x1024 .bf16) (v1 : FVec Ideal S256x1024 .bf16) (r : Fin 1024) (j : Fin 256) : k0_pay1 (F := Ideal) v0 v1 (ix2 r j) = part v0 v1 r j := by
  pointwise [k0_pay1]
  rfl

theorem pay_add (v0 : FVec Ideal S1024x1024 .bf16) (v1 : FVec Ideal S256x1024 .bf16) (v12 : FVec Ideal S1024x256 .f32) (r : Fin 1024) (j : Fin 256) :
    k0_pay3 (F := Ideal) v0 v1 v12 (ix2 r j) = plus (v12 (ix2 r j)) (part v0 v1 r j) := by
  unfold k0_pay3
  rw [shapeCast_self]
  exact congrArg (plus (v12 (ix2 r j))) (pay v0 v1 r j)

theorem pay_last (v12 : FVec Ideal S1024x256 .f32) (r : Fin 1024) (j : Fin 256) : k0_pay4 (F := Ideal) v12 (ix2 r j) = v12 (ix2 r j) := by
  pointwise [k0_pay4]

theorem ld_all (x : FVec Ideal S1024x1024 .bf16) (h) : View.ld (Val := Elt Ideal) (e' := .bf16) x (Rect.unit (s := S1024x1024) ![0, 0] ![1024, 1024] h) = x :=
  View.ld_unit_zero (Val := Elt Ideal) (e := .bf16) (S := S1024x1024) (by decide) h x

theorem ld_wts (x : FVec Ideal S256x1024 .bf16) (h) : View.ld (Val := Elt Ideal) (e' := .bf16) x (Rect.unit (s := S256x1024) ![0, 0] ![256, 1024] h) = x :=
  View.ld_unit_zero (Val := Elt Ideal) (e := .bf16) (S := S256x1024) (by decide) h x

theorem ld_acc (x : FVec Ideal S1024x256 .f32) (h) : View.ld (Val := Elt Ideal) (e' := .f32) x (Rect.unit (s := S1024x256) ![0, 0] ![1024, 256] h) = x :=
  View.ld_unit_zero (Val := Elt Ideal) (e := .f32) (S := S1024x256) (by decide) h x

section Cases
variable (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S1024x256 .bf16) (harg5 : arg5.IsWhole) (arg6 : Memref sig .tc .vmem S1024x256 .f32) (harg6 : arg6.IsWhole)
  (x0 : FVec Ideal S1024x1024 .bf16) (x1 : FVec Ideal S256x1024 .bf16) (xs : FVec Ideal S1024x256 .f32)

theorem caseA (hc0 : cond0_0 i) (hc1 : ¬cond0_1 i) (hc2 : ¬cond0_2 i) (r : Fin 1024) (j : Fin 256) :
    sout0_A_0 (F := Ideal) c i arg3 harg3 arg4 harg4 arg5 harg5 arg6 harg6 hc0 hc1 hc2 x0 x1 (ix2 r j) = part x0 x1 r j := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread]
  rw [View.canon_unit_zero (by decide)]
  unfold k0_pay2
  rw [shapeCast_self]
  refine (pay _ _ r j).trans ?_
  exact congrArg₂ (fun a b => part a b r j) (ld_all x0 _) (ld_wts x1 _)

theorem caseB (hc0 : ¬cond0_0 i) (hc1 : cond0_1 i) (hc2 : ¬cond0_2 i) (r : Fin 1024) (j : Fin 256) :
    sout0_B_0 (F := Ideal) c i arg3 harg3 arg4 harg4 arg5 harg5 arg6 harg6 hc0 hc1 hc2 x0 x1 xs (ix2 r j) = plus (xs (ix2 r j)) (part x0 x1 r j) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  simp only [View.readAt_eq_ld, harg3.read_unread, harg4.read_unread, harg6.read_unread]
  rw [View.canon_unit_zero (by decide)]
  refine (pay_add _ _ _ r j).trans ?_
  exact congrArg₂ plus (congrFun (ld_acc xs _) (ix2 r j)) (congrArg₂ (fun a b => part a b r j) (ld_all x0 _) (ld_wts x1 _))

theorem caseC (hc0 : ¬cond0_0 i) (hc1 : cond0_1 i) (hc2 : cond0_2 i) (r : Fin 1024) (j : Fin 256) :
    out0_C_2 (F := Ideal) c i arg3 harg3 arg4 harg4 arg5 harg5 arg6 harg6 hc0 hc1 hc2 x0 x1 xs (ix2 r j) = plus (xs (ix2 r j)) (part x0 x1 r j) := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  simp only [View.readAt_eq_ld, harg3.read_unread, harg4.read_unread, harg6.read_unread]
  rw [View.canon_unit_zero (by decide)]
  refine (pay_last _ r j).trans ?_
  refine (congrFun (View.readCov_unit_zero (S := S1024x256) arg6.view (by decide) _ _) (ix2 r j)).trans ?_
  refine (pay_add _ _ _ r j).trans ?_
  exact congrArg₂ plus (congrFun (ld_acc xs _) (ix2 r j)) (congrArg₂ (fun a b => part a b r j) (ld_all x0 _) (ld_wts x1 _))

end Cases

theorem index_0 : ∀ t : Fin cfg0.N, win0_0.index t = ![(grid0.coords t 0).val, (grid0.coords t 2).val] := (by decide +kernel : ∀ t : Fin grid0.N, _)
theorem index_1 : ∀ t : Fin cfg0.N, win0_1.index t = ![0, (grid0.coords t 2).val] := (by decide +kernel : ∀ t : Fin grid0.N, _)
theorem index_2 : ∀ t : Fin cfg0.N, win0_2.index t = ![(grid0.coords t 0).val, 0] := (by decide +kernel : ∀ t : Fin grid0.N, _)
theorem coords_eq : ∀ t : Fin cfg0.N, (grid0.coords t 0).val = t.val / 3 ∧ (grid0.coords t 2).val = t.val % 3 := (by decide +kernel : ∀ t : Fin grid0.N, _)

theorem read_0 (t : Fin cfg0.N) (A : S4096x3072.Idx → EReal) (y : S1024x1024.Idx) : (win0_0.blk t).view.read (Elt Ideal) A y = A ((win0_0.blk t).view.emb y) := rfl
theorem read_1 (t : Fin cfg0.N) (A : S256x3072.Idx → EReal) (y : S256x1024.Idx) : (win0_1.blk t).view.read (Elt Ideal) A y = A ((win0_1.blk t).view.emb y) := rfl

/-- What a point adds, from the arrays. -/
theorem part_eq (t : Fin cfg0.N) (A0 : S4096x3072.Idx → EReal) (A1 : S256x3072.Idx → EReal) (r : Fin 1024) (j : Fin 256) (i : Fin 4096) (b : Fin 3)
    (hi : i.val = 1024 * (t.val / 3) + r.val) (hb : b.val = t.val % 3) :
    part ((win0_0.blk t).view.read (Elt Ideal) A0) ((win0_1.blk t).view.read (Elt Ideal) A1) r j = slice A0 A1 i j b := by
  obtain ⟨c0, c2⟩ := coords_eq t
  unfold part slice
  refine Finset.sum_congr rfl fun k _ => congrArg₂ (· * ·) ?_ ?_
  · rw [read_0]
    refine at2 A0 ?_ ?_ <;> blk_simp [index_0] <;> (try dsimp only [Fin.val_mk, Fin.val_zero]) <;> (try omega)
  · rw [read_1]
    refine at2 A1 ?_ ?_ <;> blk_simp [index_1] <;> (try dsimp only [Fin.val_mk, Fin.val_zero]) <;> (try omega)

variable (m : (ℓ : Loc nD τ sig) → Buf (Elt Ideal) ℓ) (c : Dev nD)

theorem first (t : Fin cfg0.N) (h0 : t.val % 3 = 0) (r : Fin 1024) (j : Fin 256) : (outsAt0 m c t.val t.isLt).2 (ix2 r j) = part (iblk m c 0 t) (iblk m c 1 t) r j := by
  have h1 : ¬1 ≤ t.val % 3 := by omega
  have h2 : ¬t.val % 3 = 2 := by omega
  have e := caseA c (grid0.coords t) (ms0_0 t) (hs0_0 t) (ms0_1 t) (hs0_1 t) (ms0_2 t) (hs0_2 t) scM0_0 (Memref.isWhole_whole _) (iblk m c 0 t) (iblk m c 1 t) ((hcond0_0 t).mpr h0) (fun h => h1 ((hcond0_1 t).mp h)) (fun h => h2 ((hcond0_2 t).mp h)) r j
  rw [outsAt0_A m c t h0 h1 h2]
  dsimp only
  exact e

theorem next (t : Fin cfg0.N) (h0 : ¬t.val % 3 = 0) (h2 : ¬t.val % 3 = 2) (r : Fin 1024) (j : Fin 256) :
    (outsAt0 m c t.val t.isLt).2 (ix2 r j) = plus ((outsAt0 m c (t.val - 1) (Nat.lt_of_le_of_lt (Nat.sub_le _ _) t.isLt)).2 (ix2 r j)) (part (iblk m c 0 t) (iblk m c 1 t) r j) := by
  have h1 : 1 ≤ t.val % 3 := by omega
  have e := caseB c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) (fun h => h2 ((hcond0_2 t).mp h)) r j
  rw [outsAt0_B m c t h0 h1 h2]
  dsimp only
  exact e

theorem last (t : Fin cfg0.N) (h2 : t.val % 3 = 2) (r : Fin 1024) (j : Fin 256) :
    (outsAt0 m c t.val t.isLt).1 (ix2 r j) = plus ((outsAt0 m c (t.val - 1) (Nat.lt_of_le_of_lt (Nat.sub_le _ _) t.isLt)).2 (ix2 r j)) (part (iblk m c 0 t) (iblk m c 1 t) r j) := by
  have h0 : ¬t.val % 3 = 0 := by omega
  have h1 : 1 ≤ t.val % 3 := by omega
  have e := caseC c (grid0.coords t) (ms0_0 t) (hs0_0 t) (ms0_1 t) (hs0_1 t) (ms0_2 t) (hs0_2 t) scM0_0 (Memref.isWhole_whole _) (iblk m c 0 t) (iblk m c 1 t) (outsAt0 m c (t.val - 1) (Nat.lt_of_le_of_lt (Nat.sub_le _ _) t.isLt)).2 (fun h => h0 ((hcond0_0 t).mp h)) ((hcond0_1 t).mpr h1) ((hcond0_2 t).mpr h2) r j
  rw [outsAt0_C m c t h0 h1 h2]
  dsimp only
  exact e

/-- What three points add up to: the three points' shares. -/
theorem three (t : Fin cfg0.N) (h3 : t.val % 3 = 2) (r : Fin 1024) (j : Fin 256) (i : Fin 4096) (hi : i.val = 1024 * (t.val / 3) + r.val) :
    plus ((outsAt0 m c (t.val - 1) (Nat.lt_of_le_of_lt (Nat.sub_le _ _) t.isLt)).2 (ix2 r j)) (part (iblk m c 0 t) (iblk m c 1 t) r j) = ∑ b : Fin 3, slice (m ((c : Thread nD τ).loc main_arg0)) (m ((c : Thread nD τ).loc main_arg1)) i j b := by
  have e2 := next m c ⟨t.val - 1, by omega⟩ (by (try dsimp only); omega) (by (try dsimp only); omega) r j
  have e3 := first m c ⟨t.val - 1 - 1, by omega⟩ (by (try dsimp only); omega) r j
  refine (congrArg (plus · _) (e2.trans (congrArg (plus · _) e3))).trans ?_
  rw [Fin.sum_univ_three]
  unfold plus
  refine congrArg₂ (· + ·) (congrArg₂ (· + ·) ?_ ?_) ?_
  · exact part_eq ⟨t.val - 1 - 1, by omega⟩ _ _ r j i 0 (by dsimp only; omega) (by dsimp only; omega)
  · exact part_eq ⟨t.val - 1, by omega⟩ _ _ r j i 1 (by dsimp only; omega) (by dsimp only; omega)
  · exact part_eq t _ _ r j i 2 hi h3.symm

theorem final : (dats m 0 c).arrAt 2 cfg0.N = (G (m ((c : Thread nD τ).loc main_arg0)) (m ((c : Thread nD τ).loc main_arg1)) : S4096x256.Idx → EReal) := by
  refine (dats m 0 c).arrAt_eq_of_covers 2 (G (m ((c : Thread nD τ).loc main_arg0)) (m ((c : Thread nD τ).loc main_arg1)) : S4096x256.Idx → EReal) (by decide +kernel) fun t hf y => ?_
  obtain ⟨r, j, rfl⟩ := eta2 (n := 1024) (m := 256) y
  show (dats m 0 c).after 2 t (ix2 r j) = _
  rw [after0_2]
  have h3 : t.val % 3 = 2 := (flush0_2 t).mp hf
  have hN : t.val < 12 := lt_of_lt_of_eq t.isLt (show cfg0.N = 12 from N_0)
  obtain ⟨c0, c2⟩ := coords_eq t
  have e := three m c t h3 r j ⟨1024 * (t.val / 3) + r.val, by omega⟩ rfl
  refine (last m c t h3 r j).trans (e.trans ?_)
  refine (show ∑ b : Fin 3, slice (m ((c : Thread nD τ).loc main_arg0)) (m ((c : Thread nD τ).loc main_arg1)) ⟨1024 * (t.val / 3) + r.val, by omega⟩ j b = G (m ((c : Thread nD τ).loc main_arg0)) (m ((c : Thread nD τ).loc main_arg1)) (ix2 ⟨1024 * (t.val / 3) + r.val, by omega⟩ j) from rfl).trans ?_
  refine at2 (G (m ((c : Thread nD τ).loc main_arg0)) (m ((c : Thread nD τ).loc main_arg1))) ?_ ?_ <;> blk_simp [index_2] <;> (try dsimp only [Fin.val_mk, Fin.val_zero]) <;> (try omega)

end Kernel

section Reference
open Cert.Reference22Ideal Cert.Reference22Ideal.Gen Cert.Reference22Ideal.Read

theorem ref_at (x0 : FVec Ideal S4096x3072 .bf16) (x1 : FVec Ideal S256x3072 .bf16) (i : Fin 4096) (j : Fin 256) :
    val_main_v5 (F := Ideal) x0 x1 (ix2 i j) = G x0 x1 (ix2 i j) := by
  pointwise [val_main_v5, val_main_v4, val_main_v0, val_main_v1]
  exact sum_thirds _

theorem ref (x0 : FVec Ideal S4096x3072 .bf16) (x1 : FVec Ideal S256x3072 .bf16) : val_main_v5 (F := Ideal) x0 x1 = G x0 x1 := by
  funext y
  obtain ⟨i, j, rfl⟩ := eta2 (n := 4096) (m := 256) y
  exact ref_at x0 x1 i j

end Reference

end Cert.MlaUkvDx
end
-- ==== Proof.ProjValues.lean ====
/-
  The value claims of the projections' products: each kernel and its reference end with the same results.
-/
module

public import proofs.«01_k».proof.Defs
public import proofs.«01_k».proof.Proof.Out
public import proofs.«01_k».proof.Proof.OutDx
public import proofs.«01_k».proof.Proof.OutDw
public import proofs.«01_k».proof.Proof.Qkv
public import proofs.«01_k».proof.Proof.QkvDx
public import proofs.«01_k».proof.Proof.QkvDw
public import proofs.«01_k».proof.Proof.MlaDown
public import proofs.«01_k».proof.Proof.MlaUq
public import proofs.«01_k».proof.Proof.MlaUkv
public import proofs.«01_k».proof.Proof.MlaDownDx
public import proofs.«01_k».proof.Proof.MlaDownDw
public import proofs.«01_k».proof.Proof.MlaUqDw
public import proofs.«01_k».proof.Proof.MlaUkvDw
public import proofs.«01_k».proof.Proof.MlaUqDx
public import proofs.«01_k».proof.Proof.MlaUkvDx
public import proofs.«01_k».proof.Proof.Gen.Kernel8Ideal
public import proofs.«01_k».proof.Proof.Gen.Reference8Ideal
public import proofs.«01_k».proof.Proof.Gen.Kernel9Ideal
public import proofs.«01_k».proof.Proof.Gen.Reference9Ideal
public import proofs.«01_k».proof.Proof.Gen.Kernel10Ideal
public import proofs.«01_k».proof.Proof.Gen.Reference10Ideal
public import proofs.«01_k».proof.Proof.Gen.Kernel11Ideal
public import proofs.«01_k».proof.Proof.Gen.Reference11Ideal
public import proofs.«01_k».proof.Proof.Gen.Kernel12Ideal
public import proofs.«01_k».proof.Proof.Gen.Reference12Ideal
public import proofs.«01_k».proof.Proof.Gen.Kernel13Ideal
public import proofs.«01_k».proof.Proof.Gen.Reference13Ideal
public import proofs.«01_k».proof.Proof.Gen.Kernel14Ideal
public import proofs.«01_k».proof.Proof.Gen.Reference14Ideal
public import proofs.«01_k».proof.Proof.Gen.Kernel15Ideal
public import proofs.«01_k».proof.Proof.Gen.Reference15Ideal
public import proofs.«01_k».proof.Proof.Gen.Kernel16Ideal
public import proofs.«01_k».proof.Proof.Gen.Reference16Ideal
public import proofs.«01_k».proof.Proof.Gen.Kernel17Ideal
public import proofs.«01_k».proof.Proof.Gen.Reference17Ideal
public import proofs.«01_k».proof.Proof.Gen.Kernel18Ideal
public import proofs.«01_k».proof.Proof.Gen.Reference18Ideal
public import proofs.«01_k».proof.Proof.Gen.Kernel19Ideal
public import proofs.«01_k».proof.Proof.Gen.Reference19Ideal
public import proofs.«01_k».proof.Proof.Gen.Kernel20Ideal
public import proofs.«01_k».proof.Proof.Gen.Reference20Ideal
public import proofs.«01_k».proof.Proof.Gen.Kernel21Ideal
public import proofs.«01_k».proof.Proof.Gen.Reference21Ideal
public import proofs.«01_k».proof.Proof.Gen.Kernel22Ideal
public import proofs.«01_k».proof.Proof.Gen.Reference22Ideal

@[expose] public section

set_option maxHeartbeats 400000
set_option maxRecDepth 16384

noncomputable section

namespace Cert.Proof
open Idealize.ShloMosaic Idealize.ShloMosaic.TcCoe Idealize.SL.Sem

/-- The kernel of an attention's output projection and its reference end with the same two arrays. -/
theorem algebraic8 : Cert.algebraic_Kernel8Ideal_Reference8Ideal := fun m ρ m' ρ' _ heq => by
  refine ⟨fun c => Cert.Out.G (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)),
    fun c => Cert.Out.P (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Out.final4 m c), (h c).2.1.trans (Cert.Out.final5 m c), (h c).2.2⟩)
      (Cert.Kernel8Ideal.Value.run_blocks (F := Ideal) m ρ)
  · refine (θ_run Cert.Reference8Ideal.defs _ _).mono (fun r h c => ?_) (Cert.Reference8Ideal.Value.run (F := Ideal) m' ρ')
    obtain ⟨hv, hw, hargs⟩ := h c
    obtain ⟨e0, e1, e2, e3⟩ := heq c
    refine ⟨hv.trans ((Cert.Reference8Ideal.Read.val_main_v7_eq _ _ _ _).trans ((Cert.Out.ref _ _ _ _).trans ?_)),
      hw.trans ((Cert.Reference8Ideal.Read.val_main_v8_eq _ _).trans ((Cert.Out.ref_P _ _).trans ?_)), hargs⟩
    · rw [e0, e1, e2, e3]
    · rw [e0, e1]

/-- The kernel of the gradient of the output projection's input and its reference end with the same array. -/
theorem algebraic9 : Cert.algebraic_Kernel9Ideal_Reference9Ideal := fun m ρ m' ρ' _ heq => by
  refine ⟨fun c => Cert.OutDx.G (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.OutDx.final m c), (h c).2⟩) (Cert.Kernel9Ideal.Value.run_blocks (F := Ideal) m ρ)
  · refine (θ_run Cert.Reference9Ideal.defs _ _).mono (fun r h c => ?_) (Cert.Reference9Ideal.Value.run (F := Ideal) m' ρ')
    obtain ⟨hv, hargs⟩ := h c
    obtain ⟨e0, e1⟩ := heq c
    refine ⟨hv.trans ((Cert.Reference9Ideal.Read.val_main_v5_eq _ _).trans ((Cert.OutDx.ref _ _).trans ?_)), hargs⟩
    rw [e0, e1]

/-- The kernel of the gradient of the output projection's weights and its reference end with the same array. -/
theorem algebraic10 : Cert.algebraic_Kernel10Ideal_Reference10Ideal := fun m ρ m' ρ' _ heq => by
  refine ⟨fun c => Cert.OutDw.G (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)), ?_, ?_⟩
  · exact (θ_run Cert.Kernel10Ideal.defs _ _).mono (fun r h c => ⟨(h c).1.trans (Cert.OutDw.final m c), (h c).2⟩) (Cert.Kernel10Ideal.Value.run_blocks (F := Ideal) m ρ)
  · refine (θ_run Cert.Reference10Ideal.defs _ _).mono (fun r h c => ?_) (Cert.Reference10Ideal.Value.run (F := Ideal) m' ρ')
    obtain ⟨hv, hargs⟩ := h c
    obtain ⟨e0, e1⟩ := heq c
    refine ⟨hv.trans ((Cert.Reference10Ideal.Read.val_main_v5_eq _ _).trans ((Cert.OutDw.ref _ _).trans ?_)), hargs⟩
    rw [e0, e1]

/-- The kernel of the forgetting attention's projection and its reference end with the same array. -/
theorem algebraic11 : Cert.algebraic_Kernel11Ideal_Reference11Ideal := fun m ρ m' ρ' _ heq => by
  refine ⟨fun c => Cert.Qkv.G (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)), ?_, ?_⟩
  · exact (θ_run Cert.Kernel11Ideal.defs _ _).mono (fun r h c => ⟨(h c).1.trans (Cert.Qkv.final m c), (h c).2⟩) (Cert.Kernel11Ideal.Value.run_blocks (F := Ideal) m ρ)
  · refine (θ_run Cert.Reference11Ideal.defs _ _).mono (fun r h c => ?_) (Cert.Reference11Ideal.Value.run (F := Ideal) m' ρ')
    obtain ⟨hv, hargs⟩ := h c
    obtain ⟨e0, e1⟩ := heq c
    refine ⟨hv.trans ((Cert.Reference11Ideal.Read.val_main_v3_eq _ _).trans ((Cert.Qkv.ref _ _).trans ?_)), hargs⟩
    rw [e0, e1]

/-- The kernel of the gradient of that projection's input and its reference end with the same array. -/
theorem algebraic12 : Cert.algebraic_Kernel12Ideal_Reference12Ideal := fun m ρ m' ρ' _ heq => by
  refine ⟨fun c => Cert.QkvDx.G (m ((c : Thread Cert.Kernel12Ideal.nD Cert.Kernel12Ideal.τ).loc Cert.Kernel12Ideal.main_arg0)) (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg2)), ?_, ?_⟩
  · exact (θ_run Cert.Kernel12Ideal.defs _ _).mono (fun r h c => ⟨(h c).1.trans (Cert.QkvDx.final m c), (h c).2⟩) (Cert.Kernel12Ideal.Value.run_blocks (F := Ideal) m ρ)
  · refine (θ_run Cert.Reference12Ideal.defs _ _).mono (fun r h c => ?_) (Cert.Reference12Ideal.Value.run (F := Ideal) m' ρ')
    obtain ⟨hv, hargs⟩ := h c
    obtain ⟨e0, e1, e2⟩ := heq c
    refine ⟨hv.trans ((Cert.Reference12Ideal.Read.val_main_v6_eq _ _ _).trans ((Cert.QkvDx.ref _ _ _).trans ?_)), hargs⟩
    rw [e0, e1, e2]

/-- The kernel of the gradient of that projection's weights and its reference end with the same array. -/
theorem algebraic13 : Cert.algebraic_Kernel13Ideal_Reference13Ideal := fun m ρ m' ρ' _ heq => by
  refine ⟨fun c => Cert.QkvDw.G (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)), ?_, ?_⟩
  · exact (θ_run Cert.Kernel13Ideal.defs _ _).mono (fun r h c => ⟨(h c).1.trans (Cert.QkvDw.final m c), (h c).2⟩) (Cert.Kernel13Ideal.Value.run_blocks (F := Ideal) m ρ)
  · refine (θ_run Cert.Reference13Ideal.defs _ _).mono (fun r h c => ?_) (Cert.Reference13Ideal.Value.run (F := Ideal) m' ρ')
    obtain ⟨hv, hargs⟩ := h c
    obtain ⟨e0, e1⟩ := heq c
    refine ⟨hv.trans ((Cert.Reference13Ideal.Read.val_main_v5_eq _ _).trans ((Cert.QkvDw.ref _ _).trans ?_)), hargs⟩
    rw [e0, e1]

/-- The kernel of  and its reference end with the same array. -/
theorem algebraic14 : Cert.algebraic_Kernel14Ideal_Reference14Ideal := fun m ρ m' ρ' _ heq => by
  refine ⟨fun c => Cert.MlaDown.G (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)), ?_, ?_⟩
  · exact (θ_run Cert.Kernel14Ideal.defs _ _).mono (fun r h c => ⟨(h c).1.trans (Cert.MlaDown.final m c), (h c).2⟩) (Cert.Kernel14Ideal.Value.run_blocks (F := Ideal) m ρ)
  · refine (θ_run Cert.Reference14Ideal.defs _ _).mono (fun r h c => ?_) (Cert.Reference14Ideal.Value.run (F := Ideal) m' ρ')
    obtain ⟨hv, hargs⟩ := h c
    obtain ⟨e0, e1⟩ := heq c
    refine ⟨hv.trans ((Cert.Reference14Ideal.Read.val_main_v2_eq _ _).trans ((Cert.MlaDown.ref _ _).trans ?_)), hargs⟩
    rw [e0, e1]

/-- The kernel of  and its reference end with the same array. -/
theorem algebraic15 : Cert.algebraic_Kernel15Ideal_Reference15Ideal := fun m ρ m' ρ' _ heq => by
  refine ⟨fun c => Cert.MlaUq.G (m ((c : Thread Cert.Kernel15Ideal.nD Cert.Kernel15Ideal.τ).loc Cert.Kernel15Ideal.main_arg0)) (m ((c : Thread Cert.Kernel15Ideal.nD Cert.Kernel15Ideal.τ).loc Cert.Kernel15Ideal.main_arg1)), ?_, ?_⟩
  · exact (θ_run Cert.Kernel15Ideal.defs _ _).mono (fun r h c => ⟨(h c).1.trans (Cert.MlaUq.final m c), (h c).2⟩) (Cert.Kernel15Ideal.Value.run_blocks (F := Ideal) m ρ)
  · refine (θ_run Cert.Reference15Ideal.defs _ _).mono (fun r h c => ?_) (Cert.Reference15Ideal.Value.run (F := Ideal) m' ρ')
    obtain ⟨hv, hargs⟩ := h c
    obtain ⟨e0, e1⟩ := heq c
    refine ⟨hv.trans ((Cert.Reference15Ideal.Read.val_main_v2_eq _ _).trans ((Cert.MlaUq.ref _ _).trans ?_)), hargs⟩
    rw [e0, e1]

/-- The kernel of  and its reference end with the same array. -/
theorem algebraic16 : Cert.algebraic_Kernel16Ideal_Reference16Ideal := fun m ρ m' ρ' _ heq => by
  refine ⟨fun c => Cert.MlaUkv.G (m ((c : Thread Cert.Kernel16Ideal.nD Cert.Kernel16Ideal.τ).loc Cert.Kernel16Ideal.main_arg0)) (m ((c : Thread Cert.Kernel16Ideal.nD Cert.Kernel16Ideal.τ).loc Cert.Kernel16Ideal.main_arg1)), ?_, ?_⟩
  · exact (θ_run Cert.Kernel16Ideal.defs _ _).mono (fun r h c => ⟨(h c).1.trans (Cert.MlaUkv.final m c), (h c).2⟩) (Cert.Kernel16Ideal.Value.run_blocks (F := Ideal) m ρ)
  · refine (θ_run Cert.Reference16Ideal.defs _ _).mono (fun r h c => ?_) (Cert.Reference16Ideal.Value.run (F := Ideal) m' ρ')
    obtain ⟨hv, hargs⟩ := h c
    obtain ⟨e0, e1⟩ := heq c
    refine ⟨hv.trans ((Cert.Reference16Ideal.Read.val_main_v3_eq _ _).trans ((Cert.MlaUkv.ref _ _).trans ?_)), hargs⟩
    rw [e0, e1]

/-- The kernel of  and its reference end with the same array. -/
theorem algebraic17 : Cert.algebraic_Kernel17Ideal_Reference17Ideal := fun m ρ m' ρ' _ heq => by
  refine ⟨fun c => Cert.MlaDownDx.G (m ((c : Thread Cert.Kernel17Ideal.nD Cert.Kernel17Ideal.τ).loc Cert.Kernel17Ideal.main_arg0)) (m ((c : Thread Cert.Kernel17Ideal.nD Cert.Kernel17Ideal.τ).loc Cert.Kernel17Ideal.main_arg1)), ?_, ?_⟩
  · exact (θ_run Cert.Kernel17Ideal.defs _ _).mono (fun r h c => ⟨(h c).1.trans (Cert.MlaDownDx.final m c), (h c).2⟩) (Cert.Kernel17Ideal.Value.run_blocks (F := Ideal) m ρ)
  · refine (θ_run Cert.Reference17Ideal.defs _ _).mono (fun r h c => ?_) (Cert.Reference17Ideal.Value.run (F := Ideal) m' ρ')
    obtain ⟨hv, hargs⟩ := h c
    obtain ⟨e0, e1⟩ := heq c
    refine ⟨hv.trans ((Cert.Reference17Ideal.Read.val_main_v5_eq _ _).trans ((Cert.MlaDownDx.ref _ _).trans ?_)), hargs⟩
    rw [e0, e1]

/-- The kernel of  and its reference end with the same array. -/
theorem algebraic18 : Cert.algebraic_Kernel18Ideal_Reference18Ideal := fun m ρ m' ρ' _ heq => by
  refine ⟨fun c => Cert.MlaDownDw.G (m ((c : Thread Cert.Kernel18Ideal.nD Cert.Kernel18Ideal.τ).loc Cert.Kernel18Ideal.main_arg0)) (m ((c : Thread Cert.Kernel18Ideal.nD Cert.Kernel18Ideal.τ).loc Cert.Kernel18Ideal.main_arg1)), ?_, ?_⟩
  · exact (θ_run Cert.Kernel18Ideal.defs _ _).mono (fun r h c => ⟨(h c).1.trans (Cert.MlaDownDw.final m c), (h c).2⟩) (Cert.Kernel18Ideal.Value.run_blocks (F := Ideal) m ρ)
  · refine (θ_run Cert.Reference18Ideal.defs _ _).mono (fun r h c => ?_) (Cert.Reference18Ideal.Value.run (F := Ideal) m' ρ')
    obtain ⟨hv, hargs⟩ := h c
    obtain ⟨e0, e1⟩ := heq c
    refine ⟨hv.trans ((Cert.Reference18Ideal.Read.val_main_v5_eq _ _).trans ((Cert.MlaDownDw.ref _ _).trans ?_)), hargs⟩
    rw [e0, e1]

/-- The kernel of  and its reference end with the same array. -/
theorem algebraic19 : Cert.algebraic_Kernel19Ideal_Reference19Ideal := fun m ρ m' ρ' _ heq => by
  refine ⟨fun c => Cert.MlaUqDw.G (m ((c : Thread Cert.Kernel19Ideal.nD Cert.Kernel19Ideal.τ).loc Cert.Kernel19Ideal.main_arg0)) (m ((c : Thread Cert.Kernel19Ideal.nD Cert.Kernel19Ideal.τ).loc Cert.Kernel19Ideal.main_arg1)), ?_, ?_⟩
  · exact (θ_run Cert.Kernel19Ideal.defs _ _).mono (fun r h c => ⟨(h c).1.trans (Cert.MlaUqDw.final m c), (h c).2⟩) (Cert.Kernel19Ideal.Value.run_blocks (F := Ideal) m ρ)
  · refine (θ_run Cert.Reference19Ideal.defs _ _).mono (fun r h c => ?_) (Cert.Reference19Ideal.Value.run (F := Ideal) m' ρ')
    obtain ⟨hv, hargs⟩ := h c
    obtain ⟨e0, e1⟩ := heq c
    refine ⟨hv.trans ((Cert.Reference19Ideal.Read.val_main_v5_eq _ _).trans ((Cert.MlaUqDw.ref _ _).trans ?_)), hargs⟩
    rw [e0, e1]

/-- The kernel of  and its reference end with the same array. -/
theorem algebraic20 : Cert.algebraic_Kernel20Ideal_Reference20Ideal := fun m ρ m' ρ' _ heq => by
  refine ⟨fun c => Cert.MlaUkvDw.G (m ((c : Thread Cert.Kernel20Ideal.nD Cert.Kernel20Ideal.τ).loc Cert.Kernel20Ideal.main_arg0)) (m ((c : Thread Cert.Kernel20Ideal.nD Cert.Kernel20Ideal.τ).loc Cert.Kernel20Ideal.main_arg1)), ?_, ?_⟩
  · exact (θ_run Cert.Kernel20Ideal.defs _ _).mono (fun r h c => ⟨(h c).1.trans (Cert.MlaUkvDw.final m c), (h c).2⟩) (Cert.Kernel20Ideal.Value.run_blocks (F := Ideal) m ρ)
  · refine (θ_run Cert.Reference20Ideal.defs _ _).mono (fun r h c => ?_) (Cert.Reference20Ideal.Value.run (F := Ideal) m' ρ')
    obtain ⟨hv, hargs⟩ := h c
    obtain ⟨e0, e1⟩ := heq c
    refine ⟨hv.trans ((Cert.Reference20Ideal.Read.val_main_v5_eq _ _).trans ((Cert.MlaUkvDw.ref _ _).trans ?_)), hargs⟩
    rw [e0, e1]

/-- The kernel of  and its reference end with the same array. -/
theorem algebraic21 : Cert.algebraic_Kernel21Ideal_Reference21Ideal := fun m ρ m' ρ' _ heq => by
  refine ⟨fun c => Cert.MlaUqDx.G (m ((c : Thread Cert.Kernel21Ideal.nD Cert.Kernel21Ideal.τ).loc Cert.Kernel21Ideal.main_arg0)) (m ((c : Thread Cert.Kernel21Ideal.nD Cert.Kernel21Ideal.τ).loc Cert.Kernel21Ideal.main_arg1)), ?_, ?_⟩
  · exact (θ_run Cert.Kernel21Ideal.defs _ _).mono (fun r h c => ⟨(h c).1.trans (Cert.MlaUqDx.final m c), (h c).2⟩) (Cert.Kernel21Ideal.Value.run_blocks (F := Ideal) m ρ)
  · refine (θ_run Cert.Reference21Ideal.defs _ _).mono (fun r h c => ?_) (Cert.Reference21Ideal.Value.run (F := Ideal) m' ρ')
    obtain ⟨hv, hargs⟩ := h c
    obtain ⟨e0, e1⟩ := heq c
    refine ⟨hv.trans ((Cert.Reference21Ideal.Read.val_main_v5_eq _ _).trans ((Cert.MlaUqDx.ref _ _).trans ?_)), hargs⟩
    rw [e0, e1]

/-- The kernel of  and its reference end with the same array. -/
theorem algebraic22 : Cert.algebraic_Kernel22Ideal_Reference22Ideal := fun m ρ m' ρ' _ heq => by
  refine ⟨fun c => Cert.MlaUkvDx.G (m ((c : Thread Cert.Kernel22Ideal.nD Cert.Kernel22Ideal.τ).loc Cert.Kernel22Ideal.main_arg0)) (m ((c : Thread Cert.Kernel22Ideal.nD Cert.Kernel22Ideal.τ).loc Cert.Kernel22Ideal.main_arg1)), ?_, ?_⟩
  · exact (θ_run Cert.Kernel22Ideal.defs _ _).mono (fun r h c => ⟨(h c).1.trans (Cert.MlaUkvDx.final m c), (h c).2⟩) (Cert.Kernel22Ideal.Value.run_blocks (F := Ideal) m ρ)
  · refine (θ_run Cert.Reference22Ideal.defs _ _).mono (fun r h c => ?_) (Cert.Reference22Ideal.Value.run (F := Ideal) m' ρ')
    obtain ⟨hv, hargs⟩ := h c
    obtain ⟨e0, e1⟩ := heq c
    refine ⟨hv.trans ((Cert.Reference22Ideal.Read.val_main_v5_eq _ _).trans ((Cert.MlaUkvDx.ref _ _).trans ?_)), hargs⟩
    rw [e0, e1]

end Cert.Proof

end
-- ==== Proof.lean ====
/-
  The claims about the backward pass of the MLA attention and about the products of the MLP and of the projections. The attention kernel's run and its
  value are in the modules below, its reference's run is read off its host operations; the products' claims come from
  MlpFrames, MlpValues, ProjFrames and ProjValues.
-/
module

public import proofs.«01_k».proof.Defs
public import proofs.«01_k».proof.Proof.Launch
public import proofs.«01_k».proof.Proof.Frames
public import proofs.«01_k».proof.Proof.Array
public import proofs.«01_k».proof.Proof.Ref
public import proofs.«01_k».proof.Proof.Finite
public import proofs.«01_k».proof.Proof.MlpFrames
public import proofs.«01_k».proof.Proof.MlpValues
public import proofs.«01_k».proof.Proof.ProjFrames
public import proofs.«01_k».proof.Proof.ProjValues
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Adequacy
public import Idealize.ShloMosaic.Init

@[expose] public section

noncomputable section

namespace Cert.Proof

open Idealize.ShloMosaic Idealize.ShloMosaic.TcCoe Idealize.SL.Sem

theorem frame_kernelIdeal : Cert.quiescent_KernelIdeal := fun m ρ _ => Cert.KernelIdeal.Hand.frame_main (F := Ideal) m ρ

theorem frame_kernelIdeal_pre : Cert.quiescent_KernelIdeal_pre_finite := fun m ρ _ => Cert.KernelIdeal.Hand.frame_main (F := Ideal) m ρ

/-- The reference runs and leaves its arguments; it declares no semaphore. -/
theorem frame_reference : Cert.quiescent_ReferenceIdeal := fun m ρ _ =>
  (θ_run Cert.ReferenceIdeal.defs _ _).mono (fun r h => ⟨fun c => ⟨(h c).2.2.2.1, (h c).2.2.2.2.1, (h c).2.2.2.2.2⟩,
    sem_eq_zero_of_no_sems (by decide) r.2⟩) (Cert.ReferenceIdeal.Value.run (F := Ideal) m ρ)

theorem frame_reference_pre : Cert.quiescent_ReferenceIdeal_pre_finite := fun m ρ _ => frame_reference m ρ trivial

section Value

open Cert.Attn Cert.KernelIdeal.Hand Cert.Pre_finite

variable (m : (ℓ : Loc Cert.KernelIdeal.nD Cert.KernelIdeal.τ Cert.KernelIdeal.sig) → Buf (Elt Ideal) ℓ) (c : Dev Cert.KernelIdeal.nD)

/-- The real matrices the arguments hold on a device. -/
def qOf : RF := realOf (n := 4096) (m := 2048) (m ((c.tc : Thread Cert.KernelIdeal.nD Cert.KernelIdeal.τ).loc Cert.KernelIdeal.main_arg0))
def kvOf : RF := realOf (n := 4096) (m := 3072) (m ((c.tc : Thread Cert.KernelIdeal.nD Cert.KernelIdeal.τ).loc Cert.KernelIdeal.main_arg1))
def gOf : RF := realOf (n := 4096) (m := 1024) (m ((c.tc : Thread Cert.KernelIdeal.nD Cert.KernelIdeal.τ).loc Cert.KernelIdeal.main_arg2))

theorem args_is (h : Cert.Pre_KernelIdeal_finite m) :
    Is (n := 4096) (m := 2048) (m ((c.tc : Thread Cert.KernelIdeal.nD Cert.KernelIdeal.τ).loc Cert.KernelIdeal.main_arg0)) (qOf m c)
    ∧ Is (n := 4096) (m := 3072) (m ((c.tc : Thread Cert.KernelIdeal.nD Cert.KernelIdeal.τ).loc Cert.KernelIdeal.main_arg1)) (kvOf m c)
    ∧ Is (n := 4096) (m := 1024) (m ((c.tc : Thread Cert.KernelIdeal.nD Cert.KernelIdeal.τ).loc Cert.KernelIdeal.main_arg2)) (gOf m c) :=
  finite (h c)

/-- The arrays the pipelined region finds hold the arguments, the attention's result and the logarithms of its row sums. -/
theorem found (h : Cert.Pre_KernelIdeal_finite m) :
    Is (n := 4096) (m := 2048) (Cert.KernelIdeal.Gen.V m c Cert.KernelIdeal.main_arg0) (qOf m c)
    ∧ Is (n := 4096) (m := 3072) (Cert.KernelIdeal.Gen.V m c Cert.KernelIdeal.main_arg1) (kvOf m c)
    ∧ Is (n := 4096) (m := 1024) (Cert.KernelIdeal.Gen.V m c Cert.KernelIdeal.main_arg2) (gOf m c)
    ∧ Is (n := 4096) (m := 1024) (Cert.KernelIdeal.Gen.V m c Cert.KernelIdeal.main_v33) (oA (qOf m c) (kvOf m c))
    ∧ Is (n := 4096) (m := 1024) (Cert.KernelIdeal.Gen.V m c Cert.KernelIdeal.main_v34) (lA (qOf m c) (kvOf m c)) := by
  obtain ⟨h0, h1, h2⟩ := args_is m c h
  rw [Cert.KernelIdeal.Gen.V_main_arg0, Cert.KernelIdeal.Gen.V_main_arg1, Cert.KernelIdeal.Gen.V_main_arg2, V_v33, V_v34]
  exact ⟨h0, h1, h2, hO_is h0 h1, hLse_is h0 h1⟩

theorem final6 (h : Cert.Pre_KernelIdeal_finite m) :
    (dats m 0 c).arrAt 6 Cert.KernelIdeal.cfg0.N = (arr (dQ (qOf m c) (kvOf m c) (gOf m c)) : (⟨2, ![4096, 2048]⟩ : Shape).Idx → EReal) := by
  obtain ⟨h0, h1, h2, h3, h4⟩ := found m c h
  exact final_Q m c h0 h1 h2 h3 h4

theorem final7 (h : Cert.Pre_KernelIdeal_finite m) :
    (dats m 0 c).arrAt 7 Cert.KernelIdeal.cfg0.N = (arr (dK (qOf m c) (kvOf m c) (gOf m c)) : (⟨2, ![4096, 2048]⟩ : Shape).Idx → EReal) := by
  obtain ⟨h0, h1, h2, h3, h4⟩ := found m c h
  exact final_K m c h0 h1 h2 h3 h4

theorem final8 (h : Cert.Pre_KernelIdeal_finite m) :
    (dats m 0 c).arrAt 8 Cert.KernelIdeal.cfg0.N = (arr (dV (qOf m c) (kvOf m c) (gOf m c)) : (⟨2, ![4096, 1024]⟩ : Shape).Idx → EReal) := by
  obtain ⟨h0, h1, h2, h3, h4⟩ := found m c h
  exact final_V m c h0 h1 h2 h3 h4

end Value

/-- The reference's result 71, for arguments equal to the kernel's. -/
theorem ref71 (m : (ℓ : Loc Cert.KernelIdeal.nD Cert.KernelIdeal.τ Cert.KernelIdeal.sig) → Buf (Elt Ideal) ℓ) (c : Dev Cert.KernelIdeal.nD)
    (h : Cert.Pre_KernelIdeal_finite m) (x0 : FVec Ideal Cert.ReferenceIdeal.S4096x2048 .bf16) (x1 : FVec Ideal Cert.ReferenceIdeal.S4096x3072 .bf16) (x2 : FVec Ideal Cert.ReferenceIdeal.S4096x1024 .bf16)
    (e0 : x0 = m ((c.tc : Thread Cert.KernelIdeal.nD Cert.KernelIdeal.τ).loc Cert.KernelIdeal.main_arg0)) (e1 : x1 = m ((c.tc : Thread Cert.KernelIdeal.nD Cert.KernelIdeal.τ).loc Cert.KernelIdeal.main_arg1)) (e2 : x2 = m ((c.tc : Thread Cert.KernelIdeal.nD Cert.KernelIdeal.τ).loc Cert.KernelIdeal.main_arg2)) :
    Cert.ReferenceIdeal.Read.val_main_v71 (F := Ideal) x0 x1 x2 = (Cert.KernelIdeal.Hand.arr (n := 4096) (m := 2048) (Cert.Attn.dQ (qOf m c) (kvOf m c) (gOf m c))) := by
  obtain ⟨a0, a1, a2⟩ := args_is m c h
  rw [← e0] at a0
  rw [← e1] at a1
  rw [← e2] at a2
  exact Cert.KernelIdeal.Hand.Is.eq_arr (Cert.ReferenceIdeal.Hand.dq_is a0 a1 a2)

/-- The reference's result 73, for arguments equal to the kernel's. -/
theorem ref73 (m : (ℓ : Loc Cert.KernelIdeal.nD Cert.KernelIdeal.τ Cert.KernelIdeal.sig) → Buf (Elt Ideal) ℓ) (c : Dev Cert.KernelIdeal.nD)
    (h : Cert.Pre_KernelIdeal_finite m) (x0 : FVec Ideal Cert.ReferenceIdeal.S4096x2048 .bf16) (x1 : FVec Ideal Cert.ReferenceIdeal.S4096x3072 .bf16) (x2 : FVec Ideal Cert.ReferenceIdeal.S4096x1024 .bf16)
    (e0 : x0 = m ((c.tc : Thread Cert.KernelIdeal.nD Cert.KernelIdeal.τ).loc Cert.KernelIdeal.main_arg0)) (e1 : x1 = m ((c.tc : Thread Cert.KernelIdeal.nD Cert.KernelIdeal.τ).loc Cert.KernelIdeal.main_arg1)) (e2 : x2 = m ((c.tc : Thread Cert.KernelIdeal.nD Cert.KernelIdeal.τ).loc Cert.KernelIdeal.main_arg2)) :
    Cert.ReferenceIdeal.Read.val_main_v73 (F := Ideal) x0 x1 x2 = (Cert.KernelIdeal.Hand.arr (n := 4096) (m := 2048) (Cert.Attn.dK (qOf m c) (kvOf m c) (gOf m c))) := by
  obtain ⟨a0, a1, a2⟩ := args_is m c h
  rw [← e0] at a0
  rw [← e1] at a1
  rw [← e2] at a2
  exact Cert.KernelIdeal.Hand.Is.eq_arr (Cert.ReferenceIdeal.Hand.dk_is a0 a1 a2)

/-- The reference's result 75, for arguments equal to the kernel's. -/
theorem ref75 (m : (ℓ : Loc Cert.KernelIdeal.nD Cert.KernelIdeal.τ Cert.KernelIdeal.sig) → Buf (Elt Ideal) ℓ) (c : Dev Cert.KernelIdeal.nD)
    (h : Cert.Pre_KernelIdeal_finite m) (x0 : FVec Ideal Cert.ReferenceIdeal.S4096x2048 .bf16) (x1 : FVec Ideal Cert.ReferenceIdeal.S4096x3072 .bf16) (x2 : FVec Ideal Cert.ReferenceIdeal.S4096x1024 .bf16)
    (e0 : x0 = m ((c.tc : Thread Cert.KernelIdeal.nD Cert.KernelIdeal.τ).loc Cert.KernelIdeal.main_arg0)) (e1 : x1 = m ((c.tc : Thread Cert.KernelIdeal.nD Cert.KernelIdeal.τ).loc Cert.KernelIdeal.main_arg1)) (e2 : x2 = m ((c.tc : Thread Cert.KernelIdeal.nD Cert.KernelIdeal.τ).loc Cert.KernelIdeal.main_arg2)) :
    Cert.ReferenceIdeal.Read.val_main_v75 (F := Ideal) x0 x1 x2 = (Cert.KernelIdeal.Hand.arr (n := 4096) (m := 1024) (Cert.Attn.dV (qOf m c) (kvOf m c) (gOf m c))) := by
  obtain ⟨a0, a1, a2⟩ := args_is m c h
  rw [← e0] at a0
  rw [← e1] at a1
  rw [← e2] at a2
  exact Cert.KernelIdeal.Hand.Is.eq_arr (Cert.ReferenceIdeal.Hand.dv_is a0 a1 a2)

/-- The kernel and the derivative of the plain attention end with the same three gradients. -/
theorem algebraic : Cert.algebraic_KernelIdeal_ReferenceIdeal_pre_finite := fun m ρ m' ρ' hpre heq => by
  refine ⟨fun c => (Cert.KernelIdeal.Hand.arr (n := 4096) (m := 2048) (Cert.Attn.dQ (qOf m c) (kvOf m c) (gOf m c))),
    fun c => (Cert.KernelIdeal.Hand.arr (n := 4096) (m := 2048) (Cert.Attn.dK (qOf m c) (kvOf m c) (gOf m c))),
    fun c => (Cert.KernelIdeal.Hand.arr (n := 4096) (m := 1024) (Cert.Attn.dV (qOf m c) (kvOf m c) (gOf m c))), ?_, ?_⟩
  · exact (θ_run Cert.KernelIdeal.defs _ _).mono (fun r h c => ⟨((h.1 c).1 6).trans (final6 m c hpre), ((h.1 c).1 7).trans (final7 m c hpre),
      ((h.1 c).1 8).trans (final8 m c hpre),
      ((h.1 c).1 0).trans (((Cert.KernelIdeal.Hand.dats m 0 c).arrAt_in 0 rfl _).trans ((Cert.KernelIdeal.Hand.A_eq m c 0).trans (Cert.KernelIdeal.Gen.V_main_arg0 m c))),
      ((h.1 c).1 2).trans (((Cert.KernelIdeal.Hand.dats m 0 c).arrAt_in 2 rfl _).trans ((Cert.KernelIdeal.Hand.A_eq m c 2).trans (Cert.KernelIdeal.Gen.V_main_arg1 m c))),
      ((h.1 c).1 4).trans (((Cert.KernelIdeal.Hand.dats m 0 c).arrAt_in 4 rfl _).trans ((Cert.KernelIdeal.Hand.A_eq m c 4).trans (Cert.KernelIdeal.Gen.V_main_arg2 m c)))⟩)
      (Cert.KernelIdeal.Hand.run_main m ρ)
  · refine (θ_run Cert.ReferenceIdeal.defs _ _).mono (fun r h c => ?_) (Cert.ReferenceIdeal.Value.run (F := Ideal) m' ρ')
    obtain ⟨h71, h73, h75, hargs⟩ := h c
    obtain ⟨e0, e1, e2⟩ := heq c
    exact ⟨h71.trans ((Cert.ReferenceIdeal.Read.val_main_v71_eq m' c).trans (ref71 m c hpre _ _ _ e0 e1 e2)),
      h73.trans ((Cert.ReferenceIdeal.Read.val_main_v73_eq m' c).trans (ref73 m c hpre _ _ _ e0 e1 e2)),
      h75.trans ((Cert.ReferenceIdeal.Read.val_main_v75_eq m' c).trans (ref75 m c hpre _ _ _ e0 e1 e2)), hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.Gen.facts,
  frame_kernel, frame_kernelIdeal, frame_kernelIdeal_pre, frame_reference, frame_reference_pre,
  frame_kernel2, frame_kernel2Ideal, frame_reference2,
  frame_kernel3, frame_kernel3Ideal, frame_reference3,
  frame_kernel4, frame_kernel4Ideal, frame_reference4,
  frame_kernel5, frame_kernel5Ideal, frame_reference5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  frame_kernel11, frame_kernel11Ideal, frame_reference11,
  frame_kernel12, frame_kernel12Ideal, frame_reference12,
  frame_kernel13, frame_kernel13Ideal, frame_reference13,
  frame_kernel14, frame_kernel14Ideal, frame_reference14,
  frame_kernel15, frame_kernel15Ideal, frame_reference15,
  frame_kernel16, frame_kernel16Ideal, frame_reference16,
  frame_kernel17, frame_kernel17Ideal, frame_reference17,
  frame_kernel18, frame_kernel18Ideal, frame_reference18,
  frame_kernel19, frame_kernel19Ideal, frame_reference19,
  frame_kernel20, frame_kernel20Ideal, frame_reference20,
  frame_kernel21, frame_kernel21Ideal, frame_reference21,
  frame_kernel22, frame_kernel22Ideal, frame_reference22,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22⟩

end Cert.Proof

end
